-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_separated [hPre_scores_separated : Cert.Pre_scores_separated.Facts] (m : (ℓ : Loc Cert.KernelIdeal.nD Cert.KernelIdeal.τ Cert.KernelIdeal.sig) → Buf (Elt Ideal) ℓ) : Prop :=
  ∀ c : Dev Cert.KernelIdeal.nD,
    (Cert.Pre_scores_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_scores_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_separated [hPre_scores_separated : Cert.Pre_scores_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_scores_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_separated [hKernelIdeal : Cert.KernelIdeal.Facts] [hPre_scores_separated : Cert.Pre_scores_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_separated [hReferenceIdeal : Cert.ReferenceIdeal.Facts] [hPre_scores_separated : Cert.Pre_scores_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_separated [hKernelIdeal : Cert.KernelIdeal.Facts] [hReferenceIdeal : Cert.ReferenceIdeal.Facts] [hPre_scores_separated : Cert.Pre_scores_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_separated : Cert.Pre_scores_separated.Facts),
    quiescent_Kernel (hKernel := hKernel)
    ∧ quiescent_KernelIdeal (hKernelIdeal := hKernelIdeal)
    ∧ quiescent_KernelIdeal_pre_scores_separated (hKernelIdeal := hKernelIdeal) (hPre_scores_separated := hPre_scores_separated)
    ∧ quiescent_ReferenceIdeal (hReferenceIdeal := hReferenceIdeal)
    ∧ quiescent_ReferenceIdeal_pre_scores_separated (hReferenceIdeal := hReferenceIdeal) (hPre_scores_separated := hPre_scores_separated)
    ∧ preserves_Kernel_KernelIdeal
    ∧ algebraic_KernelIdeal_ReferenceIdeal_pre_scores_separated (hKernelIdeal := hKernelIdeal) (hReferenceIdeal := hReferenceIdeal) (hPre_scores_separated := hPre_scores_separated)
-- ==== Pre_scores_separated.lean ====
abbrev S2x20000 : Shape := ⟨2, ![2, 20000]⟩
abbrev S2x20000x4 : Shape := ⟨3, ![2, 20000, 4]⟩
abbrev S20000x4 : Shape := ⟨2, ![20000, 4]⟩
abbrev S2x2049 : Shape := ⟨2, ![2, 2049]⟩
abbrev S_ : Shape := ⟨0, ![]⟩
abbrev S2 : Shape := ⟨1, ![2]⟩
abbrev S2x1 : Shape := ⟨2, ![2, 1]⟩

class Facts : Prop where
  sliceFits_S2x20000_S2x2049 : S2x20000.Slices (fun _ => 0) S2x2049
  reducesTo_S2x20000_S2_d1 : S2x20000.ReducesTo [1] S2
  h_S_ : 0 < S_.numel
  bcast_S_S2 : S_.BroadcastsInDim S2 (![] : Fin 0 → Fin S2.rank)
  bcast_S_S2x20000 : S_.BroadcastsInDim S2x20000 (![] : Fin 0 → Fin S2x20000.rank)
  slices_S2x2049_S2x1_0_1999 : S2x2049.Slices ![0, 1999] S2x1
  shapeCasts_S2x1_S2 : S2x1.ShapeCasts S2
  slices_S2x2049_S2x1_0_2048 : S2x2049.Slices ![0, 2048] S2x1

variable [Facts]

def fn_part1 {F : FTy → Type} [FloatOps F] (main_v8 : FVec F S2 .f32) (main_v11 : IVec S2x20000 1) (main_v13 : FVec F S2 .f32) (main_v15 : FVec F S2 .f32) : IVec S2x20000 1 × IVec S2 1 :=
  let main_v16 : FVec F S2 .f32 := subf main_v13 main_v15
  let main_v17 : IVec S2 1 := cmpf .oge main_v16 main_v8
  (main_v11, main_v17)

def fn {F : FTy → Type} [FloatOps F] (main_arg0 : FVec F S2x20000 .f32) (main_arg1 : FVec F S2x20000x4 .f32) (main_arg2 : FVec F S20000x4 .f32) : IVec S2x20000 1 × IVec S2 1 :=
  let main_values : FVec F S2x2049 .f32 := (fun x => (Host.topK S2x2049 1 (FloatOps.cmpfTotal .gt) x sliceFits_S2x20000_S2x2049).1) main_arg0
  let main_indices : IVec S2x2049 32 := (fun x => (Host.topK S2x2049 1 (FloatOps.cmpfTotal .gt) x sliceFits_S2x20000_S2x2049).2) main_arg0
  let main_cst : FVec F S_ .f32 := constant S_ .f32 0xFF800000#32
  let main_v0 : FVec F S2 .f32 := (fun x v => Host.reduce FloatOps.maximumf x v reducesTo_S2x20000_S2_d1 h_S_) main_arg0 main_cst
  let main_cst_0 : FVec F S_ .f32 := constant S_ .f32 0x7F800000#32
  let main_v1 : FVec F S2 .f32 := (fun x v => Host.reduce FloatOps.minimumf x v reducesTo_S2x20000_S2_d1 h_S_) main_arg0 main_cst_0
  let main_v2 : FVec F S2 .f32 := subf main_v0 main_v1
  let main_cst_1 : FVec F S_ .f32 := constant S_ .f32 0x3F800347#32
  let main_v3 : FVec F S2 .f32 := broadcastInDim S2 ![] bcast_S_S2 main_cst_1
  let main_v4 : FVec F S2 .f32 := mulf main_v2 main_v3
  let main_cst_2 : FVec F S_ .f32 := constant S_ .f32 0x3727C5AC#32
  let main_v5 : FVec F S2 .f32 := broadcastInDim S2 ![] bcast_S_S2 main_cst_2
  let main_v6 : FVec F S2 .f32 := addf main_v4 main_v5
  let main_cst_3 : FVec F S_ .f32 := constant S_ .f32 0x47800000#32
  let main_v7 : FVec F S2 .f32 := broadcastInDim S2 ![] bcast_S_S2 main_cst_3
  let main_v8 : FVec F S2 .f32 := Host.divf main_v6 main_v7
  let main_v9 : FVec F S2x20000 .f32 := Host.absf main_arg0
  let main_cst_4 : FVec F S_ .f32 := constant S_ .f32 0x7F800000#32
  let main_v10 : FVec F S2x20000 .f32 := broadcastInDim S2x20000 ![] bcast_S_S2x20000 main_cst_4
  let main_v11 : IVec S2x20000 1 := cmpf .olt main_v9 main_v10
  let main_v12 : FVec F S2x1 .f32 := (extractStridedSlice S2x1 ![0, 1999] · slices_S2x2049_S2x1_0_1999) main_values
  let main_v13 : FVec F S2 .f32 := shapeCast S2 main_v12 shapeCasts_S2x1_S2
  let main_v14 : FVec F S2x1 .f32 := (extractStridedSlice S2x1 ![0, 2048] · slices_S2x2049_S2x1_0_2048) main_values
  let main_v15 : FVec F S2 .f32 := shapeCast S2 main_v14 shapeCasts_S2x1_S2
  fn_part1 (F := F) main_v8 main_v11 main_v13 main_v15
-- ==== Kernel.lean ====
abbrev S2x20000 : Shape := ⟨2, ![2, 20000]⟩
abbrev S2x20000x4 : Shape := ⟨3, ![2, 20000, 4]⟩
abbrev S20000x4 : Shape := ⟨2, ![20000, 4]⟩
abbrev S_ : Shape := ⟨0, ![]⟩
abbrev S2x1x20480 : Shape := ⟨3, ![2, 1, 20480]⟩
abbrev S1 : Shape := ⟨1, ![1]⟩
abbrev S2 : Shape := ⟨1, ![2]⟩
abbrev S2x4x20480 : Shape := ⟨3, ![2, 4, 20480]⟩
abbrev S2x4x20000 : Shape := ⟨3, ![2, 4, 20000]⟩
abbrev S4x20480 : Shape := ⟨2, ![4, 20480]⟩
abbrev S4x20000 : Shape := ⟨2, ![4, 20000]⟩
abbrev S2x1000x4 : Shape := ⟨3, ![2, 1000, 4]⟩
abbrev S2x1x1000 : Shape := ⟨3, ![2, 1, 1000]⟩
abbrev S1x1x20480 : Shape := ⟨3, ![1, 1, 20480]⟩
abbrev S1x4x20480 : Shape := ⟨3, ![1, 4, 20480]⟩
abbrev S1x1000x4 : Shape := ⟨3, ![1, 1000, 4]⟩
abbrev S1x1x1000 : Shape := ⟨3, ![1, 1, 1000]⟩
abbrev S512x512 : Shape := ⟨2, ![512, 512]⟩
abbrev S2048x2048 : Shape := ⟨2, ![2048, 2048]⟩
abbrev S1x20480 : Shape := ⟨2, ![1, 20480]⟩
abbrev S512x1 : Shape := ⟨2, ![512, 1]⟩
abbrev S1x512 : Shape := ⟨2, ![1, 512]⟩
abbrev S1x1x1 : Shape := ⟨3, ![1, 1, 1]⟩
abbrev S256x1 : Shape := ⟨2, ![256, 1]⟩
abbrev S1024x1 : Shape := ⟨2, ![1024, 1]⟩
abbrev S1x1x1024 : Shape := ⟨3, ![1, 1, 1024]⟩
abbrev S1x1024 : Shape := ⟨2, ![1, 1024]⟩
abbrev S256x1024 : Shape := ⟨2, ![256, 1024]⟩
abbrev S1x256x1 : Shape := ⟨3, ![1, 256, 1]⟩
abbrev S2048x1 : Shape := ⟨2, ![2048, 1]⟩
abbrev S10x2048 : Shape := ⟨2, ![10, 2048]⟩
abbrev S1x1x512 : Shape := ⟨3, ![1, 1, 512]⟩
abbrev S2048x512 : Shape := ⟨2, ![2048, 512]⟩
abbrev S1x4x512 : Shape := ⟨3, ![1, 4, 512]⟩
abbrev S4x512 : Shape := ⟨2, ![4, 512]⟩
abbrev S10x512 : Shape := ⟨2, ![10, 512]⟩
abbrev S1x2048 : Shape := ⟨2, ![1, 2048]⟩
abbrev S128x1 : Shape := ⟨2, ![128, 1]⟩
abbrev S128x2048 : Shape := ⟨2, ![128, 2048]⟩
abbrev S2x2048 : Shape := ⟨2, ![2, 2048]⟩
abbrev S128x2 : Shape := ⟨2, ![128, 2]⟩
abbrev S2048 : Shape := ⟨1, ![2048]⟩
abbrev S6x2048 : Shape := ⟨2, ![6, 2048]⟩
abbrev S128x6 : Shape := ⟨2, ![128, 6]⟩
abbrev S1x1x2048 : Shape := ⟨3, ![1, 1, 2048]⟩
abbrev S1x1 : Shape := ⟨2, ![1, 1]⟩
abbrev S1000x1 : Shape := ⟨2, ![1000, 1]⟩
abbrev S1000x2048 : Shape := ⟨2, ![1000, 2048]⟩
abbrev S1x1000 : Shape := ⟨2, ![1, 1000]⟩
abbrev S4x2048 : Shape := ⟨2, ![4, 2048]⟩
abbrev S1000x4 : Shape := ⟨2, ![1000, 4]⟩

abbrev nBuf : Space → Nat
  | .hbm => 25
  | .vmem => 11
  | .smem => 0
  | _ => 0

abbrev bufTy : (tb : Table) → Fin (tcTables nBuf tb) → BufTy
  | .hbm, ⟨0, _⟩ => ⟨S2x20000, .f32⟩
  | .hbm, ⟨1, _⟩ => ⟨S2x20000x4, .f32⟩
  | .hbm, ⟨2, _⟩ => ⟨S20000x4, .f32⟩
  | .hbm, ⟨3, _⟩ => ⟨S_, .f32⟩
  | .hbm, ⟨4, _⟩ => ⟨S2x1x20480, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S2, .i32⟩
  | .hbm, ⟨10, _⟩ => ⟨S2x1x20480, .f32⟩
  | .hbm, ⟨11, _⟩ => ⟨S_, .f32⟩
  | .hbm, ⟨12, _⟩ => ⟨S2x4x20480, .f32⟩
  | .hbm, ⟨13, _⟩ => ⟨S2x4x20000, .f32⟩
  | .hbm, ⟨14, _⟩ => ⟨S_, .i32⟩
  | .hbm, ⟨15, _⟩ => ⟨S1, .i32⟩
  | .hbm, ⟨16, _⟩ => ⟨S2x4x20480, .f32⟩
  | .hbm, ⟨17, _⟩ => ⟨S_, .f32⟩
  | .hbm, ⟨18, _⟩ => ⟨S4x20480, .f32⟩
  | .hbm, ⟨19, _⟩ => ⟨S4x20000, .f32⟩
  | .hbm, ⟨20, _⟩ => ⟨S_, .i32⟩
  | .hbm, ⟨21, _⟩ => ⟨S1, .i32⟩
  | .hbm, ⟨22, _⟩ => ⟨S4x20480, .f32⟩
  | .hbm, ⟨23, _⟩ => ⟨S2x1000x4, .f32⟩
  | .hbm, ⟨24, _⟩ => ⟨S2x1x1000, .f32⟩
  | .local _ .vmem, ⟨0, _⟩ => ⟨S1x1x20480, .f32⟩
  | .local _ .vmem, ⟨1, _⟩ => ⟨S1x1x20480, .f32⟩
  | .local _ .vmem, ⟨2, _⟩ => ⟨S1x4x20480, .f32⟩
  | .local _ .vmem, ⟨3, _⟩ => ⟨S1x4x20480, .f32⟩
  | .local _ .vmem, ⟨4, _⟩ => ⟨S4x20480, .f32⟩
  | .local _ .vmem, ⟨5, _⟩ => ⟨S1x1000x4, .f32⟩
  | .local _ .vmem, ⟨6, _⟩ => ⟨S1x1000x4, .f32⟩
  | .local _ .vmem, ⟨7, _⟩ => ⟨S1x1x1000, .f32⟩
  | .local _ .vmem, ⟨8, _⟩ => ⟨S1x1x1000, .f32⟩
  | .local _ .vmem, ⟨9, _⟩ => ⟨S512x512, .f32⟩
  | .local _ .vmem, ⟨10, _⟩ => ⟨S2048x2048, .f32⟩
  | _, _ => ⟨S2x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c2_i32 : BitVec 32 := 2#32
  let v31 : BitVec 32 := Scalar.addi c0_i32 c2_i32
  let c1_i32 : BitVec 32 := 1#32
  ⟨c0_i32, v31, c1_i32⟩
@[reducible] def k0_t2_loop : Scf.Loop 32 :=
  let c0_i32_246 : BitVec 32 := 0#32
  let c20_i32 : BitVec 32 := 20#32
  let v1178 : BitVec 32 := Scalar.addi c0_i32_246 c20_i32
  let c1_i32_247 : BitVec 32 := 1#32
  ⟨c0_i32_246, v1178, c1_i32_247⟩
def k0_mult1 (k0_t2 : Fin k0_t2_loop.trips) : BitVec 32 :=
  let c0_i32_246 : BitVec 32 := 0#32
  let c1_i32_247 : BitVec 32 := 1#32
  let arg11 : BitVec 32 := Scf.iv c0_i32_246 c1_i32_247 k0_t2
  let c1024_i32 : BitVec 32 := 1024#32
  let v1191 : BitVec 32 := Scalar.muli arg11 c1024_i32
  v1191
def k0_off1 (k0_t2 : Fin k0_t2_loop.trips) : Fin 3 → Nat :=
  let c0_252 : Index := 0#32
  let c0_253 : Index := 0#32
  let c0_i32_246 : BitVec 32 := 0#32
  let c1_i32_247 : BitVec 32 := 1#32
  let arg11 : BitVec 32 := Scf.iv c0_i32_246 c1_i32_247 k0_t2
  let c1024_i32 : BitVec 32 := 1024#32
  let v1191 : BitVec 32 := Scalar.muli arg11 c1024_i32
  let v1192 : BitVec 32 := v1191
  let v1193 : Index := Scalar.indexCast v1192
  ![0, 0, v1193.toNat]
@[reducible] def k0_t3_loop : Scf.Loop 32 :=
  let c0_i32_13 : BitVec 32 := 0#32
  let c40_i32 : BitVec 32 := 40#32
  let v37 : BitVec 32 := Scalar.addi c0_i32_13 c40_i32
  let c1_i32_14 : BitVec 32 := 1#32
  ⟨c0_i32_13, v37, c1_i32_14⟩
def k0_mult2 (k0_t3 : Fin k0_t3_loop.trips) : BitVec 32 :=
  let c0_i32_13 : BitVec 32 := 0#32
  let c1_i32_14 : BitVec 32 := 1#32
  let arg8 : BitVec 32 := Scf.iv c0_i32_13 c1_i32_14 k0_t3
  let c512_i32 : BitVec 32 := 512#32
  let v1169 : BitVec 32 := Scalar.muli arg8 c512_i32
  v1169
def k0_off2 (k0_t3 : Fin k0_t3_loop.trips) : Fin 3 → Nat :=
  let c0_243 : Index := 0#32
  let c0_244 : Index := 0#32
  let c0_i32_13 : BitVec 32 := 0#32
  let c1_i32_14 : BitVec 32 := 1#32
  let arg8 : BitVec 32 := Scf.iv c0_i32_13 c1_i32_14 k0_t3
  let c512_i32 : BitVec 32 := 512#32
  let v1169 : BitVec 32 := Scalar.muli arg8 c512_i32
  let v1170 : BitVec 32 := v1169
  let v1171 : Index := Scalar.indexCast v1170
  ![0, 0, v1171.toNat]
def k0_off3 (k0_t3 : Fin k0_t3_loop.trips) : Fin 3 → Nat :=
  let c0_251 : Index := 0#32
  let c0_252 : Index := 0#32
  let c0_i32_13 : BitVec 32 := 0#32
  let c1_i32_14 : BitVec 32 := 1#32
  let arg8 : BitVec 32 := Scf.iv c0_i32_13 c1_i32_14 k0_t3
  let c512_i32 : BitVec 32 := 512#32
  let v1169 : BitVec 32 := Scalar.muli arg8 c512_i32
  let v1170 : BitVec 32 := v1169
  let v1199 : Index := Scalar.indexCast v1170
  ![0, 0, v1199.toNat]
def k0_off4 (k0_t3 : Fin k0_t3_loop.trips) : Fin 2 → Nat :=
  let c0_253 : Index := 0#32
  let c0_i32_13 : BitVec 32 := 0#32
  let c1_i32_14 : BitVec 32 := 1#32
  let arg8 : BitVec 32 := Scf.iv c0_i32_13 c1_i32_14 k0_t3
  let c512_i32 : BitVec 32 := 512#32
  let v1169 : BitVec 32 := Scalar.muli arg8 c512_i32
  let v1170 : BitVec 32 := v1169
  let v1202 : Index := Scalar.indexCast v1170
  ![0, v1202.toNat]
@[reducible] def k0_t4_loop : Scf.Loop 32 :=
  let c0_i32_17 : BitVec 32 := 0#32
  let c16_i32 : BitVec 32 := 16#32
  let v46 : BitVec 32 := Scalar.addi c0_i32_17 c16_i32
  let c1_i32_18 : BitVec 32 := 1#32
  ⟨c0_i32_17, v46, c1_i32_18⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x20480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x20480 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x20480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x20000 : Shape := ⟨2, ![2, 20000]⟩
abbrev S2x20000x4 : Shape := ⟨3, ![2, 20000, 4]⟩
abbrev S20000x4 : Shape := ⟨2, ![20000, 4]⟩
abbrev S20000x1 : Shape := ⟨2, ![20000, 1]⟩
abbrev S20000 : Shape := ⟨1, ![20000]⟩
abbrev S_ : Shape := ⟨0, ![]⟩
abbrev S2x20000x1 : Shape := ⟨3, ![2, 20000, 1]⟩
abbrev S1x20000 : Shape := ⟨2, ![1, 20000]⟩
abbrev S2x2000 : Shape := ⟨2, ![2, 2000]⟩
abbrev S2x2000x1 : Shape := ⟨3, ![2, 2000, 1]⟩
abbrev S1 : Shape := ⟨1, ![1]⟩
abbrev S1x1x1 : Shape := ⟨3, ![1, 1, 1]⟩
abbrev S2x2000x4 : Shape := ⟨3, ![2, 2000, 4]⟩
abbrev S2x2000x2 : Shape := ⟨3, ![2, 2000, 2]⟩
abbrev S2x2000x1x2 : Shape := ⟨4, ![2, 2000, 1, 2]⟩
abbrev S2x1x2000x2 : Shape := ⟨4, ![2, 1, 2000, 2]⟩
abbrev S2x2000x2000x2 : Shape := ⟨4, ![2, 2000, 2000, 2]⟩
abbrev S2x2000x2000x1 : Shape := ⟨4, ![2, 2000, 2000, 1]⟩
abbrev S2x2000x2000 : Shape := ⟨3, ![2, 2000, 2000]⟩
abbrev S2x1x2000 : Shape := ⟨3, ![2, 1, 2000]⟩
abbrev S2000 : Shape := ⟨1, ![2000]⟩
abbrev S2x1 : Shape := ⟨2, ![2, 1]⟩
abbrev S1x2000 : Shape := ⟨2, ![1, 2000]⟩
abbrev S2x1000 : Shape := ⟨2, ![2, 1000]⟩
abbrev S2x1000x1 : Shape := ⟨3, ![2, 1000, 1]⟩
abbrev S2x1000x4 : Shape := ⟨3, ![2, 1000, 4]⟩
abbrev S2x1x1000 : Shape := ⟨3, ![2, 1, 1000]⟩

abbrev nBuf : Space → Nat
  | .hbm => 366
  | .vmem => 0
  | .smem => 0
  | _ => 0

abbrev hbmTy0_0 (i : Nat) : BufTy := match i % 128 with
  | 0 => ⟨S2x20000, .f32⟩
  | 1 => ⟨S2x20000x4, .f32⟩
  | 2 => ⟨S20000x4, .f32⟩
  | 3 => ⟨S20000x1, .f32⟩
  | 4 => ⟨S20000, .f32⟩
  | 5 => ⟨S20000x1, .f32⟩
  | 6 => ⟨S20000, .f32⟩
  | 7 => ⟨S20000, .f32⟩
  | 8 => ⟨S20000x1, .f32⟩
  | 9 => ⟨S20000, .f32⟩
  | 10 => ⟨S20000x1, .f32⟩
  | 11 => ⟨S20000, .f32⟩
  | 12 => ⟨S20000, .f32⟩
  | 13 => ⟨S20000x1, .f32⟩
  | 14 => ⟨S20000, .f32⟩
  | 15 => ⟨S_, .f32⟩
  | 16 => ⟨S20000, .f32⟩
  | 17 => ⟨S20000, .f32⟩
  | 18 => ⟨S20000, .f32⟩
  | 19 => ⟨S20000x1, .f32⟩
  | 20 => ⟨S20000, .f32⟩
  | 21 => ⟨S_, .f32⟩
  | 22 => ⟨S20000, .f32⟩
  | 23 => ⟨S20000, .f32⟩
  | 24 => ⟨S20000, .f32⟩
  | 25 => ⟨S2x20000x1, .f32⟩
  | 26 => ⟨S2x20000, .f32⟩
  | 27 => ⟨S2x20000x1, .f32⟩
  | 28 => ⟨S2x20000, .f32⟩
  | 29 => ⟨S2x20000x1, .f32⟩
  | 30 => ⟨S2x20000, .f32⟩
  | 31 => ⟨S_, .f32⟩
  | 32 => ⟨S2x20000, .f32⟩
  | 33 => ⟨S2x20000, .f32⟩
  | 34 => ⟨S2x20000x1, .f32⟩
  | 35 => ⟨S2x20000, .f32⟩
  | 36 => ⟨S_, .f32⟩
  | 37 => ⟨S2x20000, .f32⟩
  | 38 => ⟨S2x20000, .f32⟩
  | 39 => ⟨S1x20000, .f32⟩
  | 40 => ⟨S2x20000, .f32⟩
  | 41 => ⟨S2x20000, .f32⟩
  | 42 => ⟨S1x20000, .f32⟩
  | 43 => ⟨S2x20000, .f32⟩
  | 44 => ⟨S2x20000, .f32⟩
  | 45 => ⟨S1x20000, .f32⟩
  | 46 => ⟨S2x20000, .f32⟩
  | 47 => ⟨S2x20000, .f32⟩
  | 48 => ⟨S1x20000, .f32⟩
  | 49 => ⟨S2x20000, .f32⟩
  | 50 => ⟨S2x20000, .f32⟩
  | 51 => ⟨S2x20000, .f32⟩
  | 52 => ⟨S1x20000, .f32⟩
  | 53 => ⟨S2x20000, .f32⟩
  | 54 => ⟨S2x20000, .f32⟩
  | 55 => ⟨S2x20000, .f32⟩
  | 56 => ⟨S1x20000, .f32⟩
  | 57 => ⟨S2x20000, .f32⟩
  | 58 => ⟨S2x20000, .f32⟩
  | 59 => ⟨S_, .f32⟩
  | 60 => ⟨S2x20000, .f32⟩
  | 61 => ⟨S2x20000, .f32⟩
  | 62 => ⟨S2x20000, .f32⟩
  | 63 => ⟨S_, .f32⟩
  | 64 => ⟨S2x20000, .f32⟩
  | 65 => ⟨S2x20000, .f32⟩
  | 66 => ⟨S2x20000, .f32⟩
  | 67 => ⟨S_, .f32⟩
  | 68 => ⟨S2x20000, .f32⟩
  | 69 => ⟨S2x20000, .f32⟩
  | 70 => ⟨S2x20000, .f32⟩
  | 71 => ⟨S_, .f32⟩
  | 72 => ⟨S2x20000, .f32⟩
  | 73 => ⟨S2x20000, .f32⟩
  | 74 => ⟨S2x20000, .f32⟩
  | 75 => ⟨S2x20000x1, .f32⟩
  | 76 => ⟨S2x20000x1, .f32⟩
  | 77 => ⟨S2x20000x1, .f32⟩
  | 78 => ⟨S2x20000x1, .f32⟩
  | 79 => ⟨S2x20000x4, .f32⟩
  | 80 => ⟨S2x2000, .f32⟩
  | 81 => ⟨S2x2000, .i32⟩
  | 82 => ⟨S2x2000x1, .i32⟩
  | 83 => ⟨S_, .i32⟩
  | 84 => ⟨S2x2000x1, .i32⟩
  | 85 => ⟨S2x2000x1, .i1⟩
  | 86 => ⟨S_, .i32⟩
  | 87 => ⟨S2x2000x1, .i32⟩
  | 88 => ⟨S2x2000x1, .i32⟩
  | 89 => ⟨S2x2000x1, .i32⟩
  | 90 => ⟨S1, .i32⟩
  | 91 => ⟨S_, .i32⟩
  | 92 => ⟨S2x2000x1, .i32⟩
  | 93 => ⟨S2x2000x1, .i1⟩
  | 94 => ⟨S1x1x1, .i32⟩
  | 95 => ⟨S2x2000x1, .i32⟩
  | 96 => ⟨S2x2000x1, .i1⟩
  | 97 => ⟨S2x2000x1, .i1⟩
  | 98 => ⟨S_, .i1⟩
  | 99 => ⟨S2x2000, .i1⟩
  | 100 => ⟨S2x2000x4, .f32⟩
  | 101 => ⟨S2x2000x4, .i1⟩
  | 102 => ⟨S_, .f32⟩
  | 103 => ⟨S2x2000x4, .f32⟩
  | 104 => ⟨S2x2000x4, .f32⟩
  | 105 => ⟨S2x2000x1, .f32⟩
  | 106 => ⟨S2x2000, .f32⟩
  | 107 => ⟨S_, .f32⟩
  | 108 => ⟨S_, .f32⟩
  | 109 => ⟨S_, .f32⟩
  | 110 => ⟨S2x2000, .f32⟩
  | 111 => ⟨S2x2000, .f32⟩
  | 112 => ⟨S_, .f32⟩
  | 113 => ⟨S2x2000, .f32⟩
  | 114 => ⟨S2x2000, .f32⟩
  | 115 => ⟨S2x2000x1, .f32⟩
  | 116 => ⟨S2x2000, .f32⟩
  | 117 => ⟨S_, .f32⟩
  | 118 => ⟨S_, .f32⟩
  | 119 => ⟨S_, .f32⟩
  | 120 => ⟨S2x2000, .f32⟩
  | 121 => ⟨S2x2000, .f32⟩
  | 122 => ⟨S_, .f32⟩
  | 123 => ⟨S2x2000, .f32⟩
  | 124 => ⟨S2x2000, .f32⟩
  | 125 => ⟨S2x2000x1, .f32⟩
  | 126 => ⟨S2x2000, .f32⟩
  | 127 => ⟨S_, .f32⟩
  | _ => ⟨S2x20000, .f32⟩

abbrev hbmTy0_1 (i : Nat) : BufTy := match i % 128 with
  | 0 => ⟨S_, .f32⟩
  | 1 => ⟨S_, .f32⟩
  | 2 => ⟨S2x2000, .f32⟩
  | 3 => ⟨S2x2000, .f32⟩
  | 4 => ⟨S_, .f32⟩
  | 5 => ⟨S2x2000, .f32⟩
  | 6 => ⟨S2x2000, .f32⟩
  | 7 => ⟨S2x2000x1, .f32⟩
  | 8 => ⟨S2x2000, .f32⟩
  | 9 => ⟨S_, .f32⟩
  | 10 => ⟨S_, .f32⟩
  | 11 => ⟨S_, .f32⟩
  | 12 => ⟨S2x2000, .f32⟩
  | 13 => ⟨S2x2000, .f32⟩
  | 14 => ⟨S_, .f32⟩
  | 15 => ⟨S2x2000, .f32⟩
  | 16 => ⟨S2x2000, .f32⟩
  | 17 => ⟨S2x2000x1, .f32⟩
  | 18 => ⟨S2x2000x1, .f32⟩
  | 19 => ⟨S2x2000x1, .f32⟩
  | 20 => ⟨S2x2000x1, .f32⟩
  | 21 => ⟨S2x2000x4, .f32⟩
  | 22 => ⟨S2x2000x1, .f32⟩
  | 23 => ⟨S2x2000, .f32⟩
  | 24 => ⟨S2x2000x1, .f32⟩
  | 25 => ⟨S2x2000, .f32⟩
  | 26 => ⟨S2x2000, .f32⟩
  | 27 => ⟨S2x2000x1, .f32⟩
  | 28 => ⟨S2x2000, .f32⟩
  | 29 => ⟨S2x2000x1, .f32⟩
  | 30 => ⟨S2x2000, .f32⟩
  | 31 => ⟨S2x2000, .f32⟩
  | 32 => ⟨S_, .f32⟩
  | 33 => ⟨S2x2000, .f32⟩
  | 34 => ⟨S2x2000, .i1⟩
  | 35 => ⟨S_, .f32⟩
  | 36 => ⟨S2x2000, .f32⟩
  | 37 => ⟨S2x2000, .i1⟩
  | 38 => ⟨S2x2000, .i1⟩
  | 39 => ⟨S_, .f32⟩
  | 40 => ⟨S_, .f32⟩
  | 41 => ⟨S2x2000, .f32⟩
  | 42 => ⟨S2x2000, .f32⟩
  | 43 => ⟨S2x2000, .f32⟩
  | 44 => ⟨S2x2000, .i32⟩
  | 45 => ⟨S2x2000, .f32⟩
  | 46 => ⟨S2x2000, .i32⟩
  | 47 => ⟨S2x2000x1, .i32⟩
  | 48 => ⟨S_, .i32⟩
  | 49 => ⟨S2x2000x1, .i32⟩
  | 50 => ⟨S2x2000x1, .i1⟩
  | 51 => ⟨S_, .i32⟩
  | 52 => ⟨S2x2000x1, .i32⟩
  | 53 => ⟨S2x2000x1, .i32⟩
  | 54 => ⟨S2x2000x1, .i32⟩
  | 55 => ⟨S1, .i32⟩
  | 56 => ⟨S_, .i32⟩
  | 57 => ⟨S2x2000x1, .i32⟩
  | 58 => ⟨S2x2000x1, .i1⟩
  | 59 => ⟨S1x1x1, .i32⟩
  | 60 => ⟨S2x2000x1, .i32⟩
  | 61 => ⟨S2x2000x1, .i1⟩
  | 62 => ⟨S2x2000x1, .i1⟩
  | 63 => ⟨S_, .i1⟩
  | 64 => ⟨S2x2000, .i1⟩
  | 65 => ⟨S2x2000x4, .f32⟩
  | 66 => ⟨S2x2000x4, .i1⟩
  | 67 => ⟨S_, .f32⟩
  | 68 => ⟨S2x2000x4, .f32⟩
  | 69 => ⟨S2x2000x4, .f32⟩
  | 70 => ⟨S_, .i32⟩
  | 71 => ⟨S2x2000, .i32⟩
  | 72 => ⟨S2x2000, .i1⟩
  | 73 => ⟨S_, .i32⟩
  | 74 => ⟨S2x2000, .i32⟩
  | 75 => ⟨S2x2000, .i32⟩
  | 76 => ⟨S2x2000, .i32⟩
  | 77 => ⟨S2x2000x1, .i32⟩
  | 78 => ⟨S1, .i32⟩
  | 79 => ⟨S_, .i32⟩
  | 80 => ⟨S2x2000x1, .i32⟩
  | 81 => ⟨S2x2000x1, .i1⟩
  | 82 => ⟨S1x1x1, .i32⟩
  | 83 => ⟨S2x2000x1, .i32⟩
  | 84 => ⟨S2x2000x1, .i1⟩
  | 85 => ⟨S2x2000x1, .i1⟩
  | 86 => ⟨S_, .i1⟩
  | 87 => ⟨S2x2000, .i1⟩
  | 88 => ⟨S2x2000, .f32⟩
  | 89 => ⟨S_, .f32⟩
  | 90 => ⟨S2x2000, .f32⟩
  | 91 => ⟨S2x2000, .f32⟩
  | 92 => ⟨S2x2000x1, .f32⟩
  | 93 => ⟨S2x2000, .f32⟩
  | 94 => ⟨S2x2000x1, .f32⟩
  | 95 => ⟨S2x2000, .f32⟩
  | 96 => ⟨S2x2000, .f32⟩
  | 97 => ⟨S_, .f32⟩
  | 98 => ⟨S2x2000, .f32⟩
  | 99 => ⟨S2x2000, .f32⟩
  | 100 => ⟨S2x2000x1, .f32⟩
  | 101 => ⟨S2x2000, .f32⟩
  | 102 => ⟨S2x2000x1, .f32⟩
  | 103 => ⟨S2x2000, .f32⟩
  | 104 => ⟨S2x2000, .f32⟩
  | 105 => ⟨S_, .f32⟩
  | 106 => ⟨S2x2000, .f32⟩
  | 107 => ⟨S2x2000, .f32⟩
  | 108 => ⟨S2x2000, .f32⟩
  | 109 => ⟨S2x2000x2, .f32⟩
  | 110 => ⟨S2x2000x1x2, .f32⟩
  | 111 => ⟨S2x2000x2, .f32⟩
  | 112 => ⟨S2x1x2000x2, .f32⟩
  | 113 => ⟨S2x2000x2000x2, .f32⟩
  | 114 => ⟨S2x2000x2000x2, .f32⟩
  | 115 => ⟨S2x2000x2000x2, .f32⟩
  | 116 => ⟨S2x2000x2, .f32⟩
  | 117 => ⟨S2x2000x1x2, .f32⟩
  | 118 => ⟨S2x2000x2, .f32⟩
  | 119 => ⟨S2x1x2000x2, .f32⟩
  | 120 => ⟨S2x2000x2000x2, .f32⟩
  | 121 => ⟨S2x2000x2000x2, .f32⟩
  | 122 => ⟨S2x2000x2000x2, .f32⟩
  | 123 => ⟨S2x2000x2000x2, .f32⟩
  | 124 => ⟨S_, .f32⟩
  | 125 => ⟨S2x2000x2000x2, .f32⟩
  | 126 => ⟨S2x2000x2000x2, .f32⟩
  | 127 => ⟨S2x2000x2000x1, .f32⟩
  | _ => ⟨S2x20000, .f32⟩

abbrev hbmTy0_2 (i : Nat) : BufTy := match i % 128 with
  | 0 => ⟨S2x2000x2000, .f32⟩
  | 1 => ⟨S2x2000x2000x1, .f32⟩
  | 2 => ⟨S2x2000x2000, .f32⟩
  | 3 => ⟨S2x2000x2000, .f32⟩
  | 4 => ⟨S2x2000x1, .f32⟩
  | 5 => ⟨S2x1x2000, .f32⟩
  | 6 => ⟨S2x2000x2000, .f32⟩
  | 7 => ⟨S2x2000x2000, .f32⟩
  | 8 => ⟨S2x2000x2000, .f32⟩
  | 9 => ⟨S2x2000x2000, .f32⟩
  | 10 => ⟨S_, .f32⟩
  | 11 => ⟨S2x2000x2000, .f32⟩
  | 12 => ⟨S2x2000x2000, .f32⟩
  | 13 => ⟨S2x2000x2000, .f32⟩
  | 14 => ⟨S2000, .i32⟩
  | 15 => ⟨S_, .i1⟩
  | 16 => ⟨S2x2000, .i1⟩
  | 17 => ⟨S_, .i32⟩
  | 18 => ⟨S_, .i32⟩
  | 19 => ⟨S2x2000x2000, .f32⟩
  | 20 => ⟨S2000, .i32⟩
  | 21 => ⟨S_, .i32⟩
  | 22 => ⟨S_, .i32⟩
  | 23 => ⟨S2x2000, .i1⟩
  | 24 => ⟨S_, .i32⟩
  | 25 => ⟨S_, .i1⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S2x1x2000, .f32⟩
  | 37 => ⟨S2x2000, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S2x1, .i1⟩
  | 46 => ⟨S_, .f32⟩
  | 47 => ⟨S2x2000, .f32⟩
  | 48 => ⟨S2x2000, .i1⟩
  | 49 => ⟨S_, .i32⟩
  | 50 => ⟨S2000, .i32⟩
  | 51 => ⟨S2000, .i1⟩
  | 52 => ⟨S1x2000, .i1⟩
  | 53 => ⟨S2x2000, .i1⟩
  | 54 => ⟨S2x2000, .i1⟩
  | 55 => ⟨S2x2000, .i1⟩
  | 56 => ⟨S2x2000, .i1⟩
  | 57 => ⟨S2x2000, .i1⟩
  | 58 => ⟨S2x2000, .i1⟩
  | 59 => ⟨S_, .i32⟩
  | 60 => ⟨S_, .i32⟩
  | 61 => ⟨S2x2000, .f32⟩
  | 62 => ⟨S_, .f32⟩
  | 63 => ⟨S2x2000, .f32⟩
  | 64 => ⟨S2x2000, .i1⟩
  | 65 => ⟨S2x2000, .i1⟩
  | 66 => ⟨S_, .f32⟩
  | 67 => ⟨S_, .f32⟩
  | 68 => ⟨S2x2000, .f32⟩
  | 69 => ⟨S2x2000, .f32⟩
  | 70 => ⟨S2x1000, .f32⟩
  | 71 => ⟨S2x1000, .i32⟩
  | 72 => ⟨S2x1000x1, .i32⟩
  | 73 => ⟨S_, .i32⟩
  | 74 => ⟨S2x1000x1, .i32⟩
  | 75 => ⟨S2x1000x1, .i1⟩
  | 76 => ⟨S_, .i32⟩
  | 77 => ⟨S2x1000x1, .i32⟩
  | 78 => ⟨S2x1000x1, .i32⟩
  | 79 => ⟨S2x1000x1, .i32⟩
  | 80 => ⟨S1, .i32⟩
  | 81 => ⟨S_, .i32⟩
  | 82 => ⟨S2x1000x1, .i32⟩
  | 83 => ⟨S2x1000x1, .i1⟩
  | 84 => ⟨S1x1x1, .i32⟩
  | 85 => ⟨S2x1000x1, .i32⟩
  | 86 => ⟨S2x1000x1, .i1⟩
  | 87 => ⟨S2x1000x1, .i1⟩
  | 88 => ⟨S_, .i1⟩
  | 89 => ⟨S2x1000, .i1⟩
  | 90 => ⟨S2x1000x4, .f32⟩
  | 91 => ⟨S2x1000x4, .i1⟩
  | 92 => ⟨S_, .f32⟩
  | 93 => ⟨S2x1000x4, .f32⟩
  | 94 => ⟨S2x1000x4, .f32⟩
  | 95 => ⟨S2x1000, .f32⟩
  | 96 => ⟨S_, .f32⟩
  | 97 => ⟨S2x1000, .f32⟩
  | 98 => ⟨S2x1000, .i1⟩
  | 99 => ⟨S2x1000x1, .i1⟩
  | 100 => ⟨S_, .f32⟩
  | 101 => ⟨S_, .f32⟩
  | 102 => ⟨S2x1000x4, .i1⟩
  | 103 => ⟨S2x1000x4, .f32⟩
  | 104 => ⟨S2x1000x4, .f32⟩
  | 105 => ⟨S_, .f32⟩
  | 106 => ⟨S_, .f32⟩
  | 107 => ⟨S2x1000, .f32⟩
  | 108 => ⟨S2x1000, .f32⟩
  | 109 => ⟨S2x1x1000, .f32⟩
  | _ => ⟨S2x20000, .f32⟩

abbrev hbmTy (i : Nat) : BufTy := match i / 128 with
  | 0 => hbmTy0_0 i
  | 1 => hbmTy0_1 i
  | 2 => hbmTy0_2 i
  | _ => ⟨S2x20000, .f32⟩

abbrev bufTy : (tb : Table) → Fin (tcTables nBuf tb) → BufTy
  | .hbm, ⟨i, _⟩ => hbmTy i
  | _, _ => ⟨S2x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst_3 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_6 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_values : Ref sig .tc := ⟨.hbm, 80, rfl⟩
abbrev main_indices : Ref sig .tc := ⟨.hbm, 81, rfl⟩
abbrev main_v69 : Ref sig .tc := ⟨.hbm, 82, rfl⟩
abbrev main_call0_c : Ref sig .tc := ⟨.hbm, 83, rfl⟩
abbrev main_call0_v0 : Ref sig .tc := ⟨.hbm, 84, rfl⟩
abbrev main_call0_v1 : Ref sig .tc := ⟨.hbm, 85, rfl⟩
abbrev main_call0_c_0 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_c_1 : Ref sig .tc := ⟨.hbm, 90, rfl⟩
abbrev main_call0_c_2 : Ref sig .tc := ⟨.hbm, 91, rfl⟩
abbrev main_call0_v5 : Ref sig .tc := ⟨.hbm, 92, rfl⟩
abbrev main_call0_v6 : Ref sig .tc := ⟨.hbm, 93, rfl⟩
abbrev main_call0_v7 : Ref sig .tc := ⟨.hbm, 94, rfl⟩
abbrev main_call0_v8 : Ref sig .tc := ⟨.hbm, 95, rfl⟩
abbrev main_call0_v9 : Ref sig .tc := ⟨.hbm, 96, rfl⟩
abbrev main_call0_v10 : Ref sig .tc := ⟨.hbm, 97, rfl⟩
abbrev main_call0_c_3 : Ref sig .tc := ⟨.hbm, 98, rfl⟩
abbrev main_call0_v11 : Ref sig .tc := ⟨.hbm, 99, rfl⟩
abbrev main_call0_v12 : Ref sig .tc := ⟨.hbm, 100, rfl⟩
abbrev main_call0_v13 : Ref sig .tc := ⟨.hbm, 101, rfl⟩
abbrev main_call0_cst : Ref sig .tc := ⟨.hbm, 102, rfl⟩
abbrev main_call0_v14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_7 : Ref sig .tc := ⟨.hbm, 107, rfl⟩
abbrev main_cst_8 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_9 : Ref sig .tc := ⟨.hbm, 117, rfl⟩
abbrev main_cst_10 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_11 : Ref sig .tc := ⟨.hbm, 127, rfl⟩
abbrev main_cst_12 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_13 : Ref sig .tc := ⟨.hbm, 137, rfl⟩
abbrev main_cst_14 : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_cst_15 : Ref sig .tc := ⟨.hbm, 160, rfl⟩
abbrev main_v98 : Ref sig .tc := ⟨.hbm, 161, rfl⟩
abbrev main_v99 : Ref sig .tc := ⟨.hbm, 162, rfl⟩
abbrev main_cst_16 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_cst_17 : Ref sig .tc := ⟨.hbm, 167, rfl⟩
abbrev main_call5_v0 : Ref sig .tc := ⟨.hbm, 168, rfl⟩
abbrev main_call5_v1 : Ref sig .tc := ⟨.hbm, 169, rfl⟩
abbrev main_v103 : Ref sig .tc := ⟨.hbm, 170, rfl⟩
abbrev main_v104 : Ref sig .tc := ⟨.hbm, 171, rfl⟩
abbrev main_call6_v0 : Ref sig .tc := ⟨.hbm, 172, rfl⟩
abbrev main_call6_v1_0 : Ref sig .tc := ⟨.hbm, 173, rfl⟩
abbrev main_v105 : Ref sig .tc := ⟨.hbm, 174, rfl⟩
abbrev main_v106 : Ref sig .tc := ⟨.hbm, 175, rfl⟩
abbrev main_call7_c : Ref sig .tc := ⟨.hbm, 176, rfl⟩
abbrev main_call7_v0 : Ref sig .tc := ⟨.hbm, 177, rfl⟩
abbrev main_call7_v1 : Ref sig .tc := ⟨.hbm, 178, rfl⟩
abbrev main_call7_c_0 : Ref sig .tc := ⟨.hbm, 179, rfl⟩
abbrev main_call7_v2 : Ref sig .tc := ⟨.hbm, 180, rfl⟩
abbrev main_call7_v3 : Ref sig .tc := ⟨.hbm, 181, rfl⟩
abbrev main_call7_v4 : Ref sig .tc := ⟨.hbm, 182, rfl⟩
abbrev main_call7_c_1 : Ref sig .tc := ⟨.hbm, 183, rfl⟩
abbrev main_call7_c_2 : Ref sig .tc := ⟨.hbm, 184, rfl⟩
abbrev main_call7_v5 : Ref sig .tc := ⟨.hbm, 185, rfl⟩
abbrev main_call7_v6 : Ref sig .tc := ⟨.hbm, 186, rfl⟩
abbrev main_call7_v7 : Ref sig .tc := ⟨.hbm, 187, rfl⟩
abbrev main_call7_v8 : Ref sig .tc := ⟨.hbm, 188, rfl⟩
abbrev main_call7_v9 : Ref sig .tc := ⟨.hbm, 189, rfl⟩
abbrev main_call7_v10 : Ref sig .tc := ⟨.hbm, 190, rfl⟩
abbrev main_call7_c_3 : Ref sig .tc := ⟨.hbm, 191, rfl⟩
abbrev main_call7_v11 : Ref sig .tc := ⟨.hbm, 192, rfl⟩
abbrev main_call7_v12 : Ref sig .tc := ⟨.hbm, 193, rfl⟩
abbrev main_call7_v13 : Ref sig .tc := ⟨.hbm, 194, rfl⟩
abbrev main_call7_cst : Ref sig .tc := ⟨.hbm, 195, rfl⟩
abbrev main_call7_v14 : Ref sig .tc := ⟨.hbm, 196, rfl⟩
abbrev main_v107 : Ref sig .tc := ⟨.hbm, 197, rfl⟩
abbrev main_call8_c : Ref sig .tc := ⟨.hbm, 198, rfl⟩
abbrev main_call8_v0 : Ref sig .tc := ⟨.hbm, 199, rfl⟩
abbrev main_call8_v1 : Ref sig .tc := ⟨.hbm, 200, rfl⟩
abbrev main_call8_c_0 : Ref sig .tc := ⟨.hbm, 201, rfl⟩
abbrev main_call8_v2 : Ref sig .tc := ⟨.hbm, 202, rfl⟩
abbrev main_call8_v3 : Ref sig .tc := ⟨.hbm, 203, rfl⟩
abbrev main_call8_v4 : Ref sig .tc := ⟨.hbm, 204, rfl⟩
abbrev main_call8_v5 : Ref sig .tc := ⟨.hbm, 205, rfl⟩
abbrev main_call8_c_1 : Ref sig .tc := ⟨.hbm, 206, rfl⟩
abbrev main_call8_c_2 : Ref sig .tc := ⟨.hbm, 207, rfl⟩
abbrev main_call8_v6 : Ref sig .tc := ⟨.hbm, 208, rfl⟩
abbrev main_call8_v7 : Ref sig .tc := ⟨.hbm, 209, rfl⟩
abbrev main_call8_v8 : Ref sig .tc := ⟨.hbm, 210, rfl⟩
abbrev main_call8_v9 : Ref sig .tc := ⟨.hbm, 211, rfl⟩
abbrev main_call8_v10 : Ref sig .tc := ⟨.hbm, 212, rfl⟩
abbrev main_call8_v11 : Ref sig .tc := ⟨.hbm, 213, rfl⟩
abbrev main_call8_c_3 : Ref sig .tc := ⟨.hbm, 214, rfl⟩
abbrev main_call8_v12 : Ref sig .tc := ⟨.hbm, 215, rfl⟩
abbrev main_call8_v13 : Ref sig .tc := ⟨.hbm, 216, rfl⟩
abbrev main_call8_cst : Ref sig .tc := ⟨.hbm, 217, rfl⟩
abbrev main_call8_v14 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_cst_18 : Ref sig .tc := ⟨.hbm, 225, rfl⟩
abbrev main_v114 : Ref sig .tc := ⟨.hbm, 226, rfl⟩
abbrev main_v115 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_cst_19 : Ref sig .tc := ⟨.hbm, 233, rfl⟩
abbrev main_v121 : Ref sig .tc := ⟨.hbm, 234, rfl⟩
abbrev main_v122 : Ref sig .tc := ⟨.hbm, 235, rfl⟩
abbrev main_v123 : Ref sig .tc := ⟨.hbm, 236, rfl⟩
abbrev main_v124 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_v134 : Ref sig .tc := ⟨.hbm, 247, rfl⟩
abbrev main_v135 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_cst_20 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_cst_21 : Ref sig .tc := ⟨.hbm, 266, rfl⟩
abbrev main_v152 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_c : Ref sig .tc := ⟨.hbm, 271, rfl⟩
abbrev main_v156 : Ref sig .tc := ⟨.hbm, 272, rfl⟩
abbrev main_c_22 : Ref sig .tc := ⟨.hbm, 273, rfl⟩
abbrev main_c_23 : Ref sig .tc := ⟨.hbm, 274, rfl⟩
abbrev main_v157_0 : Ref sig .tc := ⟨.hbm, 275, rfl⟩
abbrev main_v157_1 : Ref sig .tc := ⟨.hbm, 276, rfl⟩
abbrev main_v157_2 : Ref sig .tc := ⟨.hbm, 277, rfl⟩
abbrev main_v157_3 : Ref sig .tc := ⟨.hbm, 278, rfl⟩
abbrev main_v157_4 : Ref sig .tc := ⟨.hbm, 279, rfl⟩
abbrev main_while0c_c_35 : Ref sig .tc := ⟨.hbm, 280, rfl⟩
abbrev main_while0c_v172 : Ref sig .tc := ⟨.hbm, 281, rfl⟩
abbrev main_while0b_c_35 : Ref sig .tc := ⟨.hbm, 282, rfl⟩
abbrev main_while0b_v172 : Ref sig .tc := ⟨.hbm, 283, rfl⟩
abbrev main_while0b_call9_c : Ref sig .tc := ⟨.hbm, 284, rfl⟩
abbrev main_while0b_call9_v0 : Ref sig .tc := ⟨.hbm, 285, rfl⟩
abbrev main_while0b_call9_v1 : Ref sig .tc := ⟨.hbm, 286, rfl⟩
abbrev main_while0b_call9_c_0 : Ref sig .tc := ⟨.hbm, 287, rfl⟩
abbrev main_while0b_call9_v2 : Ref sig .tc := ⟨.hbm, 288, rfl⟩
abbrev main_while0b_call9_v3 : Ref sig .tc := ⟨.hbm, 289, rfl⟩
abbrev main_while0b_call9_c_1 : Ref sig .tc := ⟨.hbm, 290, rfl⟩
abbrev main_while0b_call9_c_2 : Ref sig .tc := ⟨.hbm, 291, rfl⟩
abbrev main_while0b_call9_v4 : Ref sig .tc := ⟨.hbm, 292, rfl⟩
abbrev main_while0b_v173 : Ref sig .tc := ⟨.hbm, 293, rfl⟩
abbrev main_while0b_call10_c : Ref sig .tc := ⟨.hbm, 294, rfl⟩
abbrev main_while0b_call10_v0 : Ref sig .tc := ⟨.hbm, 295, rfl⟩
abbrev main_while0b_call10_v1 : Ref sig .tc := ⟨.hbm, 296, rfl⟩
abbrev main_while0b_call10_c_0 : Ref sig .tc := ⟨.hbm, 297, rfl⟩
abbrev main_while0b_call10_v2 : Ref sig .tc := ⟨.hbm, 298, rfl⟩
abbrev main_while0b_call10_v3 : Ref sig .tc := ⟨.hbm, 299, rfl⟩
abbrev main_while0b_call10_c_1 : Ref sig .tc := ⟨.hbm, 300, rfl⟩
abbrev main_while0b_v174 : Ref sig .tc := ⟨.hbm, 301, rfl⟩
abbrev main_while0b_cst_36 : Ref sig .tc := ⟨.hbm, 302, rfl⟩
abbrev main_while0b_v175 : Ref sig .tc := ⟨.hbm, 303, rfl⟩
abbrev main_while0b_v176 : Ref sig .tc := ⟨.hbm, 304, rfl⟩
abbrev main_while0b_v177 : Ref sig .tc := ⟨.hbm, 305, rfl⟩
abbrev main_while0b_v178 : Ref sig .tc := ⟨.hbm, 306, rfl⟩
abbrev main_while0b_v179 : Ref sig .tc := ⟨.hbm, 307, rfl⟩
abbrev main_while0b_v180 : Ref sig .tc := ⟨.hbm, 308, rfl⟩
abbrev main_while0b_v181 : Ref sig .tc := ⟨.hbm, 309, rfl⟩
abbrev main_while0b_v182 : Ref sig .tc := ⟨.hbm, 310, rfl⟩
abbrev main_while0b_v183 : Ref sig .tc := ⟨.hbm, 311, rfl⟩
abbrev main_while0b_v184 : Ref sig .tc := ⟨.hbm, 312, rfl⟩
abbrev main_while0b_v185 : Ref sig .tc := ⟨.hbm, 313, rfl⟩
abbrev main_while0b_v186 : Ref sig .tc := ⟨.hbm, 314, rfl⟩
abbrev main_while0b_c_37 : Ref sig .tc := ⟨.hbm, 315, rfl⟩
abbrev main_while0b_v187 : Ref sig .tc := ⟨.hbm, 316, rfl⟩
abbrev main_v158 : Ref sig .tc := ⟨.hbm, 317, rfl⟩
abbrev main_cst_24 : Ref sig .tc := ⟨.hbm, 318, rfl⟩
abbrev main_v159 : Ref sig .tc := ⟨.hbm, 319, rfl⟩
abbrev main_v160 : Ref sig .tc := ⟨.hbm, 320, rfl⟩
abbrev main_v161 : Ref sig .tc := ⟨.hbm, 321, rfl⟩
abbrev main_cst_25 : Ref sig .tc := ⟨.hbm, 322, rfl⟩
abbrev main_call11_v0 : Ref sig .tc := ⟨.hbm, 323, rfl⟩
abbrev main_call11_v1 : Ref sig .tc := ⟨.hbm, 324, rfl⟩
abbrev main_v162 : Ref sig .tc := ⟨.hbm, 325, rfl⟩
abbrev main_values_26 : Ref sig .tc := ⟨.hbm, 326, rfl⟩
abbrev main_indices_27 : Ref sig .tc := ⟨.hbm, 327, rfl⟩
abbrev main_v163 : Ref sig .tc := ⟨.hbm, 328, rfl⟩
abbrev main_call12_c : Ref sig .tc := ⟨.hbm, 329, rfl⟩
abbrev main_call12_v0 : Ref sig .tc := ⟨.hbm, 330, rfl⟩
abbrev main_call12_v1 : Ref sig .tc := ⟨.hbm, 331, rfl⟩
abbrev main_call12_c_0 : Ref sig .tc := ⟨.hbm, 332, rfl⟩
abbrev main_call12_v2 : Ref sig .tc := ⟨.hbm, 333, rfl⟩
abbrev main_call12_v3 : Ref sig .tc := ⟨.hbm, 334, rfl⟩
abbrev main_call12_v4 : Ref sig .tc := ⟨.hbm, 335, rfl⟩
abbrev main_call12_c_1 : Ref sig .tc := ⟨.hbm, 336, rfl⟩
abbrev main_call12_c_2 : Ref sig .tc := ⟨.hbm, 337, rfl⟩
abbrev main_call12_v5 : Ref sig .tc := ⟨.hbm, 338, rfl⟩
abbrev main_call12_v6 : Ref sig .tc := ⟨.hbm, 339, rfl⟩
abbrev main_call12_v7 : Ref sig .tc := ⟨.hbm, 340, rfl⟩
abbrev main_call12_v8 : Ref sig .tc := ⟨.hbm, 341, rfl⟩
abbrev main_call12_v9 : Ref sig .tc := ⟨.hbm, 342, rfl⟩
abbrev main_call12_v10 : Ref sig .tc := ⟨.hbm, 343, rfl⟩
abbrev main_call12_c_3 : Ref sig .tc := ⟨.hbm, 344, rfl⟩
abbrev main_call12_v11 : Ref sig .tc := ⟨.hbm, 345, rfl⟩
abbrev main_call12_v12 : Ref sig .tc := ⟨.hbm, 346, rfl⟩
abbrev main_call12_v13 : Ref sig .tc := ⟨.hbm, 347, rfl⟩
abbrev main_call12_cst : Ref sig .tc := ⟨.hbm, 348, rfl⟩
abbrev main_call12_v14 : Ref sig .tc := ⟨.hbm, 349, rfl⟩
abbrev main_v164 : Ref sig .tc := ⟨.hbm, 350, rfl⟩
abbrev main_v165 : Ref sig .tc := ⟨.hbm, 351, rfl⟩
abbrev main_cst_28 : Ref sig .tc := ⟨.hbm, 352, rfl⟩
abbrev main_v166 : Ref sig .tc := ⟨.hbm, 353, rfl⟩
abbrev main_v167 : Ref sig .tc := ⟨.hbm, 354, rfl⟩
abbrev main_v168 : Ref sig .tc := ⟨.hbm, 355, rfl⟩
abbrev main_cst_29 : Ref sig .tc := ⟨.hbm, 356, rfl⟩
abbrev main_call13_v0 : Ref sig .tc := ⟨.hbm, 357, rfl⟩
abbrev main_call13_v1 : Ref sig .tc := ⟨.hbm, 358, rfl⟩
abbrev main_call13_v2 : Ref sig .tc := ⟨.hbm, 359, rfl⟩
abbrev main_v169 : Ref sig .tc := ⟨.hbm, 360, rfl⟩
abbrev main_cst_30 : Ref sig .tc := ⟨.hbm, 361, rfl⟩
abbrev main_call14_v0 : Ref sig .tc := ⟨.hbm, 362, rfl⟩
abbrev main_call14_v1 : Ref sig .tc := ⟨.hbm, 363, rfl⟩
abbrev main_v170 : Ref sig .tc := ⟨.hbm, 364, rfl⟩
abbrev main_v171 : Ref sig .tc := ⟨.hbm, 365, rfl⟩

abbrev nD : Nat := 1
abbrev τ : Topo := Topo.v7x

variable {F : FTy → Type} [FloatOps F]

abbrev main_while0_count : Scf.Loop 32 := ⟨0#32, 2000#32, 1#32⟩
-- ==== Proof.KRun.lean ====
/- The run of the kernel's body on any staging buffers. -/
module

public import proofs.«01_k».proof.Proof.KKit

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (consume produce)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2000000 in
/-- The body's triple: on whole staging memrefs — the inputs' at their contents,
    the FORGOTTEN outputs' (3, 4) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S1x1x20480 .f32) (harg1 : arg1.IsWhole) (arg2 : Memref sig .tc .vmem S1x4x20480 .f32) (harg2 : arg2.IsWhole) (arg3 : Memref sig .tc .vmem S4x20480 .f32) (harg3 : arg3.IsWhole) (arg4 : Memref sig .tc .vmem S1x1000x4 .f32) (harg4 : arg4.IsWhole) (arg5 : Memref sig .tc .vmem S1x1x1000 .f32) (harg5 : arg5.IsWhole) (arg6 : Memref sig .tc .vmem S512x512 .f32) (harg6 : arg6.IsWhole) (arg7 : Memref sig .tc .vmem S2048x2048 .f32) (harg7 : arg7.IsWhole)
    (x0 : Vec F S1x1x20480 .f32) (x1 : Vec F S1x4x20480 .f32) (x2 : Vec F S4x20480 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.nat c none) E (cc0__rpn_body i arg1 harg1 arg2 harg2 arg3 harg3 arg4 harg4 arg5 harg5 arg6 harg6 arg7 harg7) K := by
    intro E K
    simp only [cc0__rpn_body_eq_skeleton]; unfold cc0__rpn_body_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2
    sl_exec
    iapply (wp_call_spec Variants.nat (c : Thread nD τ) none E
      (nmsSpec c arg7 _ _ 2048 1#1 _) 2048 (fun u hu => nomatch hu) (nms_le c E i arg7 harg7 _ _ 2048 le_rfl 1#1 _))
    rw [nmsSpec_apply]
    isplitl [HS1]; · iexact HS1
    rw [suppOf_writes arg7 fs1 _ (View.cover_of_tiledL _ ![128, 2048] (by sl_kernel_rfl))]
    iintro HS1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.Kernel.Gen

end
-- ==== Proof.KFrame.lean ====
/- The frame of the kernel: what the body leaves at every point, and the run of the whole program. -/
module

public import proofs.«01_k».proof.Proof.KRun
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (consume produce)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4): nothing reads what the kernel leaves in them, so nothing
    of it is named (Lib/Pipeline/Dat.lean `Dat.toRForget`). -/
def forgets0 : Fin 5 → Bool := fun w => w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := (cfg0 (F := F))) ⟨3, h⟩ t
    | ⟨4, h⟩ => Pipeline.Dat.unnamed (cfg := (cfg0 (F := F))) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d))

/-- The body at any point: the inputs' memrefs hold their blocks (`before0_W`); so the
    run applies; the invariant hands the body its scratch buffers at some contents (and the generator register) and takes them back at some contents (`PhiA_eq`); the core owes nothing throughout. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.nat () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost ((cfgs (F := F)) 0) (fun c => (dats m 0 c).toRForget forgets0) (V m)) r ∧ r.2.sem = fun _ => 0) :=
  Pipeline.θ_run_frame_forget (Q' := _) (cfgs (F := F)) (dats m) (0 : Fin 1) launch0 defs₀ Variants.nat forgets0 m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost ((cfgs (F := F)) 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.KIWhile.lean ====
/- The suppression loop of the kernel: what it returns, and its proof rule. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (consume produce)

variable {F : FTy → Type} [FloatOps F]

local notation "𝕄" => MT nD τ sig Unit (Elt F) ℕ (UR sig nD τ) ℕ

/-! ## The suppression loop

The loop carries a counter, a flag "the last round changed something" and the row of kept boxes. -/

/-- What the suppression loop returns when it starts from the counter, the flag and the kept row `x`, with at most `n`
    rounds left; `S` is the suppression matrix and `fin` the row of boxes that may be kept at all. -/
def nmsRun (S : Vec F S2048x2048 .f32) (fin : FVec F S1x2048 .f32) :
    ℕ → BitVec 32 × BitVec 1 × FVec F S1x2048 .f32 → BitVec 32 × BitVec 1 × FVec F S1x2048 .f32
  | 0, x => x
  | n + 1, x =>
    if Scalar.andi x.2.1 (Scalar.cmpi .slt x.1 2048#32) = 1#1 then
      nmsRun S fin n (Scalar.addi x.1 1#32,
        Scalar.cmpf .ogt (k0_pay4 fin x.2.2 S) (Scalar.ofBits .f32 0x00000000#32), k0_pay3 fin x.2.2 S)
    else x

/-- The loop's counter with `n` rounds left. -/
def ctr (n : ℕ) : BitVec 32 := BitVec.ofNat 32 (2048 - n)

theorem ctr_zero_slt : Scalar.cmpi .slt (ctr 0) 2048#32 = 0#1 := by decide

theorem ctr_succ {n : ℕ} (h : n + 1 ≤ 2048) : Scalar.addi (ctr (n + 1)) 1#32 = ctr n := by
  unfold ctr Scalar.addi IntOp.addi
  apply BitVec.eq_of_toNat_eq
  simp only [BitVec.toNat_add, BitVec.toNat_ofNat]
  omega

/-- The suppression matrix that a load of the whole scratch returns, when the scratch holds `X`. -/
abbrev suppOf (arg7 : Memref sig .tc .vmem S2048x2048 .f32) (X : BufTy.Contents (Elt F) arg7.view.ty) : Vec F S2048x2048 .f32 :=
  (arg7.access (Rect.unit (s := S2048x2048) ![0, 0] S2048x2048.size inb_S2048x2048_S2048x2048_0_0)).read (Elt F) X

/-- The matrix read back from a whole scratch that the writes `L` fill, whatever it held before. -/
def suppC (L : List (View.Piece (Elt F) S2048x2048 .f32)) : Vec F S2048x2048 .f32 := fun x =>
  (Memref.whole cc0_scratch1 : Memref sig .tc .vmem S2048x2048 .f32).view.read (Elt F)
    ((Memref.whole cc0_scratch1 : Memref sig .tc .vmem S2048x2048 .f32).view.writes (Elt F)
      (Memref.whole cc0_scratch1 : Memref sig .tc .vmem S2048x2048 .f32).view.junk L)
    ((Rect.unit (s := S2048x2048) ![0, 0] S2048x2048.size inb_S2048x2048_S2048x2048_0_0).emb x)

theorem suppOf_writes (arg7 : Memref sig .tc .vmem S2048x2048 .f32) (f : BufTy.Contents (Elt F) arg7.view.ty)
    (L : List (View.Piece (Elt F) S2048x2048 .f32)) (h : ∀ y, ∃ p ∈ L, y ∈ p.1.set) :
    suppOf arg7 (arg7.view.writes (Elt F) f L) = suppC L := by
  funext x
  exact congrFun (View.read_writes_of_cover arg7.view f _ _ L h)
    ((Rect.unit (s := S2048x2048) ![0, 0] S2048x2048.size inb_S2048x2048_S2048x2048_0_0).emb x)

/-- What a call of the loop asks for and gives back: the scratch at `X`, unchanged, and the loop's result. -/
def nmsSpec (c : Dev nD) (arg7 : Memref sig .tc .vmem S2048x2048 .f32) (X : BufTy.Contents (Elt F) arg7.view.ty)
    (fin : FVec F S1x2048 .f32) (n : ℕ) (ch : BitVec 1) (keep : FVec F S1x2048 .f32) :
    sWPT 𝕄 (BitVec 32 × BitVec 1 × FVec F S1x2048 .f32) :=
  consume (arg7.view.loc (c : Thread nD τ) ↦[arg7.view.set]{fullShare} X) >>= fun _ =>
    produce (arg7.view.loc (c : Thread nD τ) ↦[arg7.view.set]{fullShare} X) >>= fun _ =>
      pure (nmsRun (suppOf arg7 X) fin n (ctr n, ch, keep))

theorem nmsSpec_apply (c : Dev nD) (arg7 : Memref sig .tc .vmem S2048x2048 .f32) (X : BufTy.Contents (Elt F) arg7.view.ty)
    (fin : FVec F S1x2048 .f32) (n : ℕ) (ch : BitVec 1) (keep : FVec F S1x2048 .f32) (K) :
    nmsSpec c arg7 X fin n ch keep K
      = iprop((arg7.view.loc (c : Thread nD τ) ↦[arg7.view.set]{fullShare} X)
          ∗ ((arg7.view.loc (c : Thread nD τ) ↦[arg7.view.set]{fullShare} X) -∗ K (nmsRun (suppOf arg7 X) fin n (ctr n, ch, keep)))) := by
  unfold nmsSpec; simp only [spec_simps]

/-- The loop's body meets the specification, by induction on the number of rounds left. -/
theorem nms_le (c : Dev nD) (E : Set ℕ) (i : grid0.Coords) (arg7 : Memref sig .tc .vmem S2048x2048 .f32) (harg7 : arg7.IsWhole)
    (X : BufTy.Contents (Elt F) arg7.view.ty) (fin : FVec F S1x2048 .f32) :
    ∀ n, n ≤ 2048 → ∀ ch keep, nmsSpec c arg7 X fin n ch keep
      ≤ wp frame (wpE (defs₀ (F := F)) Variants.nat (c : Thread nD τ) (some n)) E
          (defs₀ (F := F) .tc 1 ⟨i, arg7, harg7, fin, ctr n, ch, keep⟩) := by
  intro n
  induction n with
  | zero =>
    intro _ ch keep K
    rw [nmsSpec_apply]
    show _ ⊢ wp frame (wpE (defs₀ (F := F)) Variants.nat (c : Thread nD τ) (some 0)) E (cc0_while1 i arg7 harg7 fin (ctr 0) ch keep) K
    simp only [cc0_while1_eq_skeleton]; unfold cc0_while1_skel
    have h0 : Scalar.andi ch (Scalar.cmpi .slt (ctr 0) 2048#32) = 0#1 := by
      rw [ctr_zero_slt]; unfold Scalar.andi IntOp.andi; exact BitVec.and_zero
    simp only [h0, if_neg (by decide : ¬ (0#1 : BitVec 1) = 1#1), Prog.pure_eq_ret]
    iintro ⟨H, Hk⟩
    rw [wp_ret]; imodintro
    rw [show nmsRun (suppOf arg7 X) fin 0 (ctr 0, ch, keep) = (ctr 0, ch, keep) from rfl]
    iapply Hk; iexact H
  | succ n ih =>
    intro hn ch keep K
    rw [nmsSpec_apply]
    show _ ⊢ wp frame (wpE (defs₀ (F := F)) Variants.nat (c : Thread nD τ) (some (n + 1))) E (cc0_while1 i arg7 harg7 fin (ctr (n + 1)) ch keep) K
    simp only [cc0_while1_eq_skeleton]; unfold cc0_while1_skel
    by_cases hc : Scalar.andi ch (Scalar.cmpi .slt (ctr (n + 1)) 2048#32) = 1#1
    · simp only [nmsRun, hc, ↓reduceIte, Prog.lift, Prog.bind_op, Prog.bind_ret, Prog.pure_eq_ret, ctr_succ hn]
      iintro ⟨H, Hk⟩
      sl_step
      iapply (wp_call_spec Variants.nat (c : Thread nD τ) (some (n + 1)) E
        (nmsSpec c arg7 X fin n (Scalar.cmpf .ogt (k0_pay4 fin keep (suppOf arg7 X)) (Scalar.ofBits .f32 0x00000000#32)) (k0_pay3 fin keep (suppOf arg7 X))) n
        (fun u hu => by cases hu; exact Nat.lt_succ_self n) (ih (Nat.le_of_succ_le hn) _ _))
      rw [nmsSpec_apply]
      isplitl [H]; · iexact H
      iintro H
      rw [wp_ret]; imodintro
      iapply Hk; iexact H
    · simp only [nmsRun, hc, ↓reduceIte, Prog.pure_eq_ret, if_false]
      iintro ⟨H, Hk⟩
      rw [wp_ret]; imodintro
      iapply Hk; iexact H

end Cert.KernelIdeal.Gen

end
-- ==== Proof.KIKit.lean ====
/- What the frame proof is stated over: the arrays as the kernel region finds them, the windows' blocks, the staging buffers and the scratch buffers. -/
module

public import proofs.«01_k».proof.Proof.KIWhile

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (consume produce)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (show ∀ w : Fin 5, (spec0 w).arr.view.ref ≠ main_arg0 by decide))).trans (V_main_arg0 m c),
      ((h c).2 main_arg1 (Pipeline.mem_restRefs_of main_arg1 (by decide) (show ∀ w : Fin 5, (spec0 w).arr.view.ref ≠ main_arg1 by decide))).trans (V_main_arg1 m c),
      ((h c).2 main_arg2 (Pipeline.mem_restRefs_of main_arg2 (by decide) (show ∀ w : Fin 5, (spec0 w).arr.view.ref ≠ main_arg2 by decide))).trans (V_main_arg2 m c)⟩) h

/-! ## The kernel body on any staging memrefs: a subtype the run finds -/

/-- One staging buffer of output window 3, through which its contents are stated (`View.read_writes_of_cover`: the
    choice does not matter). -/
abbrev VO0_3 : View sig .tc .vmem S1x1000x4 .f32 := (Memref.whole cc0_stg3_0 : Memref sig .tc .vmem S1x1000x4 .f32).view
/-- One staging buffer of output window 4, through which its contents are stated (`View.read_writes_of_cover`: the
    choice does not matter). -/
abbrev VO0_4 : View sig .tc .vmem S1x1x1000 .f32 := (Memref.whole cc0_stg4_0 : Memref sig .tc .vmem S1x1x1000 .f32).view
/-- Each window's current staging memref at point `t`, spelled as the pipeline passes it (`bodyAt0`), and its wholeness. -/
abbrev ms0_0 (t : Fin (cfg0 (F := F)).N) : Memref sig .tc .vmem S1x1x20480 .f32 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S1x4x20480 .f32 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S4x20480 .f32 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S1x1000x4 .f32 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x1x1000 .f32 := win0_4.stage ((cfg0 (F := F)).slots t 4)
abbrev hs0_4 (t : Fin (cfg0 (F := F)).N) : (ms0_4 t).IsWhole := hstage0_4 (((cfg0 (F := F)).slots t 4).cast nbuf0_4)
/-- The scratch operands: whole scoped buffers of the kernel's own, passed beside the windows. -/
abbrev scM0_0 : Memref sig .tc .vmem S512x512 .f32 := Memref.whole cc0_scratch0
abbrev scM0_1 : Memref sig .tc .vmem S2048x2048 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.KIRun.lean ====
/- The run of the kernel's body on any staging buffers. -/
module

public import proofs.«01_k».proof.Proof.KIKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (consume produce)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x1x20480 .f32) (harg1 : arg1.IsWhole) (arg2 : Memref sig .tc .vmem S1x4x20480 .f32) (harg2 : arg2.IsWhole) (arg3 : Memref sig .tc .vmem S4x20480 .f32) (harg3 : arg3.IsWhole) (arg4 : Memref sig .tc .vmem S1x1000x4 .f32) (harg4 : arg4.IsWhole) (arg5 : Memref sig .tc .vmem S1x1x1000 .f32) (harg5 : arg5.IsWhole) (arg6 : Memref sig .tc .vmem S512x512 .f32) (harg6 : arg6.IsWhole) (arg7 : Memref sig .tc .vmem S2048x2048 .f32) (harg7 : arg7.IsWhole)
    (x0 : Vec F S1x1x20480 .f32) (x1 : Vec F S1x4x20480 .f32) (x2 : Vec F S4x20480 .f32) :
    Σ' (L3 : List (View.Piece (Elt F) S1x1000x4 .f32)), Σ' (L4 : List (View.Piece (Elt F) S1x1x1000 .f32)), { LT0 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LT0) ∗ (∃ d, owns (c : Thread nD τ) arg7 fullShare d)) -∗ K ⟨⟩))
          ⊢ wp frame (wpE (defs₀ (F := F)) Variants.nat c none) E (cc0__rpn_body i arg1 harg1 arg2 harg2 arg3 harg3 arg4 harg4 arg5 harg5 arg6 harg6 arg7 harg7) K } := by
  refine ⟨?_, ?_, ?_, fun E K => ?run⟩
  case run =>
    simp only [cc0__rpn_body_eq_skeleton]; unfold cc0__rpn_body_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2
    sl_exec
    iapply (wp_call_spec Variants.nat (c : Thread nD τ) none E
      (nmsSpec c arg7 _ _ 2048 1#1 _) 2048 (fun u hu => nomatch hu) (nms_le c E i arg7 harg7 _ _ 2048 le_rfl 1#1 _))
    rw [nmsSpec_apply]
    isplitl [HS1]; · iexact HS1
    rw [suppOf_writes arg7 fs1 _ (View.cover_of_tiledL _ ![128, 2048] (by sl_kernel_rfl))]
    iintro HS1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _, _; isplitr; swap; · iexact HS1
    ipureintro; rfl

end Cert.KernelIdeal.Gen

end
-- ==== Proof.KIFrame.lean ====
/- The frame of the kernel: what the body leaves at every point, and the run of the whole program. -/
module

public import proofs.«01_k».proof.Proof.KIRun
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (consume produce)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 3 tile its block (1 store of `S1x1000x4`, checked by the kernel's evaluation: Lib/Ring.lean `Piece.tiledL`, linear in the pieces, through a loop's `@[irreducible]` trip theorem too), so they cover it. -/
theorem cover0_A_3 (c : Dev nD) (i : grid0.Coords) (arg1 : Memref sig .tc .vmem S1x1x20480 .f32) (harg1 : arg1.IsWhole) (arg2 : Memref sig .tc .vmem S1x4x20480 .f32) (harg2 : arg2.IsWhole) (arg3 : Memref sig .tc .vmem S4x20480 .f32) (harg3 : arg3.IsWhole) (arg4 : Memref sig .tc .vmem S1x1000x4 .f32) (harg4 : arg4.IsWhole) (arg5 : Memref sig .tc .vmem S1x1x1000 .f32) (harg5 : arg5.IsWhole) (arg6 : Memref sig .tc .vmem S512x512 .f32) (harg6 : arg6.IsWhole) (arg7 : Memref sig .tc .vmem S2048x2048 .f32) (harg7 : arg7.IsWhole)
    (x0 : Vec F S1x1x20480 .f32) (x1 : Vec F S1x4x20480 .f32) (x2 : Vec F S4x20480 .f32) (y : S1x1000x4.Idx) :
    ∃ pc ∈ (kernelRun0_A c i arg1 harg1 arg2 harg2 arg3 harg3 arg4 harg4 arg5 harg5 arg6 harg6 arg7 harg7 x0 x1 x2).1, y ∈ pc.1.set :=
  View.cover_of_tiledL (kernelRun0_A c i arg1 harg1 arg2 harg2 arg3 harg3 arg4 harg4 arg5 harg5 arg6 harg6 arg7 harg7 x0 x1 x2).1 S1x1000x4.size (by sl_kernel_rfl) y

/-- What the run leaves in output 3's staging buffer: its pieces read back over junk. -/
def out0_A_3 (c : Dev nD) (i : grid0.Coords) (arg1 : Memref sig .tc .vmem S1x1x20480 .f32) (harg1 : arg1.IsWhole) (arg2 : Memref sig .tc .vmem S1x4x20480 .f32) (harg2 : arg2.IsWhole) (arg3 : Memref sig .tc .vmem S4x20480 .f32) (harg3 : arg3.IsWhole) (arg4 : Memref sig .tc .vmem S1x1000x4 .f32) (harg4 : arg4.IsWhole) (arg5 : Memref sig .tc .vmem S1x1x1000 .f32) (harg5 : arg5.IsWhole) (arg6 : Memref sig .tc .vmem S512x512 .f32) (harg6 : arg6.IsWhole) (arg7 : Memref sig .tc .vmem S2048x2048 .f32) (harg7 : arg7.IsWhole)
    (x0 : Vec F S1x1x20480 .f32) (x1 : Vec F S1x4x20480 .f32) (x2 : Vec F S4x20480 .f32) : Vec F S1x1000x4 .f32 :=
  VO0_3.read (Elt F) (VO0_3.writes (Elt F) VO0_3.junk (kernelRun0_A c i arg1 harg1 arg2 harg2 arg3 harg3 arg4 harg4 arg5 harg5 arg6 harg6 arg7 harg7 x0 x1 x2).1)

/-- The run's pieces for output 4 tile its block (1 store of `S1x1x1000`, checked by the kernel's evaluation: Lib/Ring.lean `Piece.tiledL`, linear in the pieces, through a loop's `@[irreducible]` trip theorem too), so they cover it. -/
theorem cover0_A_4 (c : Dev nD) (i : grid0.Coords) (arg1 : Memref sig .tc .vmem S1x1x20480 .f32) (harg1 : arg1.IsWhole) (arg2 : Memref sig .tc .vmem S1x4x20480 .f32) (harg2 : arg2.IsWhole) (arg3 : Memref sig .tc .vmem S4x20480 .f32) (harg3 : arg3.IsWhole) (arg4 : Memref sig .tc .vmem S1x1000x4 .f32) (harg4 : arg4.IsWhole) (arg5 : Memref sig .tc .vmem S1x1x1000 .f32) (harg5 : arg5.IsWhole) (arg6 : Memref sig .tc .vmem S512x512 .f32) (harg6 : arg6.IsWhole) (arg7 : Memref sig .tc .vmem S2048x2048 .f32) (harg7 : arg7.IsWhole)
    (x0 : Vec F S1x1x20480 .f32) (x1 : Vec F S1x4x20480 .f32) (x2 : Vec F S4x20480 .f32) (y : S1x1x1000.Idx) :
    ∃ pc ∈ (kernelRun0_A c i arg1 harg1 arg2 harg2 arg3 harg3 arg4 harg4 arg5 harg5 arg6 harg6 arg7 harg7 x0 x1 x2).2.1, y ∈ pc.1.set :=
  View.cover_of_tiledL (kernelRun0_A c i arg1 harg1 arg2 harg2 arg3 harg3 arg4 harg4 arg5 harg5 arg6 harg6 arg7 harg7 x0 x1 x2).2.1 S1x1x1000.size (by sl_kernel_rfl) y

/-- What the run leaves in output 4's staging buffer: its pieces read back over junk. -/
def out0_A_4 (c : Dev nD) (i : grid0.Coords) (arg1 : Memref sig .tc .vmem S1x1x20480 .f32) (harg1 : arg1.IsWhole) (arg2 : Memref sig .tc .vmem S1x4x20480 .f32) (harg2 : arg2.IsWhole) (arg3 : Memref sig .tc .vmem S4x20480 .f32) (harg3 : arg3.IsWhole) (arg4 : Memref sig .tc .vmem S1x1000x4 .f32) (harg4 : arg4.IsWhole) (arg5 : Memref sig .tc .vmem S1x1x1000 .f32) (harg5 : arg5.IsWhole) (arg6 : Memref sig .tc .vmem S512x512 .f32) (harg6 : arg6.IsWhole) (arg7 : Memref sig .tc .vmem S2048x2048 .f32) (harg7 : arg7.IsWhole)
    (x0 : Vec F S1x1x20480 .f32) (x1 : Vec F S1x4x20480 .f32) (x2 : Vec F S4x20480 .f32) : Vec F S1x1x1000 .f32 :=
  VO0_4.read (Elt F) (VO0_4.writes (Elt F) VO0_4.junk (kernelRun0_A c i arg1 harg1 arg2 harg2 arg3 harg3 arg4 harg4 arg5 harg5 arg6 harg6 arg7 harg7 x0 x1 x2).2.1)

/-! ## What the outputs hold after each point -/

/-- What the outputs' staging buffers hold after the body at point `t` (as a tuple, in window order): the run's contents at
    the point's memrefs and input blocks. -/
def outsAt0 (c : Dev nD) (t : Fin (cfg0 (F := F)).N) : Vec F S1x1000x4 .f32 × Vec F S1x1x1000 .f32 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = (outsAt0 m c t).1 := by dsimp only [dats]; rfl
theorem after0_4 (c : Dev nD) (t : Fin (cfg0 (F := F)).N) : (dats m 0 c).after 4 t = (outsAt0 m c t).2 := by dsimp only [dats]; rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_3 out0_A_4; (try dsimp only)
  iintro ⟨⟨⟨HS0, HS1⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ (iblk m c 0 t) (iblk m c 1 t) (iblk m c 2 t)).2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, ⟨%e3, H3⟩, ⟨%e4, H4⟩, ⟨%fT0, HS0⟩, HS1⟩
  isplitl [HS0 HS1 Hg]
  · isplitl [HS0 HS1]
    · isplitl [HS0]
      · iexists _; unfold owns; iexists _; isplitr
        swap; · iexact HS0
        ipureintro; rfl
      iexact HS1
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _)
  unfold owns; iexists _; isplitr
  swap; · iexact H4
  ipureintro; exact View.read_writes_of_cover _ _ _ _ _ (cover0_A_4 c _ _ _ _ _ _ _ _ _ _ _ _ _ _ _ _ _ _)

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame (Q' := _) (cfgs (F := F)) (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost (cfgs (F := F)) (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.KIValue.lean ====
/- What the result arrays hold after the run, block by block. -/
module

public import proofs.«01_k».proof.Proof.KIFrame
public import Idealize.ShloMosaic.Lib.Pipeline.Value

@[expose] public section

set_option maxRecDepth 16384

noncomputable section

namespace Cert.KernelIdeal.Value

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (consume produce)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`: its component 0), read through the window's block. -/
theorem flushed3 (c : Dev nD) (t : Fin (cfg0 (F := F)).N) :
    (dats m 0 c).flushed 3 t = ((cfg0 (F := F)).win 3).cut (grid0.coords t) ((outsAt0 m c t).1) := by
  show ((cfg0 (F := F)).win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — the kernel's one case, `Gen.outsAt0` by definition. -/
theorem flushed3_A (c : Dev nD) (t : Fin (cfg0 (F := F)).N) :
    (dats m 0 c).flushed 3 t = ((cfg0 (F := F)).win 3).cut (grid0.coords t) (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t)) := by
  simp only [flushed3, outsAt0]; rfl

/-- The index map sends distinct grid points to distinct block indices (decided over the 2 points). -/
theorem idx_inj3 : ∀ t t' : Fin (cfg0 (F := F)).N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin (cfg0 (F := F)).N, ((cfg0 (F := F)).win 3).flush t = true → ((cfg0 (F := F)).win 3).flush t' = true → t ≠ t' →
    Disjoint (((cfg0 (F := F)).win 3).blk t).view.set (((cfg0 (F := F)).win 3).blk t').view.set :=
  fun t t' _ _ hne => ((cfg0 (F := F)).win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin (cfg0 (F := F)).N) (hf : ((cfg0 (F := F)).win 3).flush t = true) :
    (((cfg0 (F := F)).win 3).blk t).view.read (Elt F) ((dats m 0 c).arrAt 3 (cfg0 (F := F)).N) = (dats m 0 c).flushed 3 t :=
  (dats m 0 c).read_blk_arrAt_eq_flushed 3 disjoint3 (cfg0 (F := F)).N t t.isLt hf

/-- An index that no flushing point's block covers keeps output window 3's array contents at region entry. -/
theorem entry3 (c : Dev nD) (i : S2x1000x4.Idx) (h : ∀ t : Fin (cfg0 (F := F)).N, ((cfg0 (F := F)).win 3).flush t = true → i ∉ (((cfg0 (F := F)).win 3).blk t).view.set) :
    (dats m 0 c).arrAt 3 (cfg0 (F := F)).N i = V m c (Pipeline.arrRef spec0 3) i := by
  rw [(dats m 0 c).arrAt_apply_of_forall_not_mem 3 (cfg0 (F := F)).N i (fun t _ hf => h t hf), A_eq]; rfl

/-- WHAT POINT `t` WRITES BACK to output window 4's array: the run's contents for that window after the body (`Gen.outsAt0`: its component 1), read through the window's block. -/
theorem flushed4 (c : Dev nD) (t : Fin (cfg0 (F := F)).N) :
    (dats m 0 c).flushed 4 t = ((cfg0 (F := F)).win 4).cut (grid0.coords t) ((outsAt0 m c t).2) := by
  show ((cfg0 (F := F)).win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — the kernel's one case, `Gen.outsAt0` by definition. -/
theorem flushed4_A (c : Dev nD) (t : Fin (cfg0 (F := F)).N) :
    (dats m 0 c).flushed 4 t = ((cfg0 (F := F)).win 4).cut (grid0.coords t) (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t)) := by
  simp only [flushed4, outsAt0]; rfl

/-- The index map sends distinct grid points to distinct block indices (decided over the 2 points). -/
theorem idx_inj4 : ∀ t t' : Fin (cfg0 (F := F)).N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin (cfg0 (F := F)).N, ((cfg0 (F := F)).win 4).flush t = true → ((cfg0 (F := F)).win 4).flush t' = true → t ≠ t' →
    Disjoint (((cfg0 (F := F)).win 4).blk t).view.set (((cfg0 (F := F)).win 4).blk t').view.set :=
  fun t t' _ _ hne => ((cfg0 (F := F)).win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin (cfg0 (F := F)).N) (hf : ((cfg0 (F := F)).win 4).flush t = true) :
    (((cfg0 (F := F)).win 4).blk t).view.read (Elt F) ((dats m 0 c).arrAt 4 (cfg0 (F := F)).N) = (dats m 0 c).flushed 4 t :=
  (dats m 0 c).read_blk_arrAt_eq_flushed 4 disjoint4 (cfg0 (F := F)).N t t.isLt hf

/-- An index that no flushing point's block covers keeps output window 4's array contents at region entry. -/
theorem entry4 (c : Dev nD) (i : S2x1x1000.Idx) (h : ∀ t : Fin (cfg0 (F := F)).N, ((cfg0 (F := F)).win 4).flush t = true → i ∉ (((cfg0 (F := F)).win 4).blk t).view.set) :
    (dats m 0 c).arrAt 4 (cfg0 (F := F)).N i = V m c (Pipeline.arrRef spec0 4) i := by
  rw [(dats m 0 c).arrAt_apply_of_forall_not_mem 4 (cfg0 (F := F)).N i (fun t _ hf => h t hf), A_eq]; rfl

/-- After the frame run, output window 3's array is `(dats m 0 c).arrAt 3 N`. -/
theorem post3 (r : PUnit × MemSt nD τ sig (Elt F)) (h : Pipeline.FramePost (cfgs (F := F)) (dats m) 0 (V m) r) (c : Dev nD) :
    r.2.mem ((c : Thread nD τ).loc main_v13_0) = (dats m 0 c).arrAt 3 (cfg0 (F := F)).N :=
  (h c).1 3

/-- After the frame run, output window 4's array is `(dats m 0 c).arrAt 4 N`. -/
theorem post4 (r : PUnit × MemSt nD τ sig (Elt F)) (h : Pipeline.FramePost (cfgs (F := F)) (dats m) 0 (V m) r) (c : Dev nD) :
    r.2.mem ((c : Thread nD τ).loc main_v13_1) = (dats m 0 c).arrAt 4 (cfg0 (F := F)).N :=
  (h c).1 4

/-- After the frame run, argument `main_arg0` is as launched: no window stages it, and the run leaves the region's other buffers as they were. -/
theorem kept_main_arg0 (r : PUnit × MemSt nD τ sig (Elt F)) (h : Pipeline.FramePost (cfgs (F := F)) (dats m) 0 (V m) r) (c : Dev nD) :
    r.2.mem ((c : Thread nD τ).loc main_arg0) = m ((c : Thread nD τ).loc main_arg0) :=
  ((h c).2 main_arg0 (Pipeline.mem_restRefs_of main_arg0 (by decide) (show ∀ w : Fin 5, (spec0 w).arr.view.ref ≠ main_arg0 by decide))).trans (V_main_arg0 m c)

/-- After the frame run, argument `main_arg1` is as launched: no window stages it, and the run leaves the region's other buffers as they were. -/
theorem kept_main_arg1 (r : PUnit × MemSt nD τ sig (Elt F)) (h : Pipeline.FramePost (cfgs (F := F)) (dats m) 0 (V m) r) (c : Dev nD) :
    r.2.mem ((c : Thread nD τ).loc main_arg1) = m ((c : Thread nD τ).loc main_arg1) :=
  ((h c).2 main_arg1 (Pipeline.mem_restRefs_of main_arg1 (by decide) (show ∀ w : Fin 5, (spec0 w).arr.view.ref ≠ main_arg1 by decide))).trans (V_main_arg1 m c)

/-- After the frame run, argument `main_arg2` is as launched: no window stages it, and the run leaves the region's other buffers as they were. -/
theorem kept_main_arg2 (r : PUnit × MemSt nD τ sig (Elt F)) (h : Pipeline.FramePost (cfgs (F := F)) (dats m) 0 (V m) r) (c : Dev nD) :
    r.2.mem ((c : Thread nD τ).loc main_arg2) = m ((c : Thread nD τ).loc main_arg2) :=
  ((h c).2 main_arg2 (Pipeline.mem_restRefs_of main_arg2 (by decide) (show ∀ w : Fin 5, (spec0 w).arr.view.ref ≠ main_arg2 by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v13_0) = (dats m 0 c).arrAt 3 (cfg0 (F := F)).N
      ∧ r.2.mem ((c : Thread nD τ).loc main_v13_1) = (dats m 0 c).arrAt 4 (cfg0 (F := F)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      kept_main_arg0 m r h c,
      kept_main_arg1 m r h c,
      kept_main_arg2 m r h c⟩)
    (run_main m ρ)

end Cert.KernelIdeal.Value

end
-- ==== Proof.VOrder.lean ====
module

public import Idealize.ShloMosaic.Lib.SortFacts
public import Idealize.ShloMosaic.Lib.SortPrefix
public import Idealize.ShloMosaic.PureOps.Ideal.Laws

@[expose] public section

noncomputable section

/-! # Counting, positions and ranks

The proposals are chosen by sorting scores on one side and by counting on the other. This module relates the two:
the number of elements before an element in a strict total order, and the stable sort by decreasing score. -/

namespace Rpn

open Idealize.ShloMosaic
open scoped BigOperators

/-- How many elements of a finite type have the property `p`. -/
def cnt {α : Type} [Fintype α] (p : α → Prop) : ℕ := by
  classical exact (Finset.univ.filter p).card

section Cnt

variable {α β : Type} [Fintype α] [Fintype β]

/-- A count as a cardinality. -/
theorem cnt_eq (p : α → Prop) [DecidablePred p] : cnt p = (Finset.univ.filter p).card := by
  unfold cnt; congr

/-- Equivalent properties have one count. -/
theorem cnt_congr {p q : α → Prop} (h : ∀ x, p x ↔ q x) : cnt p = cnt q := by
  rw [show p = q from funext fun x => propext (h x)]

/-- A weaker property has the larger count. -/
theorem cnt_mono {p q : α → Prop} (h : ∀ x, p x → q x) : cnt p ≤ cnt q := by
  classical
  rw [cnt_eq, cnt_eq]; exact Finset.card_le_card fun x hx => by simp at hx ⊢; exact h x hx

/-- Strictly larger if it holds of one thing more. -/
theorem cnt_lt {p q : α → Prop} (h : ∀ x, p x → q x) (a : α) (ha : q a) (hn : ¬ p a) : cnt p < cnt q := by
  classical
  rw [cnt_eq, cnt_eq]
  refine Finset.card_lt_card (Finset.ssubset_iff_of_subset (fun x hx => by simp at hx ⊢; exact h x hx) |>.mpr ⟨a, by simpa using ha, by simpa using hn⟩)

/-- A count is positive where something is counted. -/
theorem cnt_pos {p : α → Prop} : 0 < cnt p ↔ ∃ a, p a := by
  classical
  rw [cnt_eq, Finset.card_pos]
  exact ⟨fun ⟨a, h⟩ => ⟨a, by simpa using h⟩, fun ⟨a, h⟩ => ⟨a, by simpa using h⟩⟩

/-- Two properties that correspond under a pair of inverse maps hold equally often. -/
theorem cnt_bij {p : α → Prop} {q : β → Prop} (f : α → β) (g : β → α) (hf : ∀ x, p x → q (f x)) (hg : ∀ y, q y → p (g y))
    (hgf : ∀ x, p x → g (f x) = x) (hfg : ∀ y, q y → f (g y) = y) : cnt p = cnt q := by
  classical
  rw [cnt_eq, cnt_eq]
  refine Finset.card_bij' (fun x _ => f x) (fun y _ => g y) ?_ ?_ ?_ ?_
  · intro x hx; simp at hx ⊢; exact hf x hx
  · intro x hx; simp at hx ⊢; exact hg x hx
  · intro x hx; simp at hx; exact hgf x hx
  · intro x hx; simp at hx; exact hfg x hx

/-- A sum of ones over the elements with a property counts them. -/
theorem sum_ind (p : α → Prop) [DecidablePred p] : (∑ x, if p x then (1 : EReal) else 0) = ((cnt p : ℕ) : EReal) := by
  rw [Finset.sum_boole, cnt_eq]

/-- A property that holds of everything below whatever it holds of, on the numbers below `n`, holds of the first ones. -/
theorem initial_iff {n : ℕ} (P : Fin n → Prop) (h : ∀ a b : Fin n, a ≤ b → P b → P a) (k : Fin n) : P k ↔ k.val < cnt P := by
  classical
  constructor
  · intro hk
    have : cnt (fun a : Fin n => a ≤ k) ≤ cnt P := cnt_mono fun a ha => h a k ha hk
    have e : cnt (fun a : Fin n => a ≤ k) = k.val + 1 := by
      rw [cnt_eq]; rw [show (Finset.univ.filter fun a : Fin n => a ≤ k) = Finset.Iic k by ext; simp]; simp
    omega
  · intro hk
    by_contra hn
    have : cnt P ≤ cnt (fun a : Fin n => a < k) := cnt_mono fun a ha => by
      by_contra hlt; exact hn (h k a (not_lt.mp hlt) ha)
    have e : cnt (fun a : Fin n => a < k) = k.val := by
      rw [cnt_eq]; rw [show (Finset.univ.filter fun a : Fin n => a < k) = Finset.Iio k by ext; simp]; simp
    omega

/-- There are `k` places before place `k`. -/
theorem cnt_lt_val {n : ℕ} (k : Fin n) : cnt (fun a : Fin n => a < k) = k.val := by
  classical
  rw [cnt_eq]; rw [show (Finset.univ.filter fun a : Fin n => a < k) = Finset.Iio k by ext; simp]; simp

end Cnt

/-- A strict total order. -/
structure Strict {α : Type} (r : α → α → Prop) : Prop where
  irrefl : ∀ a, ¬ r a a
  trans : ∀ a b c, r a b → r b c → r a c
  total : ∀ a b, a ≠ b → r a b ∨ r b a

/-- How many elements with the property `C` come before `i`. -/
def pos {α : Type} [Fintype α] (r : α → α → Prop) (C : α → Prop) (i : α) : ℕ := cnt fun j => r j i ∧ C j

section Pos

variable {α : Type} [Fintype α] {r : α → α → Prop} (hr : Strict r) {C : α → Prop}
include hr

/-- Positions follow the order. -/
theorem pos_lt {i j : α} (hi : C i) (h : r i j) : pos r C i < pos r C j :=
  cnt_lt (fun x hx => ⟨hr.trans _ _ _ hx.1 h, hx.2⟩) i ⟨h, hi⟩ fun hx => hr.irrefl _ hx.1

/-- The order can be read from the positions. -/
theorem pos_lt_iff {i j : α} (hi : C i) (hj : C j) : pos r C i < pos r C j ↔ r i j := by
  refine ⟨fun h => ?_, pos_lt hr hi⟩
  by_contra hn
  by_cases e : i = j
  · subst e; omega
  · rcases hr.total i j e with h' | h'
    · exact hn h'
    · have := pos_lt hr (C := C) hj h'; omega

/-- Different members have different positions. -/
theorem pos_inj {i j : α} (hi : C i) (hj : C j) (h : pos r C i = pos r C j) : i = j := by
  by_contra e
  rcases hr.total i j e with h' | h'
  · have := pos_lt hr (C := C) hi h'; omega
  · have := pos_lt hr (C := C) hj h'; omega

/-- A position is below the number of members. -/
theorem pos_lt_cnt {i : α} (hi : C i) : pos r C i < cnt C :=
  cnt_lt (fun x hx => hx.2) i hi fun hx => hr.irrefl _ hx.1

/-- Every number below the count of `C` is the position of an element of `C`. -/
theorem pos_surj {p : ℕ} (hp : p < cnt C) : ∃ i, C i ∧ pos r C i = p := by
  classical
  let f : {i // C i} → Fin (cnt C) := fun i => ⟨pos r C i.1, pos_lt_cnt hr i.2⟩
  have hf : Function.Injective f := fun a b h => Subtype.ext (pos_inj hr a.2 b.2 (congrArg Fin.val h))
  have hc : Fintype.card {i // C i} = Fintype.card (Fin (cnt C)) := by
    rw [Fintype.card_fin, cnt_eq, Fintype.card_subtype]
  obtain ⟨i, hi⟩ := ((Fintype.bijective_iff_injective_and_card f).mpr ⟨hf, hc⟩).2 ⟨p, hp⟩
  exact ⟨i.1, i.2, congrArg Fin.val hi⟩

end Pos

/-- The order of places is strict. -/
theorem strict_lt {n : ℕ} : Strict fun a b : Fin n => a < b :=
  ⟨fun a => lt_irrefl a, fun _ _ _ => lt_trans, fun _ _ => lt_or_gt_of_ne⟩

/-- `i` comes before `j`: a greater score, or the same score and a smaller index. -/
def Before {n : ℕ} (s : Fin n → EReal) (i j : Fin n) : Prop := s j < s i ∨ (s i = s j ∧ i < j)

/-- The order of falling score is strict. -/
theorem strict_before {n : ℕ} (s : Fin n → EReal) : Strict (Before s) where
  irrefl a h := by rcases h with h | h; exact lt_irrefl _ h; exact lt_irrefl _ h.2
  trans a b c hab hbc := by
    rcases hab with hab | ⟨e, hab⟩ <;> rcases hbc with hbc | ⟨e', hbc⟩
    · exact Or.inl (hbc.trans hab)
    · exact Or.inl (e' ▸ hab)
    · exact Or.inl (e.symm ▸ hbc)
    · exact Or.inr ⟨e.trans e', hab.trans hbc⟩
  total a b h := by
    rcases lt_trichotomy (s a) (s b) with h' | h' | h'
    · exact Or.inr (Or.inl h')
    · rcases lt_or_gt_of_ne h with h'' | h''
      · exact Or.inl (Or.inr ⟨h', h''⟩)
      · exact Or.inr (Or.inr ⟨h'.symm, h''⟩)
    · exact Or.inl (Or.inl h')

/-- The rank of `i`: how many come before it. -/
def rk {n : ℕ} (s : Fin n → EReal) (i : Fin n) : ℕ := cnt fun j => Before s j i

/-- A rank is a position among all. -/
theorem rk_eq_pos {n : ℕ} (s : Fin n → EReal) (i : Fin n) : rk s i = pos (Before s) (fun _ => True) i :=
  cnt_congr fun x => by simp

/-- Different anchors have different ranks. -/
theorem rk_inj {n : ℕ} (s : Fin n → EReal) {i j : Fin n} (h : rk s i = rk s j) : i = j :=
  pos_inj (strict_before s) (C := fun _ => True) trivial trivial (by rw [← rk_eq_pos, ← rk_eq_pos]; exact h)

/-- The order can be read from the ranks. -/
theorem rk_lt_iff {n : ℕ} (s : Fin n → EReal) {i j : Fin n} : rk s i < rk s j ↔ Before s i j := by
  rw [rk_eq_pos, rk_eq_pos]; exact pos_lt_iff (strict_before s) trivial trivial

/-! ## The stable sort by decreasing score -/

section Sorted

/-- The positions in the order of decreasing score, the smaller index first at equal scores. -/
def ordr {n : ℕ} (s : Fin n → EReal) : Fin n → Fin n := sortedFrom fun k k' => decide (s k' < s k)

open Classical in
/-- `Before` as a Boolean. -/
def beforeB {n : ℕ} (s : Fin n → EReal) (i j : Fin n) : Bool := decide (Before s i j)

/-- The decided order of falling score is strict and total. -/
theorem beforeB_strict {n : ℕ} (s : Fin n → EReal) : StrictTotalBefore (beforeB s) where
  irrefl a := by simp [beforeB, (strict_before s).irrefl a]
  trans a b c := by simp only [beforeB, decide_eq_true_eq]; exact (strict_before s).trans a b c
  total a b := by simp only [beforeB, decide_eq_true_eq]; exact (strict_before s).total a b

/-- Sorting stably by score sorts by score, then place. -/
theorem stableSort_before {n : ℕ} (s : Fin n → EReal) (l : List (Fin n)) (hl : l.Pairwise (· < ·)) :
    stableSort (fun k k' => decide (s k' < s k)) l = stableSort (beforeB s) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    unfold beforeB Before
    rw [decide_eq_decide]
    exact ⟨Or.inl, fun h => h.resolve_right fun h' => absurd h'.2 (not_lt.mpr hab.le)⟩

/-- The order as a sorted list. -/
theorem ordr_eq {n : ℕ} (s : Fin n → EReal) : ordr s = sortedFrom (beforeB s) := by
  have h : sortPositions n (fun k k' => decide (s k' < s k)) = sortPositions n (beforeB s) :=
    stableSort_before s _ (List.pairwise_lt_finRange n)
  funext k
  have e : ∀ (l l' : List (Fin n)) (hl : n = l.length) (hl' : n = l'.length), l = l' → l.get (k.cast hl) = l'.get (k.cast hl') := by
    rintro l _ hl hl' rfl; rfl
  exact e _ _ _ _ h

/-- No anchor is in two places. -/
theorem ordr_injective {n : ℕ} (s : Fin n → EReal) : Function.Injective (ordr s) := sortedFrom_injective _
/-- Every anchor is in some place. -/
theorem ordr_surjective {n : ℕ} (s : Fin n → EReal) : Function.Surjective (ordr s) := sortedFrom_surjective _

/-- Earlier places hold what comes before. -/
theorem ordr_before {n : ℕ} (s : Fin n → EReal) {p q : Fin n} (h : p < q) : Before s (ordr s p) (ordr s q) := by
  have hn := sortedFrom_noInversion (beforeB s) (beforeB s) (fun a b => (beforeB_strict s).asymm a b) (fun _ _ h => h)
    (beforeB_strict s).negTrans p q h
  rw [← ordr_eq] at hn
  have hne : ordr s p ≠ ordr s q := fun e => absurd (ordr_injective s e) (ne_of_lt h)
  rcases (strict_before s).total _ _ hne with h' | h'
  · exact h'
  · unfold beforeB at hn; simp only [decide_eq_false_iff_not] at hn; exact absurd h' hn

/-- And only those. -/
theorem ordr_before_iff {n : ℕ} (s : Fin n → EReal) {p q : Fin n} : Before s (ordr s p) (ordr s q) ↔ p < q := by
  refine ⟨fun h => ?_, ordr_before s⟩
  by_contra hn
  rcases (not_lt.mp hn).lt_or_eq with h' | h'
  · exact (strict_before s).irrefl _ ((strict_before s).trans _ _ _ h (ordr_before s h'))
  · subst h'; exact (strict_before s).irrefl _ h

/-- The element at position `p` of the sort has rank `p`. -/
theorem rk_ordr {n : ℕ} (s : Fin n → EReal) (p : Fin n) : rk s (ordr s p) = p.val := by
  rw [← cnt_lt_val p]
  obtain ⟨g, hg⟩ := (ordr_surjective s).hasRightInverse
  refine (cnt_bij (ordr s) g ?_ ?_ ?_ ?_).symm
  · intro q hq; exact ordr_before s hq
  · intro j hj; rw [← hg j] at hj; exact (ordr_before_iff s).mp hj
  · intro q _; exact ordr_injective s (hg _)
  · intro j _; exact hg j

/-- The anchor of rank `p` is in place `p`. -/
theorem eq_ordr {n : ℕ} (s : Fin n → EReal) {i p : Fin n} (h : rk s i = p.val) : i = ordr s p :=
  rk_inj s (h.trans (rk_ordr s p).symm)

/-- The scores fall along the order. -/
theorem ordr_antitone {n : ℕ} (s : Fin n → EReal) {p q : Fin n} (h : p ≤ q) : s (ordr s q) ≤ s (ordr s p) := by
  rcases h.lt_or_eq with h | h
  · rcases ordr_before s h with h | h
    · exact h.le
    · exact h.1.symm.le
  · rw [h]

end Sorted

end Rpn

end
-- ==== Proof.VBits.lean ====
module

public import proofs.«01_k».proof.Proof.VOrder
public import Idealize.ShloMosaic.Lib.Pointwise
public import Idealize.ShloMosaic.Lib.IdealHost

@[expose] public section

set_option maxRecDepth 16384

noncomputable section

/-! # Words, conditions and constants read as extended reals -/

namespace Rpn

open Idealize.ShloMosaic
open scoped BigOperators

/-- A condition read as a number. -/
def ind (p : Prop) : EReal := by classical exact if p then 1 else 0

/-- The indicator of a true proposition. -/
theorem ind_pos {p : Prop} (h : p) : ind p = 1 := by unfold ind; exact if_pos h
/-- The indicator of a false one. -/
theorem ind_neg {p : Prop} (h : ¬ p) : ind p = 0 := by unfold ind; exact if_neg h
/-- An indicator is positive where the proposition holds. -/
theorem ind_gt {p : Prop} : (0 : EReal) < ind p ↔ p := by
  by_cases h : p
  · rw [ind_pos h]; simp [h]
  · rw [ind_neg h]; simp [h]
/-- Indicators multiply to the conjunction's. -/
theorem ind_mul (p q : Prop) : ind p * ind q = ind (p ∧ q) := by
  by_cases hp : p <;> by_cases hq : q <;> simp [ind, hp, hq]
/-- A choice between one and zero is an indicator. -/
theorem ind_ite (p : Prop) [Decidable p] : (if p then (1 : EReal) else 0) = ind p := by
  by_cases h : p
  · rw [ind_pos h, if_pos h]
  · rw [ind_neg h, if_neg h]
/-- Equivalent propositions have one indicator. -/
theorem ind_congr {p q : Prop} (h : p ↔ q) : ind p = ind q := by rw [propext h]

/-- Indicators sum to a count. -/
theorem sum_indicator {α : Type} [Fintype α] (p : α → Prop) : ∑ x, ind (p x) = ((cnt p : ℕ) : EReal) := by
  classical
  rw [← sum_ind p]
  refine Finset.sum_congr rfl fun x _ => ?_
  by_cases h : p x
  · rw [ind_pos h, if_pos h]
  · rw [ind_neg h, if_neg h]

/-- A one-bit word widened and converted is the condition it holds. -/
theorem word_ofBool (p : Prop) [Decidable p] :
    (FloatOps.sitofp (F := Ideal) .f32 (BitVec.setWidth 32 (BitVec.ofBool (decide p))) : EReal) = ind p := by
  show (((BitVec.setWidth 32 (BitVec.ofBool (decide p))).toInt : ℝ) : EReal) = _
  by_cases h : p
  · rw [ind_pos h]; simp [h]
  · rw [ind_neg h]; simp [h]

/-- The bit of a conjunction. -/
theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The bit of a disjunction. -/
theorem ori_ofBool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- Choosing by a decided bit. -/
theorem select_ofBool {α : Type} (p : Prop) [Decidable p] (x y : α) :
    Scalar.select (BitVec.ofBool (decide p)) x y = if p then x else y := by
  by_cases hp : p <;> simp [hp, Scalar.select]

/-- A small index converted is itself. -/
theorem word_nat (n : ℕ) (h : n < 2 ^ 31) : (FloatOps.sitofp (F := Ideal) .f32 (BitVec.ofNat 32 n) : EReal) = ((n : ℕ) : EReal) := by
  show ((((BitVec.ofNat 32 n).toInt : ℤ) : ℝ) : EReal) = _
  have : (BitVec.ofNat 32 n).toInt = (n : ℤ) := by
    rw [BitVec.toInt_ofNat']; simp only [Int.bmod]; omega
  rw [this]; simp

/-- A small word as a number. -/
theorem word_toInt (n : ℕ) (h : n < 2 ^ 31) : ((((BitVec.ofNat 32 n).toInt : ℤ) : ℝ) : EReal) = ((n : ℕ) : EReal) := word_nat n h

/-- The offset word of a trip. -/
theorem trip_word (k m : ℕ) : Scalar.muli (Scf.iv 0#32 1#32 k) (BitVec.ofNat 32 m) = BitVec.ofNat 32 (k * m) := by
  show ((0#32 : BitVec 32) + BitVec.ofNat 32 k * 1#32) * BitVec.ofNat 32 m = _
  rw [BitVec.mul_one, BitVec.zero_add, BitVec.ofNat_mul]

/-- Counts are equal as extended reals where they are equal. -/
theorem nat_eq {a b : ℕ} : ((a : ℕ) : EReal) = ((b : ℕ) : EReal) ↔ a = b := EReal.natCast_eq_iff
/-- Likewise less. -/
theorem nat_lt {a b : ℕ} : ((a : ℕ) : EReal) < ((b : ℕ) : EReal) ↔ a < b := EReal.natCast_lt_iff
/-- Likewise at most. -/
theorem nat_le {a b : ℕ} : ((a : ℕ) : EReal) ≤ ((b : ℕ) : EReal) ↔ a ≤ b := EReal.natCast_le_iff
/-- Counts add. -/
theorem nat_add (a b : ℕ) : ((a : ℕ) : EReal) + ((b : ℕ) : EReal) = ((a + b : ℕ) : EReal) := (Nat.cast_add a b).symm
/-- Counts step down. -/
theorem nat_sub_one (a : ℕ) : ((a + 1 : ℕ) : EReal) - 1 = ((a : ℕ) : EReal) := by
  rw [← EReal.coe_natCast, ← EReal.coe_natCast, ← EReal.coe_one, ← EReal.coe_sub]; congr 1; push_cast; ring

/-! ## The constants -/

/-- The constant 256. -/
theorem c_256 : Ideal.ofBits .f32 1132462080#32 = ((256 : ℝ) : EReal) := by
  simp [Ideal.ofBits, Ideal.ieee, -EReal.coe_mul]; norm_num
/-- The constant 2000. -/
theorem c_2000 : Ideal.ofBits .f32 1157234688#32 = ((2000 : ℕ) : EReal) := by
  rw [← EReal.coe_natCast]
  simp [Ideal.ofBits, Ideal.ieee, -EReal.coe_mul]; norm_num
/-- The constant 20000. -/
theorem c_20000 : Ideal.ofBits .f32 0x469C4000#32 = ((20000 : ℕ) : EReal) := by
  rw [← EReal.coe_natCast]
  simp [Ideal.ofBits, Ideal.ieee, -EReal.coe_mul]; norm_num
/-- The constant 4096. -/
theorem c_4096 : Ideal.ofBits .f32 0x45800000#32 = ((4096 : ℕ) : EReal) := by
  rw [← EReal.coe_natCast]
  simp [Ideal.ofBits, Ideal.ieee, -EReal.coe_mul]; norm_num
/-- The constant 65536. -/
theorem c_65536 : Ideal.ofBits .f32 0x47800000#32 = ((65536 : ℝ) : EReal) := by
  simp [Ideal.ofBits, Ideal.ieee, -EReal.coe_mul]; norm_num
/-- The constant plus infinity. -/
theorem c_top : Ideal.ofBits .f32 0x7F800000#32 = ⊤ := by
  simp [Ideal.ofBits, Ideal.ieee]
/-- The constant minus infinity. -/
theorem c_bot : Ideal.ofBits .f32 0xFF800000#32 = ⊥ := by
  simp [Ideal.ofBits, Ideal.ieee]
/-- The factor that widens the score range: at least one. -/
theorem c_widen : ∃ c : ℝ, 1 ≤ c ∧ Ideal.ofBits .f32 0x3F800347#32 = (c : EReal) := by
  refine ⟨_, ?_, by simp [Ideal.ofBits, Ideal.ieee, -EReal.coe_mul]; rfl⟩
  norm_num
/-- The margin that widens the score range: positive. -/
theorem c_margin : ∃ c : ℝ, 0 < c ∧ Ideal.ofBits .f32 0x3727C5AC#32 = (c : EReal) := by
  refine ⟨_, ?_, by simp [Ideal.ofBits, Ideal.ieee, -EReal.coe_mul]; rfl⟩
  norm_num

/-- Dividing a real by 256. -/
theorem div_256 (w : ℝ) : Ideal.div (w : EReal) ((256 : ℝ) : EReal) = ((w / 256 : ℝ) : EReal) := by
  rw [Ideal.div_coe (by norm_num), ← EReal.coe_mul]; congr 1; ring
/-- Dividing a real by 65536. -/
theorem div_65536 (w : ℝ) : Ideal.div (w : EReal) ((65536 : ℝ) : EReal) = ((w / 65536 : ℝ) : EReal) := by
  rw [Ideal.div_coe (by norm_num), ← EReal.coe_mul]; congr 1; ring

/-! ## Recursions that add -/

/-- A recursion that adds one term per step is the sum of the terms. -/
theorem rec_sum {n : ℕ} (st : ℕ → EReal) (f : Fin n → EReal) (h : ∀ k : Fin n, st (k.val + 1) = st k.val + f k) :
    st n = st 0 + ∑ k, f k := by
  induction n with
  | zero => simp
  | succ n ih =>
    have hl := h (Fin.last n)
    rw [Fin.val_last] at hl
    rw [hl, Fin.sum_univ_castSucc, ← add_assoc]
    congr 1
    exact ih (fun k => f k.castSucc) fun k => h k.castSucc

/-- A loop that adds a term per trip computes the sum. -/
theorem fold_sum {n : ℕ} {σ : Type} (g : Fin n → σ → σ) (init : σ) (read : σ → EReal) (f : Fin n → EReal)
    (h : ∀ k a, read (g k a) = read a + f k) : read (Scf.fold g init) = read init + ∑ k, f k := by
  rw [Scf.fold_eq]
  have : ∀ (l : List (Fin n)) (a : σ), read (l.foldl (fun acc k => g k acc) a) = read a + (l.map f).sum := by
    intro l
    induction l with
    | nil => intro a; simp
    | cons x l ih => intro a; rw [List.foldl_cons, ih, h, List.map_cons, List.sum_cons, add_assoc]
  rw [this]
  rw [← List.ofFn_eq_map, List.sum_ofFn]

end Rpn

end
-- ==== Proof.VSelect.lean ====
module

public import proofs.«01_k».proof.Proof.VOrder

@[expose] public section

noncomputable section

/-! # The score threshold and the candidates

Two rounds of a histogram over the scores give a threshold that at least `T` scores reach and whose candidates are all
among the best ones. The candidates are then numbered by index and ranked by counting. -/

namespace Rpn

open scoped BigOperators

/-- How many scores reach `x`. -/
def reach {n : ℕ} (s : Fin n → EReal) (x : ℝ) : ℕ := cnt fun i => (x : EReal) ≤ s i

/-- Fewer scores reach a higher edge. -/
theorem reach_anti {n : ℕ} (s : Fin n → EReal) {x y : ℝ} (h : x ≤ y) : reach s y ≤ reach s x :=
  cnt_mono fun _ hi => le_trans (EReal.coe_le_coe_iff.mpr h) hi

/-- One histogram round narrows the bracket `[lo, lo + w)` of the threshold to the bin of width `w / 256` in which the
count falls below `T`. -/
theorem hist_round {n : ℕ} (s : Fin n → EReal) (T : ℕ) (lo w : ℝ) (hw : 0 < w) (h1 : T ≤ reach s lo) (h2 : reach s (lo + w) < T) :
    ∃ m : ℕ, cnt (fun k : Fin 256 => T ≤ reach s (lo + (k.val : ℝ) * (w / 256))) = m + 1
      ∧ T ≤ reach s (lo + (m : ℝ) * (w / 256)) ∧ reach s (lo + (m : ℝ) * (w / 256) + w / 256) < T := by
  have hi := initial_iff (fun k : Fin 256 => T ≤ reach s (lo + (k.val : ℝ) * (w / 256))) (fun a b hab hb => by
    refine le_trans hb (reach_anti s ?_)
    have h : ((a.val : ℕ) : ℝ) ≤ ((b.val : ℕ) : ℝ) := by exact_mod_cast hab
    have := mul_le_mul_of_nonneg_right h (le_of_lt (div_pos hw (by norm_num : (0 : ℝ) < 256)))
    linarith)
  set M := cnt (fun k : Fin 256 => T ≤ reach s (lo + (k.val : ℝ) * (w / 256))) with hM
  have h0 : 0 < M := (hi 0).mp (by simpa using h1)
  have hle : M ≤ 256 := by
    classical
    rw [hM, cnt_eq]; exact le_trans (Finset.card_filter_le _ _) (by simp)
  obtain ⟨m, hm⟩ : ∃ m, M = m + 1 := ⟨M - 1, by omega⟩
  refine ⟨m, hm, ?_, ?_⟩
  · exact (hi ⟨m, by omega⟩).mpr (by show m < M; omega)
  · by_cases hlt : m + 1 < 256
    · have := (hi ⟨m + 1, hlt⟩).not.mpr (by show ¬ m + 1 < M; omega)
      have e : lo + ((m + 1 : ℕ) : ℝ) * (w / 256) = lo + (m : ℝ) * (w / 256) + w / 256 := by push_cast; ring
      simp only at this
      rw [e] at this
      exact not_le.mp this
    · have e : lo + (m : ℝ) * (w / 256) + w / 256 = lo + w := by
        have : m = 255 := by omega
        subst this; push_cast; ring
      rw [e]; exact h2

/-- If `T` scores reach `lo` but not `lo + δ`, and the scores of ranks `T - 1` and `c` differ by at least `δ`, then at most
`c` scores reach `lo`. -/
theorem reach_le {n : ℕ} (s : Fin n → EReal) (T c : ℕ) (lo δ : ℝ) (h2 : reach s (lo + δ) < T) (i₁ i₂ : Fin n)
    (hi₁ : rk s i₁ + 1 = T) (hi₂ : rk s i₂ = c) (hgap : s i₂ + (δ : EReal) ≤ s i₁) : reach s lo ≤ c := by
  have hlt : s i₂ < (lo : EReal) := by
    by_contra hc
    have hlo : ((lo + δ : ℝ) : EReal) ≤ s i₁ := by
      rw [EReal.coe_add]; exact le_trans (add_le_add (not_lt.mp hc) le_rfl) hgap
    have : rk s i₁ < reach s (lo + δ) := by
      refine cnt_lt (fun j hj => ?_) i₁ hlo ((strict_before s).irrefl i₁)
      rcases hj with h | h
      · exact le_trans hlo h.le
      · rw [h.1]; exact hlo
    omega
  rw [← hi₂]
  exact cnt_mono fun j hj => Or.inl (lt_of_lt_of_le hlt hj)

/-! ## Numbering and ranking the candidates -/

section Compact

variable {n m : ℕ} (s : Fin n → EReal) (lo : ℝ)

/-- A candidate: its score reaches the threshold. -/
def Cand (i : Fin n) : Prop := (lo : EReal) ≤ s i

/-- The number of a candidate: how many candidates have a smaller index. -/
abbrev num (i : Fin n) : ℕ := pos (fun a b : Fin n => a < b) (Cand s lo) i

/-- What comes before a candidate is one. -/
theorem cand_of_before {i j : Fin n} (hi : Cand s lo i) (h : Before s j i) : Cand s lo j := by
  rcases h with h | h
  · exact le_trans hi h.le
  · unfold Cand; rw [h.1]; exact hi

/-- The candidates' number `u` belongs to exactly one candidate. -/
theorem exists_num {u : ℕ} (hu : u < reach s lo) : ∃ i, Cand s lo i ∧ num s lo i = u :=
  pos_surj strict_lt (C := Cand s lo) hu

/-- A one-hot sum over the elements takes the value of the candidate with number `u`. -/
theorem sum_num (f : Fin n → EReal) (c : Fin n → EReal) (u : ℕ) (hc1 : ∀ i, Cand s lo i → num s lo i = u → c i = 1)
    (hc0 : ∀ i, ¬ (Cand s lo i ∧ num s lo i = u) → c i = 0) {i : Fin n} (hi : Cand s lo i) (hu : num s lo i = u) :
    ∑ k, f k * c k = f i := by
  rw [Finset.sum_eq_single i]
  · rw [hc1 i hi hu, mul_one]
  · intro q _ hq
    rw [hc0 q, mul_zero]
    rintro ⟨hKq, eq⟩
    exact hq (pos_inj strict_lt hKq hi (eq.trans hu.symm))
  · intro h; exact absurd (Finset.mem_univ i) h

/-- Counting, over the candidates' numbers, those whose candidate comes before a given one gives that one's rank. -/
theorem rank_count (g : Fin m → Fin n) (hN : reach s lo ≤ m) (hg : ∀ i, Cand s lo i → ∀ u : Fin m, u.val = num s lo i → g u = i)
    {i : Fin n} (hi : Cand s lo i) : cnt (fun u : Fin m => u.val < reach s lo ∧ Before s (g u) i) = rk s i := by
  have hlt : ∀ {j : Fin n}, Cand s lo j → num s lo j < reach s lo := fun hj => pos_lt_cnt strict_lt hj
  have hmi : 0 < m := by have := hlt hi; omega
  refine cnt_bij g (fun j => if h : num s lo j < m then ⟨num s lo j, h⟩ else ⟨0, hmi⟩) ?_ ?_ ?_ ?_
  · intro u hu; exact hu.2
  · intro j hj
    have hC := cand_of_before s lo hi hj
    have h : num s lo j < m := lt_of_lt_of_le (hlt hC) hN
    simp only [h, dif_pos]
    refine ⟨hlt hC, ?_⟩
    rw [hg j hC _ rfl]; exact hj
  · intro u hu
    obtain ⟨j, hj, e⟩ := exists_num s lo hu.1
    rw [hg j hj u e.symm]
    simp only [e, u.isLt, dif_pos]
  · intro j hj
    have hC := cand_of_before s lo hi hj
    have h : num s lo j < m := lt_of_lt_of_le (hlt hC) hN
    simp only [h, dif_pos]
    exact hg j hC _ rfl

/-- The elements of the first ranks are candidates. -/
theorem cand_of_rk {i : Fin n} (h : rk s i < reach s lo) : Cand s lo i := by
  by_contra hc
  have : reach s lo ≤ rk s i := cnt_mono fun j hj => Or.inl (lt_of_lt_of_le (not_le.mp hc) hj)
  omega

end Compact

end Rpn

end
-- ==== Proof.KVHist.lean ====
module

public import proofs.«01_k».proof.Proof.Gen.KernelIdeal.Loops
public import proofs.«01_k».proof.Proof.VBits
public import proofs.«01_k».proof.Proof.VSelect
public import Idealize.ShloMosaic.Lib.WholeRead

@[expose] public section

set_option maxRecDepth 16384

noncomputable section

/-! # The kernel's histogram rounds -/

namespace Cert.KernelIdeal.Value

open Cert.KernelIdeal Cert.KernelIdeal.Gen
open Idealize.ShloMosaic Rpn
open scoped BigOperators

variable (c : Dev nD) (i : grid0.Coords) (arg1 : Memref sig .tc .vmem S1x1x20480 .f32) (harg1 : arg1.IsWhole)
  (arg2 : Memref sig .tc .vmem S1x4x20480 .f32) (harg2 : arg2.IsWhole) (arg3 : Memref sig .tc .vmem S4x20480 .f32) (harg3 : arg3.IsWhole)
  (arg4 : Memref sig .tc .vmem S1x1000x4 .f32) (harg4 : arg4.IsWhole) (arg5 : Memref sig .tc .vmem S1x1x1000 .f32) (harg5 : arg5.IsWhole)
  (arg6 : Memref sig .tc .vmem S512x512 .f32) (harg6 : arg6.IsWhole) (arg7 : Memref sig .tc .vmem S2048x2048 .f32) (harg7 : arg7.IsWhole)
  (x0 : Vec Ideal S1x1x20480 .f32) (x1 : Vec Ideal S1x4x20480 .f32) (x2 : Vec Ideal S4x20480 .f32)

/-- The scores of the image, in the order of the proposals. -/
def sc (x0 : Vec Ideal S1x1x20480 .f32) (i : Fin 20480) : EReal := x0 (ix3 0 0 i)

/-- Two histogram rounds. -/
theorem trips1 : k0_t1_loop.trips = 2 := by decide
/-- Twenty chunks of scores in a round. -/
theorem trips2 : k0_t2_loop.trips = 20 := by decide
/-- Forty chunks of the compaction. -/
theorem trips3 : k0_t3_loop.trips = 40 := by decide
/-- Sixteen chunks of the ranking. -/
theorem trips4 : k0_t4_loop.trips = 16 := by decide

/-- A round's number is below two. -/
theorem lt1 (q : Fin k0_t1_loop.trips) : q.val < 2 := lt_of_lt_of_eq q.isLt trips1
/-- A chunk's number is below twenty. -/
theorem lt2 (q : Fin k0_t2_loop.trips) : q.val < 20 := lt_of_lt_of_eq q.isLt trips2
/-- A chunk's number is below forty. -/
theorem lt3 (q : Fin k0_t3_loop.trips) : q.val < 40 := lt_of_lt_of_eq q.isLt trips3
/-- A chunk's number is below sixteen. -/
theorem lt4 (q : Fin k0_t4_loop.trips) : q.val < 16 := lt_of_lt_of_eq q.isLt trips4

/-- The offset word of a trip. -/
theorem trip_toNat (k m : ℕ) (h : k * m < 2 ^ 32) : (Scalar.muli (Scf.iv 0#32 1#32 k) (BitVec.ofNat 32 m)).toNat = k * m := by
  rw [trip_word, BitVec.toNat_ofNat, Nat.mod_eq_of_lt h]

/-- Where a chunk of scores is read. -/
theorem off1_idx (q : Fin k0_t2_loop.trips) (l : Fin 1024) :
    (Rect.unit (s := S1x1x20480) (k0_off1 q) S1x1x1024.size (k0_off1_inb q)).toLoadRect.idx (ix3 0 0 l)
      = ix3 0 0 ⟨q.val * 1024 + l.val, by have := lt2 q; omega⟩ := by
  funext a
  refine Fin.ext ?_
  have := lt2 q
  have hw : k0_off1 q 2 = q.val * 1024 := trip_toNat q.val 1024 (by omega)
  match a with
  | 0 => rfl
  | 1 => rfl
  | 2 => show k0_off1 q 2 + 1 * l.val = _; rw [hw, one_mul]; rfl

/-- One chunk adds its scores at or above each edge. -/
theorem pay15_at (lo w : EReal) (x : FVec Ideal S256x1 .f32) (v0 : Vec Ideal S1x1x1024 .f32) (k : Fin 256) :
    k0_pay15 (F := Ideal) lo w x v0 (ix2 k 0)
      = x (ix2 k 0) + ∑ l, ind (lo + ((k.val : ℕ) : EReal) * Ideal.div w ((256 : ℝ) : EReal) ≤ v0 (ix3 0 0 l)) := by
  pointwise [k0_pay15, k0_pay13]
  simp only [word_ofBool, c_256]
  rw [word_nat k.val (by omega)]

/-- The number of scores at or above the lower edge of bin `k`. -/
def bin (s : Fin 20480 → EReal) (lo w : EReal) (k : Fin 256) : ℕ :=
  cnt fun i : Fin 20480 => lo + ((k.val : ℕ) : EReal) * Ideal.div w ((256 : ℝ) : EReal) ≤ s i

/-- The counts after all chunks. -/
theorem hist_at (lo w : EReal) (k : Fin 256) :
    st_k0_t2 (F := Ideal) Variants.nat c none i arg1 harg1 arg2 harg2 arg3 harg3 arg4 harg4 arg5 harg5 arg6 harg6 arg7 harg7 lo w
      (harg1.unread x0) k0_pay14 (Scf.trips k0_t2_loop.lb k0_t2_loop.ub k0_t2_loop.st) (ix2 k 0) = ((bin (sc x0) lo w k : ℕ) : EReal) := by
  have h := rec_sum (n := k0_t2_loop.trips)
    (fun n => st_k0_t2 (F := Ideal) Variants.nat c none i arg1 harg1 arg2 harg2 arg3 harg3 arg4 harg4 arg5 harg5 arg6 harg6 arg7 harg7 lo w
      (harg1.unread x0) k0_pay14 n (ix2 k 0))
    (fun q => ∑ l : Fin 1024, ind (lo + ((k.val : ℕ) : EReal) * Ideal.div w ((256 : ℝ) : EReal) ≤ sc x0 ⟨q.val * 1024 + l.val, by have := lt2 q; omega⟩)) (fun q => by
      beta_reduce
      rw [st_k0_t2_succ]
      unfold tripR_k0_t2 trip_k0_t2
      refine (pay15_at _ _ _ _ k).trans ?_
      congr 1
      refine Finset.sum_congr rfl fun l _ => ?_
      refine ind_congr ?_
      rw [Memref.IsWhole.readAt_unread, off1_idx]; rfl)
  refine Eq.trans h ?_
  rw [← Fin.sum_univ_tiles k0_t2_loop.trips 1024 (by rw [trips2]) (fun i : Fin 20480 => ind (lo + ((k.val : ℕ) : EReal) * Ideal.div w ((256 : ℝ) : EReal) ≤ sc x0 i)), sum_indicator]
  have : k0_pay14 (F := Ideal) (ix2 k 0) = 0 := by pointwise [k0_pay14]
  show k0_pay14 (F := Ideal) (ix2 k 0) + _ = _
  rw [this, zero_add]; rfl

/-- The lower edge of the last cell whose count reaches 2000. -/
theorem pay16_at (lo w : EReal) (x : FVec Ideal S256x1 .f32) (f : Fin 256 → ℕ) (hx : ∀ k, x (ix2 k 0) = ((f k : ℕ) : EReal)) :
    k0_pay16 (F := Ideal) lo w x
      = lo + (((cnt fun k => 2000 ≤ f k : ℕ) : EReal) - 1) * Ideal.div w ((256 : ℝ) : EReal) := by
  pointwise [k0_pay16, k0_pay13]
  simp only [Fin.sum_univ_one]
  simp only [word_ofBool, c_256, c_2000, hx, nat_le, sum_indicator]

/-- The width of one cell. -/
theorem pay13_at (w : EReal) : k0_pay13 (F := Ideal) w = Ideal.div w ((256 : ℝ) : EReal) := by
  pointwise [k0_pay13]
  rw [c_256]

/-- One round on a bracket with real ends: a narrower bracket. -/
theorem round_real (s : Fin 20480 → EReal) (lo w : ℝ) (hw : 0 < w) (h1 : 2000 ≤ reach s lo) (h2 : reach s (lo + w) < 2000) :
    ∃ lo' : ℝ, (lo : EReal) + (((cnt fun k => 2000 ≤ bin s lo w k : ℕ) : EReal) - 1) * Ideal.div (w : EReal) ((256 : ℝ) : EReal) = (lo' : EReal)
      ∧ 2000 ≤ reach s lo' ∧ reach s (lo' + w / 256) < 2000 := by
  obtain ⟨m, hm, ha, hb⟩ := hist_round s 2000 lo w hw h1 h2
  refine ⟨lo + (m : ℝ) * (w / 256), ?_, ha, hb⟩
  have : (fun k => 2000 ≤ bin s lo w k) = (fun k : Fin 256 => 2000 ≤ reach s (lo + (k.val : ℝ) * (w / 256))) := by
    funext k
    unfold bin reach
    rw [div_256]
    simp only [EReal.coe_add, EReal.coe_mul, EReal.coe_natCast]
  rw [this, hm, nat_sub_one, div_256]
  simp only [EReal.coe_add, EReal.coe_mul, EReal.coe_natCast]

/-- Both rounds: from a bracket with real ends to one a factor 65536 narrower. -/
theorem rounds (lo w : ℝ) (hw : 0 < w) (h1 : 2000 ≤ reach (sc x0) lo) (h2 : reach (sc x0) (lo + w) < 2000)
    (a b : Ideal .f32) (ha : a = (lo : EReal)) (hb : b = (w : EReal)) :
    ∃ lo' : ℝ, (st_k0_t1 (F := Ideal) Variants.nat c none i arg1 harg1 arg2 harg2 arg3 harg3 arg4 harg4 arg5 harg5 arg6 harg6 arg7 harg7
      (harg1.unread x0) (a, b) (Scf.trips k0_t1_loop.lb k0_t1_loop.ub k0_t1_loop.st)).1 = (lo' : EReal)
      ∧ 2000 ≤ reach (sc x0) lo' ∧ reach (sc x0) (lo' + w / 65536) < 2000 := by
  subst ha hb
  have step : ∀ (n : Fin k0_t1_loop.trips) (lo w : ℝ), 0 < w → 2000 ≤ reach (sc x0) lo → reach (sc x0) (lo + w) < 2000 → ∀ st : Ideal .f32 × Ideal .f32,
      st = ((lo : EReal), (w : EReal)) → ∃ lo' : ℝ, tripR_k0_t1 (F := Ideal) Variants.nat c none i arg1 harg1 arg2 harg2 arg3 harg3 arg4 harg4 arg5 harg5 arg6 harg6 arg7 harg7
        (harg1.unread x0) n st = ((lo' : EReal), ((w / 256 : ℝ) : EReal)) ∧ 2000 ≤ reach (sc x0) lo' ∧ reach (sc x0) (lo' + w / 256) < 2000 := by
    intro n lo w hw h1 h2 st hst
    subst hst
    obtain ⟨lo', e, h3, h4⟩ := round_real (sc x0) lo w hw h1 h2
    refine ⟨lo', ?_, h3, h4⟩
    unfold tripR_k0_t1 trip_k0_t1
    refine Prod.ext ?_ ?_
    · refine Eq.trans (pay16_at _ _ _ (bin (sc x0) lo w) (fun k => hist_at c i arg1 harg1 arg2 harg2 arg3 harg3 arg4 harg4 arg5 harg5 arg6 harg6 arg7 harg7 x0 lo w k)) e
    · exact (pay13_at _).trans (div_256 w)
  have t : Scf.trips k0_t1_loop.lb k0_t1_loop.ub k0_t1_loop.st = 2 := trips1
  rw [t]
  obtain ⟨lo1, e1, h3, h4⟩ := step ⟨0, by rw [trips1]; norm_num⟩ lo w hw h1 h2 _ (st_k0_t1_zero (F := Ideal) Variants.nat c none i arg1 harg1 arg2 harg2 arg3 harg3 arg4 harg4 arg5 harg5 arg6 harg6 arg7 harg7 (harg1.unread x0) ((lo : EReal), (w : EReal)))
  rw [← st_k0_t1_succ] at e1
  obtain ⟨lo2, e2, h5, h6⟩ := step ⟨1, by rw [trips1]; norm_num⟩ lo1 (w / 256) (by positivity) h3 h4 _ e1
  rw [← st_k0_t1_succ] at e2
  refine ⟨lo2, congrArg Prod.fst e2, h5, ?_⟩
  rw [show w / 65536 = w / 256 / 256 by ring]; exact h6

end Cert.KernelIdeal.Value

end
-- ==== Proof.KVBracket.lean ====
module

public import proofs.«01_k».proof.Proof.KVHist

@[expose] public section

set_option maxRecDepth 16384

noncomputable section

/-! # The bracket the kernel's threshold search starts from -/

namespace Cert.KernelIdeal.Value

open Cert.KernelIdeal Cert.KernelIdeal.Gen
open Idealize.ShloMosaic Rpn
open scoped BigOperators

/-- `m` is the least of a finite family. -/
def IsMin {α : Type} (s : α → EReal) (m : EReal) : Prop := (∃ i, s i = m) ∧ ∀ i, m ≤ s i
/-- `M` is the greatest of a finite family. -/
def IsMax {α : Type} (s : α → EReal) (M : EReal) : Prop := (∃ i, s i = M) ∧ ∀ i, s i ≤ M

/-- There is one least value. -/
theorem IsMin.unique {α : Type} {s : α → EReal} {m m' : EReal} (h : IsMin s m) (h' : IsMin s m') : m = m' := by
  obtain ⟨⟨i, hi⟩, h1⟩ := h
  obtain ⟨⟨j, hj⟩, h2⟩ := h'
  exact le_antisymm (hj ▸ h1 j) (hi ▸ h2 i)
/-- There is one greatest value. -/
theorem IsMax.unique {α : Type} {s : α → EReal} {m m' : EReal} (h : IsMax s m) (h' : IsMax s m') : m = m' := by
  obtain ⟨⟨i, hi⟩, h1⟩ := h
  obtain ⟨⟨j, hj⟩, h2⟩ := h'
  exact le_antisymm (hi ▸ h2 i) (hj ▸ h1 j)

/-- A fold of minima gives the least value. -/
theorem isMin_fold {α : Type} [Fintype α] [Nonempty α] (f : α → EReal) : IsMin f (Finset.univ.fold min ⊤ f) := by
  have h1 := (Finset.le_fold_min (f := f) (b := ⊤) (s := Finset.univ) (Finset.univ.fold min ⊤ f)).mp le_rfl
  have h2 := (Finset.fold_min_le (f := f) (b := ⊤) (s := Finset.univ) (Finset.univ.fold min ⊤ f)).mp le_rfl
  refine ⟨?_, fun i => h1.2 i (Finset.mem_univ i)⟩
  rcases h2 with h | ⟨i, _, h⟩
  · obtain ⟨i⟩ := ‹Nonempty α›
    exact ⟨i, le_antisymm (le_trans le_top h) (h1.2 i (Finset.mem_univ i))⟩
  · exact ⟨i, le_antisymm h (h1.2 i (Finset.mem_univ i))⟩

/-- A fold of maxima gives the greatest value. -/
theorem isMax_fold {α : Type} [Fintype α] [Nonempty α] (f : α → EReal) : IsMax f (Finset.univ.fold max ⊥ f) := by
  have h1 := (Finset.fold_max_le (f := f) (b := ⊥) (s := Finset.univ) (Finset.univ.fold max ⊥ f)).mp le_rfl
  have h2 := (Finset.le_fold_max (f := f) (b := ⊥) (s := Finset.univ) (Finset.univ.fold max ⊥ f)).mp le_rfl
  refine ⟨?_, fun i => h1.2 i (Finset.mem_univ i)⟩
  rcases h2 with h | ⟨i, _, h⟩
  · obtain ⟨i⟩ := ‹Nonempty α›
    exact ⟨i, le_antisymm (h1.2 i (Finset.mem_univ i)) (le_trans h bot_le)⟩
  · exact ⟨i, le_antisymm (h1.2 i (Finset.mem_univ i)) h⟩

/-- The scores of the proposals, without the padding. -/
abbrev scR (x0 : Vec Ideal S1x1x20480 .f32) (i : Fin 20000) : EReal := sc x0 (i.castLE (by norm_num))

variable (x0 : Vec Ideal S1x1x20480 .f32) (hreal : ∀ i : Fin 20000, ∃ r : ℝ, scR x0 i = (r : EReal))
  (hpad : ∀ i : Fin 20480, 20000 ≤ i.val → sc x0 i = ⊥)

include hreal in
/-- The histogram starts at the least score. -/
theorem pay11_at : IsMin (scR x0) (k0_pay11 (F := Ideal) x0) := by
  have hf : k0_pay11 (F := Ideal) x0 = Finset.univ.fold min ⊤ (fun x : Fin 1 × Fin 20480 => if x.2.val < 20000 then sc x0 x.2 else ⊤) := by
    pointwise [k0_pay11, k0_pay9]
    rw [c_top]
    congr 1
    funext x
    rw [word_nat x.2.val (by omega), show Ideal.ofBits FTy.f32 1184645120#32 = _ from c_20000]
    have h1 : x.1 = 0 := Fin.eq_zero _
    simp only [nat_lt, h1]; rfl
  have h := isMin_fold (fun x : Fin 1 × Fin 20480 => if x.2.val < 20000 then sc x0 x.2 else ⊤)
  rw [← hf] at h
  obtain ⟨⟨i, hi⟩, h1⟩ := h
  have hle : ∀ j : Fin 20000, k0_pay11 (F := Ideal) x0 ≤ scR x0 j := fun j => by
    have := h1 (0, j.castLE (by norm_num))
    beta_reduce at this
    rwa [if_pos (show (j.castLE (by norm_num : 20000 ≤ 20480)).val < 20000 from j.isLt)] at this
  refine ⟨?_, hle⟩
  beta_reduce at hi
  by_cases hlt : i.2.val < 20000
  · rw [if_pos hlt] at hi
    exact ⟨⟨i.2.val, hlt⟩, hi⟩
  · rw [if_neg hlt] at hi
    obtain ⟨r, hr⟩ := hreal 0
    have := hle 0
    rw [← hi, hr] at this
    exact absurd this (not_le.mpr (EReal.coe_lt_top r))

include hreal hpad in
/-- Its width is the widened spread of the scores. -/
theorem pay12_at : ∃ M, IsMax (scR x0) M ∧ k0_pay12 (F := Ideal) x0
    = (M - k0_pay11 (F := Ideal) x0) * Ideal.ofBits .f32 0x3F800347#32 + Ideal.ofBits .f32 0x3727C5AC#32 := by
  have hf : k0_pay12 (F := Ideal) x0 = (Finset.univ.fold max ⊥ (fun x : Fin 1 × Fin 20480 => sc x0 x.2) - k0_pay11 (F := Ideal) x0)
      * Ideal.ofBits .f32 0x3F800347#32 + Ideal.ofBits .f32 0x3727C5AC#32 := by
    pointwise [k0_pay12, k0_pay9]
    rw [c_bot]
    have : (fun x : Fin 1 × Fin 20480 => x0 (ix3 0 x.1 x.2)) = fun x : Fin 1 × Fin 20480 => sc x0 x.2 := by
      funext x
      have h1 : x.1 = 0 := Fin.eq_zero _
      rw [h1]; rfl
    rw [this]
  refine ⟨_, ?_, hf⟩
  obtain ⟨⟨i, hi⟩, h1⟩ := isMax_fold (fun x : Fin 1 × Fin 20480 => sc x0 x.2)
  have hle : ∀ j : Fin 20000, scR x0 j ≤ Finset.univ.fold max ⊥ (fun x : Fin 1 × Fin 20480 => sc x0 x.2) := fun j =>
    h1 (0, j.castLE (by norm_num))
  refine ⟨?_, hle⟩
  beta_reduce at hi
  by_cases hlt : i.2.val < 20000
  · exact ⟨⟨i.2.val, hlt⟩, hi⟩
  · rw [hpad i.2 (not_lt.mp hlt)] at hi
    obtain ⟨r, hr⟩ := hreal 0
    have := hle 0
    rw [← hi, hr] at this
    exact absurd (le_bot_iff.mp this) (EReal.coe_ne_bot r)

/-- The width of the bracket the search starts from, for a range of scores. -/
def width (m M : EReal) : EReal := (M - m) * Ideal.ofBits .f32 0x3F800347#32 + Ideal.ofBits .f32 0x3727C5AC#32

/-- For real scores the width is real, positive, and reaches beyond the greatest score. -/
theorem width_real (m M : ℝ) (h : m ≤ M) : ∃ w : ℝ, width m M = (w : EReal) ∧ 0 < w ∧ M < m + w := by
  obtain ⟨c1, h1, e1⟩ := c_widen
  obtain ⟨c2, h2, e2⟩ := c_margin
  refine ⟨(M - m) * c1 + c2, ?_, ?_, ?_⟩
  · unfold width; rw [e1, e2, ← EReal.coe_sub, ← EReal.coe_mul, ← EReal.coe_add]
  · have := mul_nonneg (sub_nonneg.mpr h) (by linarith : (0 : ℝ) ≤ c1); linarith
  · have := mul_le_mul_of_nonneg_left h1 (sub_nonneg.mpr h); linarith

/-- At the least score everything is reached; above the greatest nothing is. -/
theorem reach_start (m : ℝ) (hm : IsMin (scR x0) (m : EReal)) : 2000 ≤ reach (sc x0) m := by
  have h : cnt (fun i : Fin 20480 => i.val < 20000) ≤ reach (sc x0) m := cnt_mono fun i hi => hm.2 ⟨i.val, hi⟩
  have h2 : cnt (fun i : Fin 20480 => i.val < 20000) = 20000 := cnt_lt_val (n := 20480) ⟨20000, by norm_num⟩
  omega

include hpad in
/-- No score lies beyond the histogram's end. -/
theorem reach_end (M y : ℝ) (hM : IsMax (scR x0) (M : EReal)) (hy : M < y) : reach (sc x0) y < 2000 := by
  have : reach (sc x0) y = 0 := by
    by_contra hc
    obtain ⟨i, hi⟩ := cnt_pos.mp (Nat.pos_of_ne_zero hc)
    by_cases hlt : i.val < 20000
    · have := le_trans hi (hM.2 ⟨i.val, hlt⟩)
      exact absurd (EReal.coe_le_coe_iff.mp this) (not_le.mpr hy)
    · rw [hpad i (not_lt.mp hlt)] at hi
      exact EReal.coe_ne_bot y (le_bot_iff.mp hi)
  omega

end Cert.KernelIdeal.Value

end
-- ==== Proof.VBox.lean ====
module

public import proofs.«01_k».proof.Proof.VBits

@[expose] public section

noncomputable section

/-! # Boxes: decoding, area, overlap -/

namespace Rpn

open Idealize.ShloMosaic

/-- The overlap threshold of the suppression. -/
def thr : EReal := Ideal.ofBits FTy.f32 0x3F333333#32
/-- The smallest denominator of an overlap. -/
def eps : EReal := Ideal.ofBits FTy.f32 0x3089705F#32
/-- One half. -/
def half : EReal := Ideal.ofBits FTy.f32 0x3F000000#32
/-- The largest logarithmic change of a width or a height. -/
def clipw : EReal := Ideal.ofBits FTy.f32 0x40845349#32
/-- The width and height of the image. -/
def side : EReal := Ideal.ofBits FTy.f32 0x44480000#32
/-- The smallest width and height of a box that counts. -/
def minSize : EReal := Ideal.ofBits FTy.f32 0x3A83126F#32

/-- The area of a box (corners `x1, y1, x2, y2`). -/
def area (b : Fin 4 → EReal) : EReal := max (b 2 - b 0) 0 * max (b 3 - b 1) 0

/-- The area two boxes share. -/
def inter (b b' : Fin 4 → EReal) : EReal :=
  max (min (b 2) (b' 2) - max (b 0) (b' 0)) 0 * max (min (b 3) (b' 3) - max (b 1) (b' 1)) 0

/-- Two boxes overlap by more than the threshold. -/
def Overlap (b b' : Fin 4 → EReal) : Prop :=
  thr < Ideal.div (inter b b') (max (area b + area b' - inter b b') eps)

/-- The low corner of a decoded side: offset `d`, logarithmic scale `e`, anchor low corner `a`, anchor length `w`. -/
def lowOf (d e a w : EReal) : EReal := min side (max 0 (d * w + (a + half * w) - half * (Ideal.exp (min e clipw) * w)))
/-- The high corner of a decoded side. -/
def highOf (d e a w : EReal) : EReal := min side (max 0 (d * w + (a + half * w) + half * (Ideal.exp (min e clipw) * w)))

/-- The clipped box decoded from the four deltas and the four corners of the anchor. -/
def boxOf (dx dy dw dh a0 a1 a2 a3 : EReal) : Fin 4 → EReal :=
  ![lowOf dx dw a0 (a2 - a0), lowOf dy dh a1 (a3 - a1), highOf dx dw a0 (a2 - a0), highOf dy dh a1 (a3 - a1)]

/-- A box is large enough to count. -/
def Big (b : Fin 4 → EReal) : Prop := minSize ≤ b 2 - b 0 ∧ minSize ≤ b 3 - b 1

end Rpn

end
-- ==== Proof.KVRank.lean ====
module

public import proofs.«01_k».proof.Proof.VBits
public import proofs.«01_k».proof.Proof.VSelect
public import proofs.«01_k».proof.Proof.Gen.KernelIdeal.Skeleton

@[expose] public section

set_option maxRecDepth 16384

noncomputable section

/-! # The kernel's ranks and its sort -/

namespace Rpn

open scoped BigOperators

/-- A sum over 2048 lanes by quarters. -/
theorem sum_four (f : Fin 2048 → EReal) : ∑ j, f j
    = (∑ x : Fin 512, f ⟨x.val, by omega⟩) + (∑ x : Fin 512, f ⟨512 + x.val, by omega⟩)
      + (∑ x : Fin 512, f ⟨1024 + x.val, by omega⟩) + ∑ x : Fin 512, f ⟨1536 + x.val, by omega⟩ := by
  rw [Idealize.ShloMosaic.Fin.sum_univ_tiles 4 512 (by norm_num) f, Fin.sum_univ_four]
  refine congrArg₂ (· + ·) (congrArg₂ (· + ·) (congrArg₂ (· + ·) ?_ ?_) ?_) ?_ <;>
    refine Finset.sum_congr rfl fun x _ => congrArg f (Fin.ext ?_)
  · show 0 * 512 + x.val = x.val; omega
  · show 1 * 512 + x.val = 512 + x.val; omega
  · show 2 * 512 + x.val = 1024 + x.val; omega
  · show 3 * 512 + x.val = 1536 + x.val; omega

/-- A one-hot sum reads one entry. -/
theorem sum_onehot {n : ℕ} (f : Fin n → EReal) (m : ℕ) (h : m < n) :
    ∑ x : Fin n, (if ((m : ℕ) : EReal) = ((x.val : ℕ) : EReal) then (1 : EReal) else 0) * f x = f ⟨m, h⟩ := by
  rw [Finset.sum_eq_single ⟨m, h⟩]
  · rw [if_pos rfl, one_mul]
  · intro x _ hx
    rw [if_neg, zero_mul]
    intro e
    exact hx (Fin.ext (nat_eq.mp e).symm)
  · intro h'; exact absurd (Finset.mem_univ _) h'

end Rpn

namespace Cert.KernelIdeal.Value

open Cert.KernelIdeal Cert.KernelIdeal.Gen
open Idealize.ShloMosaic Rpn
open scoped BigOperators

/-- A chunk's number is below sixteen. -/
theorem ltq4 (q : Fin k0_t4_loop.trips) : q.val < 16 := lt_of_lt_of_eq q.isLt (by decide : k0_t4_loop.trips = 16)

/-- One chunk adds, to each slot, its candidates that come before it. -/
theorem pay22_at (G : FVec Ideal S10x2048 .f32) (N : ℕ) (k : Fin k0_t4_loop.trips) (x : FVec Ideal S1x2048 .f32) (j : Fin 2048) :
    (k0_pay22 (F := Ideal) G ((N : ℕ) : EReal) k x (ix2 0 j) : EReal)
      = x (ix2 0 j) + ∑ l : Fin 128, ind (k.val * 128 + l.val < N ∧ ((G (ix2 0 j) : EReal) < G (ix2 0 ⟨k.val * 128 + l.val, by have := ltq4 k; omega⟩)
          ∨ ((G (ix2 0 ⟨k.val * 128 + l.val, by have := ltq4 k; omega⟩) : EReal) = G (ix2 0 j) ∧ (G (ix2 1 ⟨k.val * 128 + l.val, by have := ltq4 k; omega⟩) : EReal) < G (ix2 1 j)))) := by
  have hk := ltq4 k
  pointwise [k0_pay22, k0_pay20]
  congr 1
  refine Finset.sum_congr rfl fun l _ => ?_
  have hl : (FloatOps.sitofp (F := Ideal) .f32 (BitVec.ofNat 32 l.val) : EReal) + ((((Scalar.muli (Scf.iv 0#32 1#32 k.val) 128#32).toInt : ℤ) : ℝ) : EReal)
      = ((k.val * 128 + l.val : ℕ) : EReal) := by
    rw [trip_word, word_toInt _ (by omega), word_nat _ (by omega), nat_add, Nat.add_comm]
  have h1 : ∀ f : Fin 10, (∑ x_1 : Fin 2048, (if (FloatOps.sitofp (F := Ideal) .f32 (BitVec.ofNat 32 l.val) : EReal) + ((((Scalar.muli (Scf.iv 0#32 1#32 k.val) 128#32).toInt : ℤ) : ℝ) : EReal)
      = FloatOps.sitofp (F := Ideal) .f32 (BitVec.ofNat 32 x_1.val) then (1 : EReal) else 0) * G (ix2 f x_1)) = G (ix2 f ⟨k.val * 128 + l.val, by omega⟩) := by
    intro f
    rw [← sum_onehot (fun x => G (ix2 f x)) (k.val * 128 + l.val) (by omega)]
    refine Finset.sum_congr rfl fun x _ => ?_
    rw [hl, word_nat x.val (by omega)]
  simp only [andi_ofBool, ori_ofBool, word_ofBool]
  rw [h1 0, h1 1]
  refine ind_congr ?_
  rw [hl, nat_lt]

/-- The ranking starts at zero. -/
theorem pay21_at (j : Fin 2048) : (k0_pay21 (F := Ideal) (ix2 0 j) : EReal) = 0 := by pointwise [k0_pay21]

/-- The rank the kernel counts for a column of the gathered rows. -/
def rank0 (G : FVec Ideal S10x2048 .f32) (N : ℕ) (j : Fin 2048) : ℕ :=
  cnt fun u : Fin 2048 => u.val < N ∧ ((G (ix2 0 j) : EReal) < G (ix2 0 u) ∨ ((G (ix2 0 u) : EReal) = G (ix2 0 j) ∧ (G (ix2 1 u) : EReal) < G (ix2 1 j)))

/-- The rank of a slot is the number of candidates before it. -/
theorem rank_fold (G : FVec Ideal S10x2048 .f32) (N : ℕ) (b : EReal) (hb : b = ((N : ℕ) : EReal)) (j : Fin 2048) :
    (Scf.fold (fun a a_1 => k0_pay22 (F := Ideal) G b a a_1) k0_pay21 (ix2 0 j) : EReal) = ((rank0 G N j : ℕ) : EReal) := by
  subst hb
  have h := fold_sum (n := k0_t4_loop.trips) (fun a a_1 => k0_pay22 (F := Ideal) G ((N : ℕ) : EReal) a a_1) k0_pay21 (fun v => v (ix2 0 j)) _
    (fun k a => pay22_at G N k a j)
  refine h.trans ?_
  rw [← Fin.sum_univ_tiles k0_t4_loop.trips 128 (by decide) (fun u : Fin 2048 => ind (u.val < N ∧ ((G (ix2 0 j) : EReal) < G (ix2 0 u)
    ∨ ((G (ix2 0 u) : EReal) = G (ix2 0 j) ∧ (G (ix2 1 u) : EReal) < G (ix2 1 j))))), sum_indicator, pay21_at, zero_add]
  rfl

/-- A slot without a candidate is given a rank beyond all. -/
theorem pay23_at (N : ℕ) (b : EReal) (hb : b = ((N : ℕ) : EReal)) (r : FVec Ideal S1x2048 .f32) (j : Fin 2048) :
    (k0_pay23 (F := Ideal) b r (ix2 0 j) : EReal) = if j.val < N then r (ix2 0 j) else ((4096 : ℕ) : EReal) := by
  subst hb
  pointwise [k0_pay23, k0_pay20]
  rw [word_nat j.val (by omega), show Ideal.ofBits FTy.f32 1166016512#32 = _ from c_4096]
  simp only [nat_lt]

/-- The number of a place. -/
theorem pay24_at (j : Fin 2048) : (k0_pay24 (F := Ideal) (ix2 j 0) : EReal) = ((j.val : ℕ) : EReal) := by
  pointwise [k0_pay24]
  exact word_nat j.val (by omega)

/-- The one-hot product takes the slot of rank `p` to place `p`. -/
theorem pay26_at (G : FVec Ideal S10x2048 .f32) (b : EReal) (r : FVec Ideal S1x2048 .f32) (f : Fin 10) (p : Fin 2048) :
    (k0_pay26 (F := Ideal) G (k0_pay23 b r) k0_pay24 (k0_pay25 G b r) (ix2 f p) : EReal)
      = ∑ j : Fin 2048, if ((p.val : ℕ) : EReal) = k0_pay23 (F := Ideal) b r (ix2 0 j) ∧ p.val < 2000 then (G (ix2 f j) : EReal) else 0 := by
  have h25 : (k0_pay25 (F := Ideal) G b r (ix2 f p) : EReal)
      = (∑ x : Fin 512, if ((p.val : ℕ) : EReal) = k0_pay23 (F := Ideal) b r (ix2 0 ⟨x.val, by omega⟩) ∧ p.val < 2000 then (G (ix2 f ⟨x.val, by omega⟩) : EReal) else 0)
        + ∑ x : Fin 512, if ((p.val : ℕ) : EReal) = k0_pay23 (F := Ideal) b r (ix2 0 ⟨512 + x.val, by omega⟩) ∧ p.val < 2000 then (G (ix2 f ⟨512 + x.val, by omega⟩) : EReal) else 0 := by
    pointwise [k0_pay25]
    simp only [andi_ofBool, select_ofBool, pay24_at, c_2000, nat_lt]
  rw [sum_four, ← h25]
  pointwise [k0_pay26]
  simp only [andi_ofBool, select_ofBool, pay24_at, c_2000, nat_lt]

section Sorted

variable {n : ℕ} (s : Fin n → EReal) (lo : ℝ) (F : Fin 10 → Fin n → EReal) (G : FVec Ideal S10x2048 .f32)
  (hG : ∀ f u, (G (ix2 f u) : EReal) = ∑ q : Fin n, F f q * ind (Cand s lo q ∧ u.val = num s lo q))
  (h0 : ∀ q, F 0 q = s q) (h1 : ∀ q, F 1 q = ((q.val : ℕ) : EReal)) (hN : reach s lo ≤ 2048) (hT : 2000 ≤ reach s lo)

include hG in
/-- The slot of a candidate holds its values. -/
theorem gath_hit (f : Fin 10) {q : Fin n} (hq : Cand s lo q) (u : Fin 2048) (hu : u.val = num s lo q) : (G (ix2 f u) : EReal) = F f q := by
  rw [hG]
  exact sum_num s lo (F f) _ u.val (fun i hi e => ind_pos ⟨hi, e.symm⟩) (fun i h => ind_neg fun h' => h ⟨h'.1, h'.2.symm⟩) hq hu.symm

include hG h0 h1 hN in
/-- The kernel's count for a candidate is its rank among all scores. -/
theorem rank0_eq {q : Fin n} (hq : Cand s lo q) (u : Fin 2048) (hu : u.val = num s lo q) : rank0 G (reach s lo) u = rk s q := by
  classical
  have hex : ∀ v : Fin 2048, v.val < reach s lo → ∃ i, Cand s lo i ∧ num s lo i = v.val := fun v hv => exists_num s lo hv
  let g : Fin 2048 → Fin n := fun v => if h : v.val < reach s lo then (hex v h).choose else q
  have hg : ∀ i, Cand s lo i → ∀ v : Fin 2048, v.val = num s lo i → g v = i := by
    intro i hi v hv
    have hlt : v.val < reach s lo := hv ▸ pos_lt_cnt strict_lt hi
    have : g v = (hex v hlt).choose := dif_pos hlt
    rw [this]
    exact pos_inj strict_lt (hex v hlt).choose_spec.1 hi ((hex v hlt).choose_spec.2.trans hv)
  rw [← rank_count s lo g hN hg hq]
  refine cnt_congr fun v => and_congr_right fun hv => ?_
  obtain ⟨i, hi, hiv⟩ := hex v hv
  rw [hg i hi v hiv.symm, gath_hit s lo F G hG 0 hq u hu, gath_hit s lo F G hG 0 hi v hiv.symm, gath_hit s lo F G hG 1 hq u hu,
    gath_hit s lo F G hG 1 hi v hiv.symm, h0, h0, h1, h1, nat_lt]
  rfl

include hG h0 h1 hN hT in
/-- Column `p` of the sorted rows belongs to the proposal with the `p`-th score. -/
theorem sorted_at (b : EReal) (hb : b = ((reach s lo : ℕ) : EReal)) (r : FVec Ideal S1x2048 .f32)
    (hr : ∀ j, (r (ix2 0 j) : EReal) = ((rank0 G (reach s lo) j : ℕ) : EReal)) (f : Fin 10) (p : Fin 2048) (hp : p.val < 2000)
    (hn : p.val < n) :
    (k0_pay26 (F := Ideal) G (k0_pay23 b r) k0_pay24 (k0_pay25 G b r) (ix2 f p) : EReal) = F f (ordr s ⟨p.val, hn⟩) := by
  rw [pay26_at]
  have hrk : rk s (ordr s ⟨p.val, hn⟩) = p.val := rk_ordr s ⟨p.val, hn⟩
  have hC : Cand s lo (ordr s ⟨p.val, hn⟩) := cand_of_rk s lo (by rw [hrk]; omega)
  have hlt : num s lo (ordr s ⟨p.val, hn⟩) < reach s lo := pos_lt_cnt strict_lt hC
  rw [Finset.sum_eq_single ⟨num s lo (ordr s ⟨p.val, hn⟩), by omega⟩]
  · rw [if_pos, gath_hit s lo F G hG f hC _ rfl]
    refine ⟨?_, hp⟩
    rw [pay23_at (reach s lo) b hb, if_pos hlt, hr, rank0_eq s lo F G hG h0 h1 hN hC _ rfl, hrk]
  · intro j _ hj
    refine if_neg ?_
    rintro ⟨h, -⟩
    rw [pay23_at (reach s lo) b hb] at h
    by_cases hjN : j.val < reach s lo
    · rw [if_pos hjN, hr, nat_eq] at h
      obtain ⟨q, hq, hqj⟩ := exists_num s lo hjN
      rw [rank0_eq s lo F G hG h0 h1 hN hq j hqj.symm] at h
      refine hj (Fin.ext ?_)
      have : q = ordr s ⟨p.val, hn⟩ := rk_inj s (by rw [hrk, h])
      rw [← hqj, this]
    · rw [if_neg hjN, nat_eq] at h
      omega
  · intro h; exact absurd (Finset.mem_univ _) h

end Sorted

end Cert.KernelIdeal.Value

end
-- ==== Proof.KVCell.lean ====
module

public import proofs.«01_k».proof.Proof.VBox
public import proofs.«01_k».proof.Proof.KVRank

@[expose] public section

set_option maxRecDepth 16384

noncomputable section

/-! # One entry of the suppression matrix -/

namespace Rpn

open Idealize.ShloMosaic

/-- The entry of the suppression matrix at row `i` and column `j`: the row's box, area and mark are `R`, the column's
    box and area are `x1 y1 x2 y2 a`. -/
def cell (x1 y1 x2 y2 a : EReal) (R : Fin 6 → EReal) (i j : ℕ) : EReal :=
  ind ((thr < Ideal.div (max (min (R 2) x2 - max (R 0) x1) 0 * max (min (R 3) y2 - max (R 1) y1) 0)
      (max (R 4 + a - max (min (R 2) x2 - max (R 0) x1) 0 * max (min (R 3) y2 - max (R 1) y1) 0) eps) ∧ i < j) ∧ 0 < R 5)

/-- A cell of the table marks an overlap with a later box, the earlier box being valid. -/
theorem cell_eq (b b' : Fin 4 → EReal) (v : Prop) (i j : ℕ) :
    cell (b' 0) (b' 1) (b' 2) (b' 3) (area b') ![b 0, b 1, b 2, b 3, area b, ind v] i j = ind ((Overlap b b' ∧ i < j) ∧ v) := by
  unfold cell
  refine ind_congr (and_congr Iff.rfl ?_)
  exact ind_gt

end Rpn

namespace Cert.KernelIdeal.Value

open Cert.KernelIdeal Cert.KernelIdeal.Gen
open Idealize.ShloMosaic Rpn
open scoped BigOperators

/-- The lane numbers of a row. -/
theorem row_index (j : Fin 2048) : (k0_pay27 (F := Ideal) (ix2 0 j) : EReal) = ((j.val : ℕ) : EReal) := by
  pointwise [k0_pay27]
  exact word_nat _ (by omega)

/-- A row number counted from the start of a chunk. -/
theorem iota_add (r : Fin 128) (m : ℕ) (c : EReal) (hc : c = ((m : ℕ) : EReal)) :
    (FloatOps.sitofp (F := Ideal) .f32 (BitVec.ofNat 32 r.val) : EReal) + c = ((m + r.val : ℕ) : EReal) := by
  rw [word_nat _ (by omega), hc, add_comm]
  exact nat_add _ _

/-- A one-hot sum reads one entry of a row. -/
theorem sum_onehot_ix (B : FVec Ideal S6x2048 .f32) (f : Fin 6) (m : ℕ) (h : m < 2048) :
    ∑ x : Fin 2048, (if ((m : ℕ) : EReal) = ((x.val : ℕ) : EReal) then (1 : EReal) else 0) * B (ix2 f x) = B (ix2 f ⟨m, h⟩) :=
  sum_onehot (fun x => B (ix2 f x)) m h

end Cert.KernelIdeal.Value

end
-- ==== Proof.KVChunk0.lean ====
module

public import proofs.«01_k».proof.Proof.KVCell

@[expose] public section

set_option maxRecDepth 16384

noncomputable section

/-! # The suppression matrix: chunks 0, 1, 2, 3 of sixteen, of 128 rows each -/

namespace Cert.KernelIdeal.Value

open Cert.KernelIdeal Cert.KernelIdeal.Gen
open Idealize.ShloMosaic Rpn
open scoped BigOperators

variable (x1 y1 x2 y2 A : FVec Ideal S1x2048 .f32) (B : FVec Ideal S6x2048 .f32)

/-- The place numbers of chunk 0. -/
theorem iota_0 (r : Fin 128) : (k0_pay52 (F := Ideal) (ix2 r 0) : EReal) = ((r.val : ℕ) : EReal) := by
  pointwise [k0_pay52]
  exact word_nat _ (by omega)

/-- The six columns of chunk 0, fetched by a one-hot product. -/
theorem fetch_0 (st d e : FVec Ideal S1x2048 .f32) (r : Fin 128) (f : Fin 6) :
    (k0_pay53 (F := Ideal) k0_pay27 st x1 y1 x2 y2 d e (ix2 r f) : EReal) = (k0_pay51 st x1 y1 x2 y2 d e) (ix2 f ⟨r.val, by omega⟩) := by
  pointwise [k0_pay53]
  simp only [iota_0, row_index]
  exact sum_onehot _ r.val _

/-- The chunk of rows 0 up to 127. -/
theorem chunk_0 (st d e : FVec Ideal S1x2048 .f32) (r : Fin 128) (j : Fin 2048) :
    (k0_pay60 (F := Ideal) k0_pay27 A k0_pay52 (k0_pay54 k0_pay27 st x1 y1 x2 y2 d e) (k0_pay55 k0_pay27 st x1 y1 x2 y2 d e) (k0_pay56 k0_pay27 st x1 y1 x2 y2 d e) (k0_pay57 k0_pay27 st x1 y1 x2 y2 d e) (k0_pay58 k0_pay27 st x1 y1 x2 y2 d e) k0_pay59 (ix2 r j) : EReal)
      = cell (x1 (ix2 0 j)) (y1 (ix2 0 j)) (x2 (ix2 0 j)) (y2 (ix2 0 j)) (A (ix2 0 j))
          (fun f => (k0_pay51 st x1 y1 x2 y2 d e) (ix2 f ⟨r.val, by omega⟩)) r.val j.val := by
  pointwise [k0_pay54, k0_pay55, k0_pay56, k0_pay57, k0_pay58, k0_pay59, k0_pay60]
  simp only [fetch_0, iota_0, row_index, nat_lt, andi_ofBool]
  rw [word_ofBool]
  rfl

/-- The place numbers of chunk 1. -/
theorem iota_1 (r : Fin 128) : (k0_pay61 (F := Ideal) (ix2 r 0) : EReal) = ((128 + r.val : ℕ) : EReal) := by
  pointwise [k0_pay61]
  exact iota_add r 128 _ (show Ideal.ofBits .f32 1124073472#32 = _ by
    rw [← EReal.coe_natCast]; simp [Ideal.ofBits, Ideal.ieee, -EReal.coe_mul]; norm_num)

/-- The six columns of chunk 1, fetched by a one-hot product. -/
theorem fetch_1 (r : Fin 128) (f : Fin 6) :
    (k0_pay62 (F := Ideal) k0_pay27 B (ix2 r f) : EReal) = B (ix2 f ⟨128 + r.val, by omega⟩) := by
  pointwise [k0_pay62]
  simp only [iota_1, row_index]
  exact sum_onehot _ (128 + r.val) _

/-- The chunk of rows 128 up to 255. -/
theorem chunk_1 (r : Fin 128) (j : Fin 2048) :
    (k0_pay70 (F := Ideal) k0_pay27 x2 y2 A k0_pay61 (k0_pay63 k0_pay27 B) (k0_pay64 k0_pay27 B) (k0_pay65 k0_pay27 B) (k0_pay66 k0_pay27 B) (k0_pay67 k0_pay27 x1 B) (k0_pay68 k0_pay27 B) (k0_pay69 y1) (ix2 r j) : EReal)
      = cell (x1 (ix2 0 j)) (y1 (ix2 0 j)) (x2 (ix2 0 j)) (y2 (ix2 0 j)) (A (ix2 0 j))
          (fun f => B (ix2 f ⟨128 + r.val, by omega⟩)) (128 + r.val) j.val := by
  pointwise [k0_pay63, k0_pay64, k0_pay65, k0_pay66, k0_pay67, k0_pay68, k0_pay69, k0_pay70]
  simp only [fetch_1, iota_1, row_index, nat_lt, andi_ofBool]
  rw [word_ofBool]
  rfl

/-- The place numbers of chunk 2. -/
theorem iota_2 (r : Fin 128) : (k0_pay71 (F := Ideal) (ix2 r 0) : EReal) = ((256 + r.val : ℕ) : EReal) := by
  pointwise [k0_pay71]
  exact iota_add r 256 _ (show Ideal.ofBits .f32 1132462080#32 = _ by
    rw [← EReal.coe_natCast]; simp [Ideal.ofBits, Ideal.ieee, -EReal.coe_mul]; norm_num)

/-- The six columns of chunk 2, fetched by a one-hot product. -/
theorem fetch_2 (r : Fin 128) (f : Fin 6) :
    (k0_pay72 (F := Ideal) k0_pay27 B (ix2 r f) : EReal) = B (ix2 f ⟨256 + r.val, by omega⟩) := by
  pointwise [k0_pay72]
  simp only [iota_2, row_index]
  exact sum_onehot _ (256 + r.val) _

/-- The chunk of rows 256 up to 383. -/
theorem chunk_2 (r : Fin 128) (j : Fin 2048) :
    (k0_pay74 (F := Ideal) k0_pay27 x1 y1 x2 y2 A k0_pay71 (k0_pay72 k0_pay27 B) (k0_pay73 k0_pay27 B) (ix2 r j) : EReal)
      = cell (x1 (ix2 0 j)) (y1 (ix2 0 j)) (x2 (ix2 0 j)) (y2 (ix2 0 j)) (A (ix2 0 j))
          (fun f => B (ix2 f ⟨256 + r.val, by omega⟩)) (256 + r.val) j.val := by
  pointwise [k0_pay73, k0_pay74]
  simp only [fetch_2, iota_2, row_index, nat_lt, andi_ofBool]
  rw [word_ofBool]
  rfl

/-- The place numbers of chunk 3. -/
theorem iota_3 (r : Fin 128) : (k0_pay75 (F := Ideal) (ix2 r 0) : EReal) = ((384 + r.val : ℕ) : EReal) := by
  pointwise [k0_pay75]
  exact iota_add r 384 _ (show Ideal.ofBits .f32 1136656384#32 = _ by
    rw [← EReal.coe_natCast]; simp [Ideal.ofBits, Ideal.ieee, -EReal.coe_mul]; norm_num)

/-- The chunk of rows 384 up to 511. -/
theorem chunk_3 (r : Fin 128) (j : Fin 2048) :
    (k0_pay78 (F := Ideal) (k0_pay77 k0_pay27 x1 y1 x2 y2 A B k0_pay75 k0_pay76) (ix2 r j) : EReal)
      = cell (x1 (ix2 0 j)) (y1 (ix2 0 j)) (x2 (ix2 0 j)) (y2 (ix2 0 j)) (A (ix2 0 j))
          (fun f => B (ix2 f ⟨384 + r.val, by omega⟩)) (384 + r.val) j.val := by
  pointwise [k0_pay76, k0_pay77, k0_pay78]
  simp only [sum_onehot_ix B _ (384 + r.val) (by omega), iota_3, row_index, nat_lt, andi_ofBool]
  rw [word_ofBool]
  rfl

end Cert.KernelIdeal.Value

end
-- ==== Proof.KVChunk1.lean ====
module

public import proofs.«01_k».proof.Proof.KVCell

@[expose] public section

set_option maxRecDepth 16384

noncomputable section

/-! # The suppression matrix: chunks 4, 5, 6, 7 of sixteen, of 128 rows each -/

namespace Cert.KernelIdeal.Value

open Cert.KernelIdeal Cert.KernelIdeal.Gen
open Idealize.ShloMosaic Rpn
open scoped BigOperators

variable (x1 y1 x2 y2 A : FVec Ideal S1x2048 .f32) (B : FVec Ideal S6x2048 .f32)

/-- The place numbers of chunk 4. -/
theorem iota_4 (r : Fin 128) : (k0_pay79 (F := Ideal) (ix2 r 0) : EReal) = ((512 + r.val : ℕ) : EReal) := by
  pointwise [k0_pay79]
  exact iota_add r 512 _ (show Ideal.ofBits .f32 1140850688#32 = _ by
    rw [← EReal.coe_natCast]; simp [Ideal.ofBits, Ideal.ieee, -EReal.coe_mul]; norm_num)

/-- The six columns of chunk 4, fetched by a one-hot product. -/
theorem fetch_4 (r : Fin 128) (f : Fin 6) :
    (k0_pay80 (F := Ideal) k0_pay27 B (ix2 r f) : EReal) = B (ix2 f ⟨512 + r.val, by omega⟩) := by
  pointwise [k0_pay80]
  simp only [iota_4, row_index]
  exact sum_onehot _ (512 + r.val) _

/-- The chunk of rows 512 up to 639. -/
theorem chunk_4 (r : Fin 128) (j : Fin 2048) :
    (k0_pay84 (F := Ideal) (k0_pay81 k0_pay27 B) (k0_pay82 k0_pay27 x1 y1 x2 y2 A B) (k0_pay83 (F := Ideal) k0_pay27) (ix2 r j) : EReal)
      = cell (x1 (ix2 0 j)) (y1 (ix2 0 j)) (x2 (ix2 0 j)) (y2 (ix2 0 j)) (A (ix2 0 j))
          (fun f => B (ix2 f ⟨512 + r.val, by omega⟩)) (512 + r.val) j.val := by
  pointwise [k0_pay81, k0_pay82, k0_pay83, k0_pay84]
  simp only [fetch_4, iota_4, row_index, nat_lt, andi_ofBool]
  rw [word_ofBool]
  rfl

/-- The place numbers of chunk 5. -/
theorem iota_5 (r : Fin 128) : (k0_pay85 (F := Ideal) (ix2 r 0) : EReal) = ((640 + r.val : ℕ) : EReal) := by
  pointwise [k0_pay85]
  exact iota_add r 640 _ (show Ideal.ofBits .f32 1142947840#32 = _ by
    rw [← EReal.coe_natCast]; simp [Ideal.ofBits, Ideal.ieee, -EReal.coe_mul]; norm_num)

/-- The six columns of chunk 5, fetched by a one-hot product. -/
theorem fetch_5 (r : Fin 128) (f : Fin 6) :
    (k0_pay86 (F := Ideal) k0_pay27 B (ix2 r f) : EReal) = B (ix2 f ⟨640 + r.val, by omega⟩) := by
  pointwise [k0_pay86]
  simp only [iota_5, row_index]
  exact sum_onehot _ (640 + r.val) _

/-- The chunk of rows 640 up to 767. -/
theorem chunk_5 (r : Fin 128) (j : Fin 2048) :
    (k0_pay90 (F := Ideal) k0_pay27 k0_pay85 (k0_pay87 k0_pay27 B) (k0_pay88 k0_pay27 x1 y1 x2 y2 B) (k0_pay89 k0_pay27 x1 y1 x2 y2 A B) (ix2 r j) : EReal)
      = cell (x1 (ix2 0 j)) (y1 (ix2 0 j)) (x2 (ix2 0 j)) (y2 (ix2 0 j)) (A (ix2 0 j))
          (fun f => B (ix2 f ⟨640 + r.val, by omega⟩)) (640 + r.val) j.val := by
  pointwise [k0_pay87, k0_pay88, k0_pay89, k0_pay90]
  simp only [fetch_5, iota_5, row_index, nat_lt, andi_ofBool]
  rw [word_ofBool]
  rfl

/-- The place numbers of chunk 6. -/
theorem iota_6 (r : Fin 128) : (k0_pay91 (F := Ideal) (ix2 r 0) : EReal) = ((768 + r.val : ℕ) : EReal) := by
  pointwise [k0_pay91]
  exact iota_add r 768 _ (show Ideal.ofBits .f32 1145044992#32 = _ by
    rw [← EReal.coe_natCast]; simp [Ideal.ofBits, Ideal.ieee, -EReal.coe_mul]; norm_num)

/-- The six columns of chunk 6, fetched by a one-hot product. -/
theorem fetch_6 (r : Fin 128) (f : Fin 6) :
    (k0_pay92 (F := Ideal) k0_pay27 B (ix2 r f) : EReal) = B (ix2 f ⟨768 + r.val, by omega⟩) := by
  pointwise [k0_pay92]
  simp only [iota_6, row_index]
  exact sum_onehot _ (768 + r.val) _

/-- The chunk of rows 768 up to 895. -/
theorem chunk_6 (r : Fin 128) (j : Fin 2048) :
    (k0_pay99 (F := Ideal) k0_pay27 A k0_pay91 (k0_pay93 k0_pay27 B) (k0_pay94 k0_pay27 B) (k0_pay95 k0_pay27 y1 B) (k0_pay96 k0_pay27 y2 B) (k0_pay97 k0_pay27 x1 x2 B) k0_pay98 (ix2 r j) : EReal)
      = cell (x1 (ix2 0 j)) (y1 (ix2 0 j)) (x2 (ix2 0 j)) (y2 (ix2 0 j)) (A (ix2 0 j))
          (fun f => B (ix2 f ⟨768 + r.val, by omega⟩)) (768 + r.val) j.val := by
  pointwise [k0_pay93, k0_pay94, k0_pay95, k0_pay96, k0_pay97, k0_pay98, k0_pay99]
  simp only [fetch_6, iota_6, row_index, nat_lt, andi_ofBool]
  rw [word_ofBool]
  rfl

/-- The place numbers of chunk 7. -/
theorem iota_7 (r : Fin 128) : (k0_pay100 (F := Ideal) (ix2 r 0) : EReal) = ((896 + r.val : ℕ) : EReal) := by
  pointwise [k0_pay100]
  exact iota_add r 896 _ (show Ideal.ofBits .f32 1147142144#32 = _ by
    rw [← EReal.coe_natCast]; simp [Ideal.ofBits, Ideal.ieee, -EReal.coe_mul]; norm_num)

/-- The six columns of chunk 7, fetched by a one-hot product. -/
theorem fetch_7 (r : Fin 128) (f : Fin 6) :
    (k0_pay101 (F := Ideal) k0_pay27 B (ix2 r f) : EReal) = B (ix2 f ⟨896 + r.val, by omega⟩) := by
  pointwise [k0_pay101]
  simp only [iota_7, row_index]
  exact sum_onehot _ (896 + r.val) _

/-- The chunk of rows 896 up to 1023. -/
theorem chunk_7 (r : Fin 128) (j : Fin 2048) :
    (k0_pay109 (F := Ideal) k0_pay27 x2 y2 A k0_pay100 (k0_pay102 k0_pay27 B) (k0_pay103 k0_pay27 B) (k0_pay104 k0_pay27 B) (k0_pay105 k0_pay27 B) (k0_pay106 k0_pay27 x1 B) (k0_pay107 k0_pay27 B) (k0_pay108 y1) (ix2 r j) : EReal)
      = cell (x1 (ix2 0 j)) (y1 (ix2 0 j)) (x2 (ix2 0 j)) (y2 (ix2 0 j)) (A (ix2 0 j))
          (fun f => B (ix2 f ⟨896 + r.val, by omega⟩)) (896 + r.val) j.val := by
  pointwise [k0_pay102, k0_pay103, k0_pay104, k0_pay105, k0_pay106, k0_pay107, k0_pay108, k0_pay109]
  simp only [fetch_7, iota_7, row_index, nat_lt, andi_ofBool]
  rw [word_ofBool]
  rfl

end Cert.KernelIdeal.Value

end
-- ==== Proof.KVChunk2.lean ====
module

public import proofs.«01_k».proof.Proof.KVCell

@[expose] public section

set_option maxRecDepth 16384

noncomputable section

/-! # The suppression matrix: chunks 8, 9, 10, 11 of sixteen, of 128 rows each -/

namespace Cert.KernelIdeal.Value

open Cert.KernelIdeal Cert.KernelIdeal.Gen
open Idealize.ShloMosaic Rpn
open scoped BigOperators

variable (x1 y1 x2 y2 A : FVec Ideal S1x2048 .f32) (B : FVec Ideal S6x2048 .f32)

/-- The place numbers of chunk 8. -/
theorem iota_8 (r : Fin 128) : (k0_pay110 (F := Ideal) (ix2 r 0) : EReal) = ((1024 + r.val : ℕ) : EReal) := by
  pointwise [k0_pay110]
  exact iota_add r 1024 _ (show Ideal.ofBits .f32 1149239296#32 = _ by
    rw [← EReal.coe_natCast]; simp [Ideal.ofBits, Ideal.ieee, -EReal.coe_mul]; norm_num)

/-- The six columns of chunk 8, fetched by a one-hot product. -/
theorem fetch_8 (r : Fin 128) (f : Fin 6) :
    (k0_pay111 (F := Ideal) k0_pay27 B (ix2 r f) : EReal) = B (ix2 f ⟨1024 + r.val, by omega⟩) := by
  pointwise [k0_pay111]
  simp only [iota_8, row_index]
  exact sum_onehot _ (1024 + r.val) _

/-- The chunk of rows 1024 up to 1151. -/
theorem chunk_8 (r : Fin 128) (j : Fin 2048) :
    (k0_pay113 (F := Ideal) k0_pay27 x1 y1 x2 y2 A k0_pay110 (k0_pay111 k0_pay27 B) (k0_pay112 k0_pay27 B) (ix2 r j) : EReal)
      = cell (x1 (ix2 0 j)) (y1 (ix2 0 j)) (x2 (ix2 0 j)) (y2 (ix2 0 j)) (A (ix2 0 j))
          (fun f => B (ix2 f ⟨1024 + r.val, by omega⟩)) (1024 + r.val) j.val := by
  pointwise [k0_pay112, k0_pay113]
  simp only [fetch_8, iota_8, row_index, nat_lt, andi_ofBool]
  rw [word_ofBool]
  rfl

/-- The place numbers of chunk 9. -/
theorem iota_9 (r : Fin 128) : (k0_pay114 (F := Ideal) (ix2 r 0) : EReal) = ((1152 + r.val : ℕ) : EReal) := by
  pointwise [k0_pay114]
  exact iota_add r 1152 _ (show Ideal.ofBits .f32 1150287872#32 = _ by
    rw [← EReal.coe_natCast]; simp [Ideal.ofBits, Ideal.ieee, -EReal.coe_mul]; norm_num)

/-- The chunk of rows 1152 up to 1279. -/
theorem chunk_9 (r : Fin 128) (j : Fin 2048) :
    (k0_pay117 (F := Ideal) (k0_pay116 k0_pay27 x1 y1 x2 y2 A B k0_pay114 k0_pay115) (ix2 r j) : EReal)
      = cell (x1 (ix2 0 j)) (y1 (ix2 0 j)) (x2 (ix2 0 j)) (y2 (ix2 0 j)) (A (ix2 0 j))
          (fun f => B (ix2 f ⟨1152 + r.val, by omega⟩)) (1152 + r.val) j.val := by
  pointwise [k0_pay115, k0_pay116, k0_pay117]
  simp only [sum_onehot_ix B _ (1152 + r.val) (by omega), iota_9, row_index, nat_lt, andi_ofBool]
  rw [word_ofBool]
  rfl

/-- The place numbers of chunk 10. -/
theorem iota_10 (r : Fin 128) : (k0_pay118 (F := Ideal) (ix2 r 0) : EReal) = ((1280 + r.val : ℕ) : EReal) := by
  pointwise [k0_pay118]
  exact iota_add r 1280 _ (show Ideal.ofBits .f32 1151336448#32 = _ by
    rw [← EReal.coe_natCast]; simp [Ideal.ofBits, Ideal.ieee, -EReal.coe_mul]; norm_num)

/-- The six columns of chunk 10, fetched by a one-hot product. -/
theorem fetch_10 (r : Fin 128) (f : Fin 6) :
    (k0_pay119 (F := Ideal) k0_pay27 B (ix2 r f) : EReal) = B (ix2 f ⟨1280 + r.val, by omega⟩) := by
  pointwise [k0_pay119]
  simp only [iota_10, row_index]
  exact sum_onehot _ (1280 + r.val) _

/-- The chunk of rows 1280 up to 1407. -/
theorem chunk_10 (r : Fin 128) (j : Fin 2048) :
    (k0_pay123 (F := Ideal) (k0_pay120 k0_pay27 B) (k0_pay121 k0_pay27 x1 y1 x2 y2 A B) (k0_pay122 (F := Ideal) k0_pay27) (ix2 r j) : EReal)
      = cell (x1 (ix2 0 j)) (y1 (ix2 0 j)) (x2 (ix2 0 j)) (y2 (ix2 0 j)) (A (ix2 0 j))
          (fun f => B (ix2 f ⟨1280 + r.val, by omega⟩)) (1280 + r.val) j.val := by
  pointwise [k0_pay120, k0_pay121, k0_pay122, k0_pay123]
  simp only [fetch_10, iota_10, row_index, nat_lt, andi_ofBool]
  rw [word_ofBool]
  rfl

/-- The place numbers of chunk 11. -/
theorem iota_11 (r : Fin 128) : (k0_pay124 (F := Ideal) (ix2 r 0) : EReal) = ((1408 + r.val : ℕ) : EReal) := by
  pointwise [k0_pay124]
  exact iota_add r 1408 _ (show Ideal.ofBits .f32 1152385024#32 = _ by
    rw [← EReal.coe_natCast]; simp [Ideal.ofBits, Ideal.ieee, -EReal.coe_mul]; norm_num)

/-- The six columns of chunk 11, fetched by a one-hot product. -/
theorem fetch_11 (r : Fin 128) (f : Fin 6) :
    (k0_pay125 (F := Ideal) k0_pay27 B (ix2 r f) : EReal) = B (ix2 f ⟨1408 + r.val, by omega⟩) := by
  pointwise [k0_pay125]
  simp only [iota_11, row_index]
  exact sum_onehot _ (1408 + r.val) _

/-- The chunk of rows 1408 up to 1535. -/
theorem chunk_11 (r : Fin 128) (j : Fin 2048) :
    (k0_pay129 (F := Ideal) k0_pay27 k0_pay124 (k0_pay126 k0_pay27 B) (k0_pay127 k0_pay27 x1 y1 x2 y2 B) (k0_pay128 k0_pay27 x1 y1 x2 y2 A B) (ix2 r j) : EReal)
      = cell (x1 (ix2 0 j)) (y1 (ix2 0 j)) (x2 (ix2 0 j)) (y2 (ix2 0 j)) (A (ix2 0 j))
          (fun f => B (ix2 f ⟨1408 + r.val, by omega⟩)) (1408 + r.val) j.val := by
  pointwise [k0_pay126, k0_pay127, k0_pay128, k0_pay129]
  simp only [fetch_11, iota_11, row_index, nat_lt, andi_ofBool]
  rw [word_ofBool]
  rfl

end Cert.KernelIdeal.Value

end
-- ==== Proof.KVChunk3.lean ====
module

public import proofs.«01_k».proof.Proof.KVCell

@[expose] public section

set_option maxRecDepth 16384

noncomputable section

/-! # The suppression matrix: chunks 12, 13, 14, 15 of sixteen, of 128 rows each -/

namespace Cert.KernelIdeal.Value

open Cert.KernelIdeal Cert.KernelIdeal.Gen
open Idealize.ShloMosaic Rpn
open scoped BigOperators

variable (x1 y1 x2 y2 A : FVec Ideal S1x2048 .f32) (B : FVec Ideal S6x2048 .f32)

/-- The place numbers of chunk 12. -/
theorem iota_12 (r : Fin 128) : (k0_pay130 (F := Ideal) (ix2 r 0) : EReal) = ((1536 + r.val : ℕ) : EReal) := by
  pointwise [k0_pay130]
  exact iota_add r 1536 _ (show Ideal.ofBits .f32 1153433600#32 = _ by
    rw [← EReal.coe_natCast]; simp [Ideal.ofBits, Ideal.ieee, -EReal.coe_mul]; norm_num)

/-- The six columns of chunk 12, fetched by a one-hot product. -/
theorem fetch_12 (r : Fin 128) (f : Fin 6) :
    (k0_pay131 (F := Ideal) k0_pay27 B (ix2 r f) : EReal) = B (ix2 f ⟨1536 + r.val, by omega⟩) := by
  pointwise [k0_pay131]
  simp only [iota_12, row_index]
  exact sum_onehot _ (1536 + r.val) _

/-- The chunk of rows 1536 up to 1663. -/
theorem chunk_12 (r : Fin 128) (j : Fin 2048) :
    (k0_pay138 (F := Ideal) k0_pay27 A k0_pay130 (k0_pay132 k0_pay27 B) (k0_pay133 k0_pay27 B) (k0_pay134 k0_pay27 y1 B) (k0_pay135 k0_pay27 y2 B) (k0_pay136 k0_pay27 x1 x2 B) k0_pay137 (ix2 r j) : EReal)
      = cell (x1 (ix2 0 j)) (y1 (ix2 0 j)) (x2 (ix2 0 j)) (y2 (ix2 0 j)) (A (ix2 0 j))
          (fun f => B (ix2 f ⟨1536 + r.val, by omega⟩)) (1536 + r.val) j.val := by
  pointwise [k0_pay132, k0_pay133, k0_pay134, k0_pay135, k0_pay136, k0_pay137, k0_pay138]
  simp only [fetch_12, iota_12, row_index, nat_lt, andi_ofBool]
  rw [word_ofBool]
  rfl

/-- The place numbers of chunk 13. -/
theorem iota_13 (r : Fin 128) : (k0_pay139 (F := Ideal) (ix2 r 0) : EReal) = ((1664 + r.val : ℕ) : EReal) := by
  pointwise [k0_pay139]
  exact iota_add r 1664 _ (show Ideal.ofBits .f32 1154482176#32 = _ by
    rw [← EReal.coe_natCast]; simp [Ideal.ofBits, Ideal.ieee, -EReal.coe_mul]; norm_num)

/-- The six columns of chunk 13, fetched by a one-hot product. -/
theorem fetch_13 (r : Fin 128) (f : Fin 6) :
    (k0_pay140 (F := Ideal) k0_pay27 B (ix2 r f) : EReal) = B (ix2 f ⟨1664 + r.val, by omega⟩) := by
  pointwise [k0_pay140]
  simp only [iota_13, row_index]
  exact sum_onehot _ (1664 + r.val) _

/-- The chunk of rows 1664 up to 1791. -/
theorem chunk_13 (r : Fin 128) (j : Fin 2048) :
    (k0_pay148 (F := Ideal) k0_pay27 x2 y2 A k0_pay139 (k0_pay141 k0_pay27 B) (k0_pay142 k0_pay27 B) (k0_pay143 k0_pay27 B) (k0_pay144 k0_pay27 B) (k0_pay145 k0_pay27 x1 B) (k0_pay146 k0_pay27 B) (k0_pay147 y1) (ix2 r j) : EReal)
      = cell (x1 (ix2 0 j)) (y1 (ix2 0 j)) (x2 (ix2 0 j)) (y2 (ix2 0 j)) (A (ix2 0 j))
          (fun f => B (ix2 f ⟨1664 + r.val, by omega⟩)) (1664 + r.val) j.val := by
  pointwise [k0_pay141, k0_pay142, k0_pay143, k0_pay144, k0_pay145, k0_pay146, k0_pay147, k0_pay148]
  simp only [fetch_13, iota_13, row_index, nat_lt, andi_ofBool]
  rw [word_ofBool]
  rfl

/-- The place numbers of chunk 14. -/
theorem iota_14 (r : Fin 128) : (k0_pay149 (F := Ideal) (ix2 r 0) : EReal) = ((1792 + r.val : ℕ) : EReal) := by
  pointwise [k0_pay149]
  exact iota_add r 1792 _ (show Ideal.ofBits .f32 1155530752#32 = _ by
    rw [← EReal.coe_natCast]; simp [Ideal.ofBits, Ideal.ieee, -EReal.coe_mul]; norm_num)

/-- The six columns of chunk 14, fetched by a one-hot product. -/
theorem fetch_14 (r : Fin 128) (f : Fin 6) :
    (k0_pay150 (F := Ideal) k0_pay27 B (ix2 r f) : EReal) = B (ix2 f ⟨1792 + r.val, by omega⟩) := by
  pointwise [k0_pay150]
  simp only [iota_14, row_index]
  exact sum_onehot _ (1792 + r.val) _

/-- The chunk of rows 1792 up to 1919. -/
theorem chunk_14 (r : Fin 128) (j : Fin 2048) :
    (k0_pay152 (F := Ideal) k0_pay27 x1 y1 x2 y2 A k0_pay149 (k0_pay150 k0_pay27 B) (k0_pay151 k0_pay27 B) (ix2 r j) : EReal)
      = cell (x1 (ix2 0 j)) (y1 (ix2 0 j)) (x2 (ix2 0 j)) (y2 (ix2 0 j)) (A (ix2 0 j))
          (fun f => B (ix2 f ⟨1792 + r.val, by omega⟩)) (1792 + r.val) j.val := by
  pointwise [k0_pay151, k0_pay152]
  simp only [fetch_14, iota_14, row_index, nat_lt, andi_ofBool]
  rw [word_ofBool]
  rfl

/-- The place numbers of chunk 15. -/
theorem iota_15 (r : Fin 128) : (k0_pay153 (F := Ideal) (ix2 r 0) : EReal) = ((1920 + r.val : ℕ) : EReal) := by
  pointwise [k0_pay153]
  exact iota_add r 1920 _ (show Ideal.ofBits .f32 1156579328#32 = _ by
    rw [← EReal.coe_natCast]; simp [Ideal.ofBits, Ideal.ieee, -EReal.coe_mul]; norm_num)

/-- The chunk of rows 1920 up to 2047. -/
theorem chunk_15 (r : Fin 128) (j : Fin 2048) :
    (k0_pay156 (F := Ideal) (k0_pay155 k0_pay27 x1 y1 x2 y2 A B k0_pay153 k0_pay154) (ix2 r j) : EReal)
      = cell (x1 (ix2 0 j)) (y1 (ix2 0 j)) (x2 (ix2 0 j)) (y2 (ix2 0 j)) (A (ix2 0 j))
          (fun f => B (ix2 f ⟨1920 + r.val, by omega⟩)) (1920 + r.val) j.val := by
  pointwise [k0_pay154, k0_pay155, k0_pay156]
  simp only [sum_onehot_ix B _ (1920 + r.val) (by omega), iota_15, row_index, nat_lt, andi_ofBool]
  rw [word_ofBool]
  rfl

end Cert.KernelIdeal.Value

end
-- ==== Proof.KVSupp.lean ====
module

public import proofs.«01_k».proof.Proof.KVChunk0
public import proofs.«01_k».proof.Proof.KVChunk1
public import proofs.«01_k».proof.Proof.KVChunk2
public import proofs.«01_k».proof.Proof.KVChunk3
public import proofs.«01_k».proof.Proof.KIWhile

@[expose] public section

set_option maxRecDepth 16384

noncomputable section

/-! # The suppression matrix as the suppression loop reads it -/

namespace Cert.KernelIdeal.Value

open Cert.KernelIdeal Cert.KernelIdeal.Gen
open Idealize.ShloMosaic Idealize.ShloMosaic.Tactic Rpn
open scoped BigOperators

variable (st x1 y1 x2 y2 d e : FVec Ideal S1x2048 .f32)

/-- The sixteen stores of the suppression matrix, the last one first. -/
def pieces (A : FVec Ideal S1x2048 .f32) (B : FVec Ideal S6x2048 .f32) : List (View.Piece (Elt Ideal) S2048x2048 .f32) :=
  [⟨Rect.unit (s := S2048x2048) ![1920, 0] S128x2048.size inb_S2048x2048_S128x2048_1920_0, k0_pay156 (F := Ideal) (k0_pay155 k0_pay27 x1 y1 x2 y2 A B k0_pay153 k0_pay154)⟩,
   ⟨Rect.unit (s := S2048x2048) ![1792, 0] S128x2048.size inb_S2048x2048_S128x2048_1792_0, k0_pay152 (F := Ideal) k0_pay27 x1 y1 x2 y2 A k0_pay149 (k0_pay150 k0_pay27 B) (k0_pay151 k0_pay27 B)⟩,
   ⟨Rect.unit (s := S2048x2048) ![1664, 0] S128x2048.size inb_S2048x2048_S128x2048_1664_0, k0_pay148 (F := Ideal) k0_pay27 x2 y2 A k0_pay139 (k0_pay141 k0_pay27 B) (k0_pay142 k0_pay27 B) (k0_pay143 k0_pay27 B) (k0_pay144 k0_pay27 B) (k0_pay145 k0_pay27 x1 B) (k0_pay146 k0_pay27 B) (k0_pay147 y1)⟩,
   ⟨Rect.unit (s := S2048x2048) ![1536, 0] S128x2048.size inb_S2048x2048_S128x2048_1536_0, k0_pay138 (F := Ideal) k0_pay27 A k0_pay130 (k0_pay132 k0_pay27 B) (k0_pay133 k0_pay27 B) (k0_pay134 k0_pay27 y1 B) (k0_pay135 k0_pay27 y2 B) (k0_pay136 k0_pay27 x1 x2 B) k0_pay137⟩,
   ⟨Rect.unit (s := S2048x2048) ![1408, 0] S128x2048.size inb_S2048x2048_S128x2048_1408_0, k0_pay129 (F := Ideal) k0_pay27 k0_pay124 (k0_pay126 k0_pay27 B) (k0_pay127 k0_pay27 x1 y1 x2 y2 B) (k0_pay128 k0_pay27 x1 y1 x2 y2 A B)⟩,
   ⟨Rect.unit (s := S2048x2048) ![1280, 0] S128x2048.size inb_S2048x2048_S128x2048_1280_0, k0_pay123 (F := Ideal) (k0_pay120 k0_pay27 B) (k0_pay121 k0_pay27 x1 y1 x2 y2 A B) (k0_pay122 (F := Ideal) k0_pay27)⟩,
   ⟨Rect.unit (s := S2048x2048) ![1152, 0] S128x2048.size inb_S2048x2048_S128x2048_1152_0, k0_pay117 (F := Ideal) (k0_pay116 k0_pay27 x1 y1 x2 y2 A B k0_pay114 k0_pay115)⟩,
   ⟨Rect.unit (s := S2048x2048) ![1024, 0] S128x2048.size inb_S2048x2048_S128x2048_1024_0, k0_pay113 (F := Ideal) k0_pay27 x1 y1 x2 y2 A k0_pay110 (k0_pay111 k0_pay27 B) (k0_pay112 k0_pay27 B)⟩,
   ⟨Rect.unit (s := S2048x2048) ![896, 0] S128x2048.size inb_S2048x2048_S128x2048_896_0, k0_pay109 (F := Ideal) k0_pay27 x2 y2 A k0_pay100 (k0_pay102 k0_pay27 B) (k0_pay103 k0_pay27 B) (k0_pay104 k0_pay27 B) (k0_pay105 k0_pay27 B) (k0_pay106 k0_pay27 x1 B) (k0_pay107 k0_pay27 B) (k0_pay108 y1)⟩,
   ⟨Rect.unit (s := S2048x2048) ![768, 0] S128x2048.size inb_S2048x2048_S128x2048_768_0, k0_pay99 (F := Ideal) k0_pay27 A k0_pay91 (k0_pay93 k0_pay27 B) (k0_pay94 k0_pay27 B) (k0_pay95 k0_pay27 y1 B) (k0_pay96 k0_pay27 y2 B) (k0_pay97 k0_pay27 x1 x2 B) k0_pay98⟩,
   ⟨Rect.unit (s := S2048x2048) ![640, 0] S128x2048.size inb_S2048x2048_S128x2048_640_0, k0_pay90 (F := Ideal) k0_pay27 k0_pay85 (k0_pay87 k0_pay27 B) (k0_pay88 k0_pay27 x1 y1 x2 y2 B) (k0_pay89 k0_pay27 x1 y1 x2 y2 A B)⟩,
   ⟨Rect.unit (s := S2048x2048) ![512, 0] S128x2048.size inb_S2048x2048_S128x2048_512_0, k0_pay84 (F := Ideal) (k0_pay81 k0_pay27 B) (k0_pay82 k0_pay27 x1 y1 x2 y2 A B) (k0_pay83 (F := Ideal) k0_pay27)⟩,
   ⟨Rect.unit (s := S2048x2048) ![384, 0] S128x2048.size inb_S2048x2048_S128x2048_384_0, k0_pay78 (F := Ideal) (k0_pay77 k0_pay27 x1 y1 x2 y2 A B k0_pay75 k0_pay76)⟩,
   ⟨Rect.unit (s := S2048x2048) ![256, 0] S128x2048.size inb_S2048x2048_S128x2048_256_0, k0_pay74 (F := Ideal) k0_pay27 x1 y1 x2 y2 A k0_pay71 (k0_pay72 k0_pay27 B) (k0_pay73 k0_pay27 B)⟩,
   ⟨Rect.unit (s := S2048x2048) ![128, 0] S128x2048.size inb_S2048x2048_S128x2048_128_0, k0_pay70 (F := Ideal) k0_pay27 x2 y2 A k0_pay61 (k0_pay63 k0_pay27 B) (k0_pay64 k0_pay27 B) (k0_pay65 k0_pay27 B) (k0_pay66 k0_pay27 B) (k0_pay67 k0_pay27 x1 B) (k0_pay68 k0_pay27 B) (k0_pay69 y1)⟩,
   ⟨Rect.unit (s := S2048x2048) ![0, 0] S128x2048.size inb_S2048x2048_S128x2048_0_0, k0_pay60 (F := Ideal) k0_pay27 A k0_pay52 (k0_pay54 k0_pay27 st x1 y1 x2 y2 d e) (k0_pay55 k0_pay27 st x1 y1 x2 y2 d e) (k0_pay56 k0_pay27 st x1 y1 x2 y2 d e) (k0_pay57 k0_pay27 st x1 y1 x2 y2 d e) (k0_pay58 k0_pay27 st x1 y1 x2 y2 d e) k0_pay59⟩]

/-- The box in column `j` of the four rows of corners. -/
def boxAt (j : Fin 2048) : Fin 4 → EReal := ![x1 (ix2 0 j), y1 (ix2 0 j), x2 (ix2 0 j), y2 (ix2 0 j)]

/-- The area of a sorted box. -/
theorem area_at (j : Fin 2048) : (k0_pay50 (F := Ideal) x1 y1 x2 y2 (ix2 0 j) : EReal) = area (boxAt x1 y1 x2 y2 j) := by
  pointwise [k0_pay50]
  rfl

/-- The six features of a box: its corners, its area, and whether it may be kept. -/
theorem feats_at (v : Fin 2048 → Prop) (hv : ∀ j, (k0_pay49 (F := Ideal) st y1 y2 d e (ix2 0 j) : EReal) = ind (v j))
    (j : Fin 2048) : (fun f : Fin 6 => (k0_pay51 (F := Ideal) st x1 y1 x2 y2 d e (ix2 f j) : EReal))
      = ![boxAt x1 y1 x2 y2 j 0, boxAt x1 y1 x2 y2 j 1, boxAt x1 y1 x2 y2 j 2, boxAt x1 y1 x2 y2 j 3,
          area (boxAt x1 y1 x2 y2 j), ind (v j)] := by
  funext f
  rw [← area_at, ← hv]
  pointwise [k0_pay51]
  fin_cases f <;> simp <;> rfl

/-- What the suppression matrix holds at row `i` and column `j`. -/
def suppAt (b : Fin 2048 → Fin 4 → EReal) (v : Fin 2048 → Prop) (i j : Fin 2048) : EReal :=
  ind ((Overlap (b i) (b j) ∧ i.val < j.val) ∧ v i)

/-- An entry of the overlap table. -/
theorem cell_at (v : Fin 2048 → Prop) (hv : ∀ j, (k0_pay49 (F := Ideal) st y1 y2 d e (ix2 0 j) : EReal) = ind (v j))
    (i j i' j' : Fin 2048) (hi : i.val = i'.val) (hj : j.val = j'.val) :
    cell (x1 (ix2 0 j)) (y1 (ix2 0 j)) (x2 (ix2 0 j)) (y2 (ix2 0 j)) (k0_pay50 (F := Ideal) x1 y1 x2 y2 (ix2 0 j))
        (fun f => k0_pay51 (F := Ideal) st x1 y1 x2 y2 d e (ix2 f i)) i.val j.val
      = suppAt (boxAt x1 y1 x2 y2) v i' j' := by
  obtain rfl := Fin.ext hi
  obtain rfl := Fin.ext hj
  rw [feats_at st x1 y1 x2 y2 d e v hv, area_at]
  exact cell_eq _ _ _ _ _

/-- Every index of a matrix is a pair of coordinates. -/
theorem exists_ix2 {m n : ℕ} (x : Shape.Idx (⟨2, ![m, n]⟩ : Shape)) : ∃ (r : Fin m) (j : Fin n), ix2 r j = x :=
  ⟨x 0, x 1, by funext a; fin_cases a <;> rfl⟩

/-- The whole overlap table. -/
theorem supp_at (v : Fin 2048 → Prop) (hv : ∀ j, (k0_pay49 (F := Ideal) st y1 y2 d e (ix2 0 j) : EReal) = ind (v j))
    (i j : Fin 2048) :
    (suppC (F := Ideal) (pieces st x1 y1 x2 y2 d e (k0_pay50 x1 y1 x2 y2) (k0_pay51 st x1 y1 x2 y2 d e)) (ix2 i j) : EReal)
      = suppAt (boxAt x1 y1 x2 y2) v i j := by
  unfold suppC
  rw [View.read_writes_apply_of_pieces (Val := Elt Ideal) _ _
    (fun y : S2048x2048.Idx => suppAt (boxAt x1 y1 x2 y2) v (y 0) (y 1))]
  · exact congrArg₂ (suppAt (boxAt x1 y1 x2 y2) v) (Fin.ext (show 0 + 1 * i.val = i.val by omega)) (Fin.ext (show 0 + 1 * j.val = j.val by omega))
  · unfold pieces
    simp only [List.forall_mem_cons]
    refine ⟨?_, ?_, ?_, ?_, ?_, ?_, ?_, ?_, ?_, ?_, ?_, ?_, ?_, ?_, ?_, ?_, fun _ h => nomatch h⟩
    · intro x
      obtain ⟨r, j, rfl⟩ := exists_ix2 x
      refine (chunk_15 x1 y1 x2 y2 (k0_pay50 x1 y1 x2 y2) (k0_pay51 st x1 y1 x2 y2 d e) r j).trans ?_
      exact cell_at st x1 y1 x2 y2 d e v hv _ _ _ _ (show 1920 + r.val = 1920 + 1 * r.val by omega) (show j.val = 0 + 1 * j.val by omega)
    · intro x
      obtain ⟨r, j, rfl⟩ := exists_ix2 x
      refine (chunk_14 x1 y1 x2 y2 (k0_pay50 x1 y1 x2 y2) (k0_pay51 st x1 y1 x2 y2 d e) r j).trans ?_
      exact cell_at st x1 y1 x2 y2 d e v hv _ _ _ _ (show 1792 + r.val = 1792 + 1 * r.val by omega) (show j.val = 0 + 1 * j.val by omega)
    · intro x
      obtain ⟨r, j, rfl⟩ := exists_ix2 x
      refine (chunk_13 x1 y1 x2 y2 (k0_pay50 x1 y1 x2 y2) (k0_pay51 st x1 y1 x2 y2 d e) r j).trans ?_
      exact cell_at st x1 y1 x2 y2 d e v hv _ _ _ _ (show 1664 + r.val = 1664 + 1 * r.val by omega) (show j.val = 0 + 1 * j.val by omega)
    · intro x
      obtain ⟨r, j, rfl⟩ := exists_ix2 x
      refine (chunk_12 x1 y1 x2 y2 (k0_pay50 x1 y1 x2 y2) (k0_pay51 st x1 y1 x2 y2 d e) r j).trans ?_
      exact cell_at st x1 y1 x2 y2 d e v hv _ _ _ _ (show 1536 + r.val = 1536 + 1 * r.val by omega) (show j.val = 0 + 1 * j.val by omega)
    · intro x
      obtain ⟨r, j, rfl⟩ := exists_ix2 x
      refine (chunk_11 x1 y1 x2 y2 (k0_pay50 x1 y1 x2 y2) (k0_pay51 st x1 y1 x2 y2 d e) r j).trans ?_
      exact cell_at st x1 y1 x2 y2 d e v hv _ _ _ _ (show 1408 + r.val = 1408 + 1 * r.val by omega) (show j.val = 0 + 1 * j.val by omega)
    · intro x
      obtain ⟨r, j, rfl⟩ := exists_ix2 x
      refine (chunk_10 x1 y1 x2 y2 (k0_pay50 x1 y1 x2 y2) (k0_pay51 st x1 y1 x2 y2 d e) r j).trans ?_
      exact cell_at st x1 y1 x2 y2 d e v hv _ _ _ _ (show 1280 + r.val = 1280 + 1 * r.val by omega) (show j.val = 0 + 1 * j.val by omega)
    · intro x
      obtain ⟨r, j, rfl⟩ := exists_ix2 x
      refine (chunk_9 x1 y1 x2 y2 (k0_pay50 x1 y1 x2 y2) (k0_pay51 st x1 y1 x2 y2 d e) r j).trans ?_
      exact cell_at st x1 y1 x2 y2 d e v hv _ _ _ _ (show 1152 + r.val = 1152 + 1 * r.val by omega) (show j.val = 0 + 1 * j.val by omega)
    · intro x
      obtain ⟨r, j, rfl⟩ := exists_ix2 x
      refine (chunk_8 x1 y1 x2 y2 (k0_pay50 x1 y1 x2 y2) (k0_pay51 st x1 y1 x2 y2 d e) r j).trans ?_
      exact cell_at st x1 y1 x2 y2 d e v hv _ _ _ _ (show 1024 + r.val = 1024 + 1 * r.val by omega) (show j.val = 0 + 1 * j.val by omega)
    · intro x
      obtain ⟨r, j, rfl⟩ := exists_ix2 x
      refine (chunk_7 x1 y1 x2 y2 (k0_pay50 x1 y1 x2 y2) (k0_pay51 st x1 y1 x2 y2 d e) r j).trans ?_
      exact cell_at st x1 y1 x2 y2 d e v hv _ _ _ _ (show 896 + r.val = 896 + 1 * r.val by omega) (show j.val = 0 + 1 * j.val by omega)
    · intro x
      obtain ⟨r, j, rfl⟩ := exists_ix2 x
      refine (chunk_6 x1 y1 x2 y2 (k0_pay50 x1 y1 x2 y2) (k0_pay51 st x1 y1 x2 y2 d e) r j).trans ?_
      exact cell_at st x1 y1 x2 y2 d e v hv _ _ _ _ (show 768 + r.val = 768 + 1 * r.val by omega) (show j.val = 0 + 1 * j.val by omega)
    · intro x
      obtain ⟨r, j, rfl⟩ := exists_ix2 x
      refine (chunk_5 x1 y1 x2 y2 (k0_pay50 x1 y1 x2 y2) (k0_pay51 st x1 y1 x2 y2 d e) r j).trans ?_
      exact cell_at st x1 y1 x2 y2 d e v hv _ _ _ _ (show 640 + r.val = 640 + 1 * r.val by omega) (show j.val = 0 + 1 * j.val by omega)
    · intro x
      obtain ⟨r, j, rfl⟩ := exists_ix2 x
      refine (chunk_4 x1 y1 x2 y2 (k0_pay50 x1 y1 x2 y2) (k0_pay51 st x1 y1 x2 y2 d e) r j).trans ?_
      exact cell_at st x1 y1 x2 y2 d e v hv _ _ _ _ (show 512 + r.val = 512 + 1 * r.val by omega) (show j.val = 0 + 1 * j.val by omega)
    · intro x
      obtain ⟨r, j, rfl⟩ := exists_ix2 x
      refine (chunk_3 x1 y1 x2 y2 (k0_pay50 x1 y1 x2 y2) (k0_pay51 st x1 y1 x2 y2 d e) r j).trans ?_
      exact cell_at st x1 y1 x2 y2 d e v hv _ _ _ _ (show 384 + r.val = 384 + 1 * r.val by omega) (show j.val = 0 + 1 * j.val by omega)
    · intro x
      obtain ⟨r, j, rfl⟩ := exists_ix2 x
      refine (chunk_2 x1 y1 x2 y2 (k0_pay50 x1 y1 x2 y2) (k0_pay51 st x1 y1 x2 y2 d e) r j).trans ?_
      exact cell_at st x1 y1 x2 y2 d e v hv _ _ _ _ (show 256 + r.val = 256 + 1 * r.val by omega) (show j.val = 0 + 1 * j.val by omega)
    · intro x
      obtain ⟨r, j, rfl⟩ := exists_ix2 x
      refine (chunk_1 x1 y1 x2 y2 (k0_pay50 x1 y1 x2 y2) (k0_pay51 st x1 y1 x2 y2 d e) r j).trans ?_
      exact cell_at st x1 y1 x2 y2 d e v hv _ _ _ _ (show 128 + r.val = 128 + 1 * r.val by omega) (show j.val = 0 + 1 * j.val by omega)
    · intro x
      obtain ⟨r, j, rfl⟩ := exists_ix2 x
      refine (chunk_0 x1 y1 x2 y2 (k0_pay50 x1 y1 x2 y2) st d e r j).trans ?_
      exact cell_at st x1 y1 x2 y2 d e v hv _ _ _ _ (show r.val = 0 + 1 * r.val by omega) (show j.val = 0 + 1 * j.val by omega)
  · exact View.cover_of_tiledL _ ![128, 2048] (by sl_kernel_rfl) _

end Cert.KernelIdeal.Value

end
-- ==== Proof.VGreedy.lean ====
module

public import proofs.«01_k».proof.Proof.VOrder

@[expose] public section

noncomputable section

/-! # Greedy suppression and the kept rows

Which boxes survive the suppression is a recursion along the order of the scores. This module states the recursion,
that it has one solution, that iterating a suppression round reaches it, that it does not depend on where the invalid
boxes stand, and what the rows of the result are. -/

namespace Rpn

open scoped BigOperators

/-- `K` keeps exactly the valid boxes that no earlier kept box overlaps. -/
def Greedy {n : ℕ} (valid : Fin n → Prop) (ov : Fin n → Fin n → Prop) (K : Fin n → Prop) : Prop :=
  ∀ j, K j ↔ valid j ∧ ∀ i, i < j → K i → ¬ ov i j

/-- There is one greedy choice. -/
theorem Greedy.unique {n : ℕ} {valid : Fin n → Prop} {ov : Fin n → Fin n → Prop} {K K' : Fin n → Prop}
    (h : Greedy valid ov K) (h' : Greedy valid ov K') (j : Fin n) : K j ↔ K' j := by
  obtain ⟨t, ht⟩ : ∃ t, j.val = t := ⟨_, rfl⟩
  induction t using Nat.strong_induction_on generalizing j with
  | _ t ih =>
    rw [h j, h' j]
    exact and_congr_right fun _ => forall₂_congr fun i hi => by rw [ih i.val (ht ▸ hi) i rfl]

/-- The recursion on the first `m` of `n` boxes. -/
theorem Greedy.castLE {n m : ℕ} (hm : m ≤ n) {valid : Fin n → Prop} {ov : Fin n → Fin n → Prop} {K : Fin n → Prop}
    (h : Greedy valid ov K) : Greedy (fun j : Fin m => valid (j.castLE hm)) (fun i j => ov (i.castLE hm) (j.castLE hm))
      (fun j => K (j.castLE hm)) := by
  intro j
  beta_reduce
  rw [h (j.castLE hm)]
  refine and_congr_right fun _ => ⟨fun H i hi => H _ hi, fun H i hi => ?_⟩
  have : i = (⟨i.val, lt_of_lt_of_le hi j.isLt.le⟩ : Fin m).castLE hm := rfl
  rw [this]; exact H ⟨i.val, _⟩ hi

/-- One suppression round: a valid box stays unless a kept one suppresses it. -/
def round {n : ℕ} (valid : Fin n → Prop) (S : Fin n → Fin n → Prop) (K : Fin n → Prop) : Fin n → Prop :=
  fun j => valid j ∧ ∀ i, K i → ¬ S i j

/-- After `t + 1` rounds the first `t` places no longer change. -/
theorem round_iterate_stable {n : ℕ} (valid : Fin n → Prop) (S : Fin n → Fin n → Prop) (hS : ∀ i j, S i j → i < j)
    (K : Fin n → Prop) (t : ℕ) : ∀ j : Fin n, j.val < t → ((round valid S)^[t + 1] K j ↔ (round valid S)^[t] K j) := by
  induction t with
  | zero => intro j hj; omega
  | succ t ih =>
    intro j hj
    rw [Function.iterate_succ_apply' _ (t + 1), Function.iterate_succ_apply' _ t]
    show (_ ∧ ∀ i, _ → _) ↔ (_ ∧ ∀ i, _ → _)
    refine and_congr_right fun _ => forall_congr' fun i => ?_
    by_cases hij : S i j
    · rw [← Function.iterate_succ_apply' (round valid S) t, ih i (by have := hS i j hij; have : i.val < j.val := this; omega)]
    · simp [hij]

/-- After as many rounds as there are boxes a further round changes nothing. -/
theorem round_iterate_fix {n : ℕ} (valid : Fin n → Prop) (S : Fin n → Fin n → Prop) (hS : ∀ i j, S i j → i < j)
    (K : Fin n → Prop) : round valid S ((round valid S)^[n] K) = (round valid S)^[n] K := by
  funext j
  rw [← Function.iterate_succ_apply' (round valid S)]
  exact propext (round_iterate_stable valid S hS K n j j.isLt)

/-- A row that a round leaves alone is the greedy one. -/
theorem greedy_of_fix {n : ℕ} {valid : Fin n → Prop} {ov S : Fin n → Fin n → Prop} (hS : ∀ i j, S i j ↔ i < j ∧ valid i ∧ ov i j)
    {K : Fin n → Prop} (h : round valid S K = K) : Greedy valid ov K := by
  have hv : ∀ i, K i → valid i := fun i hi => by rw [← h] at hi; exact hi.1
  intro j
  conv_lhs => rw [← h]
  show (_ ∧ ∀ i, _ → _) ↔ _
  refine and_congr_right fun _ => forall_congr' fun i => ?_
  rw [hS]
  exact ⟨fun H hij hK ho => H hK ⟨hij, hv i hK, ho⟩, fun H hK ho => H ho.1 hK ho.2.2⟩

/-! ## The suppression loop that runs over the boxes one by one -/

/-- The row after `t` steps of the loop: step `i` lets box `i`, if still kept, remove the later ones it overlaps. -/
def loopKeep {n : ℕ} (ov : Fin n → Fin n → Prop) (t : ℕ) (j : Fin n) : Prop := by
  exact match t with
  | 0 => True
  | t + 1 => loopKeep ov t j ∧ ¬ ∃ i : Fin n, i.val = t ∧ ov i j ∧ i < j ∧ loopKeep ov t i

/-- Before the first trip everything is kept. -/
theorem loopKeep_zero {n : ℕ} (ov : Fin n → Fin n → Prop) (j : Fin n) : loopKeep ov 0 j ↔ True := by
  rw [loopKeep]

/-- One more trip. -/
theorem loopKeep_succ {n : ℕ} (ov : Fin n → Fin n → Prop) (t : ℕ) (j : Fin n) :
    loopKeep ov (t + 1) j ↔ loopKeep ov t j ∧ ¬ ∃ i : Fin n, i.val = t ∧ ov i j ∧ i < j ∧ loopKeep ov t i := by
  rw [loopKeep]

/-- What is kept after `t` trips. -/
theorem loopKeep_iff {n : ℕ} (ov : Fin n → Fin n → Prop) (t : ℕ) (j : Fin n) :
    loopKeep ov t j ↔ ∀ i : Fin n, i.val < t → i < j → loopKeep ov i.val i → ¬ ov i j := by
  induction t with
  | zero => rw [loopKeep_zero]; simp
  | succ t ih =>
    rw [loopKeep_succ, ih]
    constructor
    · rintro ⟨h, hn⟩ i hi hij hK ho
      rcases Nat.lt_succ_iff_lt_or_eq.mp hi with hi | hi
      · exact h i hi hij hK ho
      · exact hn ⟨i, hi, ho, hij, hi ▸ hK⟩
    · intro h
      refine ⟨fun i hi => h i (by omega), ?_⟩
      rintro ⟨i, rfl, ho, hij, hK⟩
      exact h i (by omega) hij hK ho

/-- A box's entry does not change from the step of its own on. -/
theorem loopKeep_late {n : ℕ} (ov : Fin n → Fin n → Prop) (t : ℕ) (j : Fin n) (h : j.val ≤ t) :
    loopKeep ov t j ↔ loopKeep ov j.val j := by
  rw [loopKeep_iff, loopKeep_iff]
  exact forall_congr' fun i => ⟨fun H hi => H (by omega), fun H _ hij => H hij hij⟩

/-- After all trips the loop has made the greedy choice. -/
theorem loopKeep_greedy {n : ℕ} (ov : Fin n → Fin n → Prop) : Greedy (fun _ => True) ov (loopKeep ov n) := by
  intro j
  rw [loopKeep_iff]
  simp only [true_and]
  exact forall_congr' fun i => ⟨fun H hij hK => H i.isLt hij ((loopKeep_late ov n i i.isLt.le).mp hK),
    fun H _ hij hK => H hij ((loopKeep_late ov n i i.isLt.le).mpr hK)⟩

/-! ## The rows of the result -/

/-- How many boxes before `p` are kept. -/
abbrev slotOf {n : ℕ} (K : Fin n → Prop) (p : Fin n) : ℕ := pos (fun a b : Fin n => a < b) K p

/-- `v` is row `r` of the kept entries of `f`: the `r`-th kept one, zero past the last. -/
def Row {n : ℕ} (K : Fin n → Prop) (f : Fin n → EReal) (r : ℕ) (v : EReal) : Prop :=
  (∀ p, K p → slotOf K p = r → v = f p) ∧ ((∀ p, K p → slotOf K p ≠ r) → v = 0)

/-- A row holds one value. -/
theorem Row.unique {n : ℕ} {K : Fin n → Prop} {f : Fin n → EReal} {r : ℕ} {v v' : EReal} (h : Row K f r v) (h' : Row K f r v') :
    v = v' := by
  by_cases hp : ∃ p, K p ∧ slotOf K p = r
  · obtain ⟨p, hK, e⟩ := hp
    rw [h.1 p hK e, h'.1 p hK e]
  · have hn : ∀ p, K p → slotOf K p ≠ r := fun p hK e => hp ⟨p, hK, e⟩
    rw [h.2 hn, h'.2 hn]

/-- A row depends on the kept places alone. -/
theorem Row.congr {n : ℕ} {K K' : Fin n → Prop} (hK : ∀ p, K p ↔ K' p) {f : Fin n → EReal} {r : ℕ} {v : EReal} (h : Row K f r v) :
    Row K' f r v := by
  rw [show K' = K from funext fun p => propext (hK p).symm]; exact h

/-- The slot of a place does not depend on the places after it. -/
theorem slotOf_castLE {n m : ℕ} (hm : m ≤ n) (K : Fin n → Prop) (p : Fin m) :
    slotOf K (p.castLE hm) = slotOf (fun q : Fin m => K (q.castLE hm)) p := by
  by_cases hm0 : 0 < m
  · refine cnt_bij (fun q => if h : q.val < m then ⟨q.val, h⟩ else ⟨0, hm0⟩) (fun q => q.castLE hm) ?_ ?_ ?_ ?_
    · rintro q ⟨hq, hK⟩
      have hq' : q.val < p.val := hq
      have h : q.val < m := hq'.trans p.isLt
      simp only [h, dif_pos]; exact ⟨hq', hK⟩
    · rintro q ⟨hq, hK⟩; exact ⟨hq, hK⟩
    · rintro q ⟨hq, hK⟩
      have hq' : q.val < p.val := hq
      have h : q.val < m := hq'.trans p.isLt
      simp only [h, dif_pos]; rfl
    · rintro q ⟨hq, hK⟩
      have h : (q.castLE hm).val < m := q.isLt
      simp only [h, dif_pos]; rfl
  · exact absurd p.isLt (by omega)

/-- When nothing past the first `m` boxes is kept, the rows are those of the first `m`. -/
theorem Row.castLE {n m : ℕ} (hm : m ≤ n) {K : Fin n → Prop} (hK : ∀ p, K p → p.val < m) {f : Fin n → EReal} {r : ℕ} {v : EReal}
    (h : Row K f r v) : Row (fun p : Fin m => K (p.castLE hm)) (fun p => f (p.castLE hm)) r v := by
  refine ⟨fun p hp e => h.1 _ hp (by rw [slotOf_castLE hm]; exact e), fun hn => h.2 fun p hp e => ?_⟩
  refine hn ⟨p.val, hK p hp⟩ hp ?_
  rw [← slotOf_castLE hm]; exact e

/-- A one-hot sum over the boxes is a row. -/
theorem row_sum {n : ℕ} (K : Fin n → Prop) (f : Fin n → EReal) (r : ℕ) (c : Fin n → EReal)
    (hc1 : ∀ p, K p → slotOf K p = r → c p = 1) (hc0 : ∀ p, ¬ (K p ∧ slotOf K p = r) → c p = 0) :
    Row K f r (∑ p, c p * f p) := by
  refine ⟨fun p hK e => ?_, fun hn => ?_⟩
  · rw [Finset.sum_eq_single p]
    · rw [hc1 p hK e, one_mul]
    · intro q _ hq
      rw [hc0 q, zero_mul]
      rintro ⟨hKq, eq⟩
      exact hq (pos_inj strict_lt hKq hK (eq.trans e.symm))
    · intro h; exact absurd (Finset.mem_univ p) h
  · refine Finset.sum_eq_zero fun p _ => ?_
    rw [hc0 p, zero_mul]
    rintro ⟨hK, e⟩; exact hn p hK e

/-! ## The sorted boxes -/

section Sorted

variable {n : ℕ} (st sn : Fin n → EReal) (valid : Fin n → Prop)

/-- The stable order by decreasing masked score keeps the valid boxes, in their order, before the invalid ones. -/
theorem masked_before (hst : ∀ p q : Fin n, p ≤ q → st q ≤ st p) (hbot : ∀ p, valid p → st p ≠ ⊥)
    (hv : ∀ p, valid p → sn p = st p) (hn : ∀ p, ¬ valid p → sn p = ⊥) {p q : Fin n} (hq : valid q) :
    Before sn p q ↔ valid p ∧ p < q := by
  by_cases hp : valid p
  · unfold Before
    rw [hv p hp, hv q hq]
    simp only [hp, true_and]
    constructor
    · rintro (h | h)
      · by_contra hc; exact absurd (hst q p (not_lt.mp hc)) (not_le.mpr h)
      · exact h.2
    · intro h
      rcases (hst p q h.le).lt_or_eq with h' | h'
      · exact Or.inl h'
      · exact Or.inr ⟨h'.symm, h⟩
  · simp only [hp, false_and, iff_false]
    unfold Before
    rw [hn p hp, hv q hq]
    rintro (h | h)
    · exact not_lt_bot h
    · exact hbot q hq h.1.symm

/-- Suppression along the masked order, read at the boxes' own places, is the greedy recursion over the valid boxes. -/
theorem greedy_masked (hst : ∀ p q : Fin n, p ≤ q → st q ≤ st p) (hbot : ∀ p, valid p → st p ≠ ⊥)
    (hv : ∀ p, valid p → sn p = st p) (hn : ∀ p, ¬ valid p → sn p = ⊥) (ov : Fin n → Fin n → Prop) (KR K : Fin n → Prop)
    (hKR : Greedy (fun _ => True) (fun a b => ov (ordr sn a) (ordr sn b)) KR)
    (hK : ∀ a, K (ordr sn a) ↔ KR a ∧ valid (ordr sn a)) : Greedy valid ov K := by
  intro j
  obtain ⟨b, rfl⟩ := ordr_surjective sn j
  rw [hK b, hKR b, and_comm]
  simp only [true_and]
  refine and_congr_right fun hvb => ⟨fun H i hi hKi => ?_, fun H a hab hKa => ?_⟩
  · obtain ⟨a, rfl⟩ := ordr_surjective sn i
    have hKa := (hK a).mp hKi
    exact H a ((ordr_before_iff sn).mp ((masked_before st sn valid hst hbot hv hn hvb).mpr ⟨hKa.2, hi⟩)) hKa.1
  · have h := (masked_before st sn valid hst hbot hv hn hvb).mp (ordr_before sn hab)
    exact H _ h.2 ((hK a).mpr ⟨hKa, h.1⟩)

/-- The best kept scores, taken by a second selection over the masked order, are the rows of the kept boxes. -/
theorem row_selected (hst : ∀ p q : Fin n, p ≤ q → st q ≤ st p) (hbot : ∀ p, valid p → st p ≠ ⊥)
    (hv : ∀ p, valid p → sn p = st p) (hn : ∀ p, ¬ valid p → sn p = ⊥) (K : Fin n → Prop) (hKv : ∀ p, K p → valid p)
    (sk : Fin n → EReal) (hsk : ∀ a, K (ordr sn a) → sk a = sn (ordr sn a)) (hsk' : ∀ a, ¬ K (ordr sn a) → sk a = ⊥)
    (f : Fin n → EReal) (r : Fin n) (v : EReal) (h1 : K (ordr sn (ordr sk r)) → v = f (ordr sn (ordr sk r)))
    (h0 : ¬ K (ordr sn (ordr sk r)) → v = 0) : Row K f r.val v := by
  obtain ⟨g, hg⟩ := (ordr_surjective sn).hasRightInverse
  have hgi : ∀ a, g (ordr sn a) = a := fun a => ordr_injective sn (hg _)
  have key : ∀ b, K (ordr sn b) → slotOf K (ordr sn b) = rk sk b := by
    intro b hb
    refine cnt_bij g (ordr sn) ?_ ?_ ?_ ?_
    · rintro q ⟨hq, hKq⟩
      have hq' : K (ordr sn (g q)) := by rw [hg]; exact hKq
      have hlt : g q < b := (ordr_before_iff sn).mp (by rw [hg]; exact (masked_before st sn valid hst hbot hv hn (hKv _ hb)).mpr ⟨hKv _ hKq, hq⟩)
      unfold Before
      rw [hsk _ hq', hsk _ hb]
      rcases (ordr_antitone sn hlt.le).lt_or_eq with h | h
      · exact Or.inl h
      · exact Or.inr ⟨h.symm, hlt⟩
    · intro a ha
      have hKa : K (ordr sn a) := by
        by_contra hc
        rcases ha with h | h
        · rw [hsk' a hc] at h; exact not_lt_bot h
        · rw [hsk' a hc, hsk b hb, hv _ (hKv _ hb)] at h; exact hbot _ (hKv _ hb) h.1.symm
      refine ⟨?_, hKa⟩
      have hlt : a < b := by
        unfold Before at ha
        rw [hsk _ hKa, hsk _ hb] at ha
        rcases ha with h | h
        · by_contra hc; exact absurd (ordr_antitone sn (not_lt.mp hc)) (not_le.mpr h)
        · exact h.2
      exact ((masked_before st sn valid hst hbot hv hn (hKv _ hb)).mp (ordr_before sn hlt)).2
    · intro q _; exact hg q
    · intro a _; exact hgi a
  refine ⟨fun p hp e => ?_, fun hn' => h0 fun hK => hn' _ hK ?_⟩
  · obtain ⟨b, rfl⟩ := ordr_surjective sn p
    rw [key b hp] at e
    have : b = ordr sk r := eq_ordr sk e
    subst this
    exact h1 hp
  · rw [key _ hK, rk_ordr]

end Sorted

end Rpn

end
-- ==== Proof.KVNms.lean ====
module

public import proofs.«01_k».proof.Proof.KVSupp
public import proofs.«01_k».proof.Proof.VGreedy

@[expose] public section

set_option maxRecDepth 16384

noncomputable section

/-! # The suppression loop ends at the greedy selection -/

namespace Cert.KernelIdeal.Value

open Cert.KernelIdeal Cert.KernelIdeal.Gen
open Idealize.ShloMosaic Idealize.ShloMosaic.Tactic Rpn
open scoped BigOperators

/-- The absolute value of an extended real, as the larger of it and its negative. -/
def absE (x : EReal) : EReal := max x (-x)

/-- A row of marks, one where `K` holds and zero elsewhere. -/
def marks (K : Fin 2048 → Prop) : FVec Ideal S1x2048 .f32 := fun x => ind (K (x 1))

/-- An entry of the marks. -/
theorem marks_at (K : Fin 2048 → Prop) (j : Fin 2048) : (marks K (ix2 0 j) : EReal) = ind (K j) := rfl

/-- A row of indicators is the row of marks. -/
theorem eq_marks (v : FVec Ideal S1x2048 .f32) (K : Fin 2048 → Prop) (h : ∀ j, (v (ix2 0 j) : EReal) = ind (K j)) : v = marks K := by
  funext x
  obtain ⟨a, j, rfl⟩ := exists_ix2 x
  obtain rfl : a = 0 := Subsingleton.elim _ _
  exact h j

variable (S : Vec Ideal S2048x2048 .f32) (valid K : Fin 2048 → Prop) (R : Fin 2048 → Fin 2048 → Prop)
  (hS : ∀ i j, (S (ix2 i j) : EReal) = ind (R i j))

include hS in
/-- One round of the loop. -/
theorem pay3_marks : k0_pay3 (F := Ideal) (marks valid) (marks K) S = marks (round valid R K) := by
  refine eq_marks _ _ fun j => ?_
  pointwise [k0_pay3]
  have hs : (∑ x : Fin 2048, (marks K (ix2 0 x) : EReal) * S (ix2 x j)) = ((cnt fun x => K x ∧ R x j : ℕ) : EReal) := by
    rw [← sum_indicator]
    refine Finset.sum_congr rfl fun x _ => ?_
    rw [hS, marks_at, ind_mul]
  rw [hs, marks_at]
  by_cases h : ∃ x, K x ∧ R x j
  · rw [if_pos (by exact_mod_cast cnt_pos.mpr h), mul_zero]
    refine (ind_neg ?_).symm
    rintro ⟨-, h'⟩
    obtain ⟨x, hx, hr⟩ := h
    exact h' x hx hr
  · rw [if_neg (fun h' => h (cnt_pos.mp (by exact_mod_cast h'))), mul_one]
    exact ind_congr ⟨fun hv => ⟨hv, fun i hi hr => h ⟨i, hi, hr⟩⟩, fun h => h.1⟩

include hS in
/-- When the loop's measure of change is not positive, nothing changed. -/
theorem pay4_fix (h : ¬ (0 : EReal) < k0_pay4 (F := Ideal) (marks valid) (marks K) S) : round valid R K = K := by
  have e : (k0_pay4 (F := Ideal) (marks valid) (marks K) S : EReal)
      = ∑ x : Fin 2048, absE (ind (round valid R K x) - ind (K x)) := by
    pointwise [k0_pay4]
    rw [pay3_marks S valid K R hS, Fin.sum_univ_one]
    rfl
  rw [e] at h
  by_contra hne
  obtain ⟨j, hj⟩ : ∃ j, round valid R K j ≠ K j := by
    by_contra hc
    exact hne (funext fun j => by_contra fun hj => hc ⟨j, hj⟩)
  refine h (lt_of_lt_of_le ?_ (Finset.single_le_sum (f := fun x => absE (ind (round valid R K x) - ind (K x))) (fun x _ => ?_) (Finset.mem_univ j)))
  · by_cases h1 : round valid R K j <;> by_cases h2 : K j
    · exact absurd (propext ⟨fun _ => h2, fun _ => h1⟩) hj
    · simp only [ind_pos h1, ind_neg h2]; norm_num [absE]
    · simp only [ind_neg h1, ind_pos h2]; norm_num [absE]
    · exact absurd (propext ⟨fun h => absurd h h1, fun h => absurd h h2⟩) hj
  · unfold absE
    rcases le_total (0 : EReal) (ind (round valid R K x) - ind (K x)) with h | h
    · exact le_max_of_le_left h
    · exact le_max_of_le_right (by simpa using EReal.neg_le_neg_iff.mpr h)

include hS in
/-- The loop ends at a set of boxes that one more round does not change. -/
theorem nms_fix (hR : ∀ i j, R i j → i < j) : ∀ n, n ≤ 2048 → ∀ (ch : BitVec 1) (K : Fin 2048 → Prop),
    (ch = 1#1 ∨ round valid R K = K) → K = (round valid R)^[2048 - n] valid →
    ∃ K', (nmsRun (F := Ideal) S (marks valid) n (ctr n, ch, marks K)).2.2 = marks K' ∧ round valid R K' = K' := by
  intro n
  induction n with
  | zero =>
    intro _ ch K _ hK
    refine ⟨K, rfl, ?_⟩
    rw [hK]
    exact round_iterate_fix valid R hR valid
  | succ n ih =>
    intro hn ch K hch hK
    rw [nmsRun]
    split
    · rename_i hc
      rw [ctr_succ hn, pay3_marks S valid K R hS]
      refine ih (by omega) _ (round valid R K) ?_ ?_
      · by_cases hp : (0 : EReal) < k0_pay4 (F := Ideal) (marks valid) (marks K) S
        · left
          show BitVec.ofBool (decide (_ < _)) = 1#1
          rw [show Scalar.ofBits (F := Ideal) .f32 0#32 = (0 : EReal) from by pointwise []]
          simp [hp]
        · right
          have := pay4_fix S valid K R hS hp
          rw [this, this]
      · rw [hK, ← Function.iterate_succ_apply' (round valid R)]
        congr 1; omega
    · rename_i hc
      refine ⟨K, rfl, ?_⟩
      rcases hch with rfl | h
      · refine absurd ?_ hc
        have : Scalar.cmpi .slt (ctr (n + 1)) 2048#32 = 1#1 := by
          unfold ctr
          rw [show Scalar.cmpi .slt (BitVec.ofNat 32 (2048 - (n + 1))) 2048#32
            = BitVec.ofBool (decide (2048 - (n + 1) < 2048)) from Idealize.ShloMosaic.WordCmp.cmpi_slt_ofNat (by norm_num; omega) (by norm_num)]
          rw [decide_eq_true (by omega)]
          rfl
        simp only [this]; decide
      · exact h

/-- On the suppression matrix of the boxes `b` the loop ends at their greedy selection. -/
theorem nms_greedy (b : Fin 2048 → Fin 4 → EReal) (hS : ∀ i j, (S (ix2 i j) : EReal) = suppAt b valid i j) :
    ∃ K, (nmsRun (F := Ideal) S (marks valid) 2048 (ctr 2048, 1#1, marks valid)).2.2 = marks K
      ∧ Greedy valid (fun i j => Overlap (b i) (b j)) K := by
  obtain ⟨K, hK, hf⟩ := nms_fix S valid (fun i j => (Overlap (b i) (b j) ∧ i.val < j.val) ∧ valid i) hS
    (fun i j h => h.1.2) 2048 le_rfl 1#1 valid (.inl rfl) rfl
  exact ⟨K, hK, greedy_of_fix (fun i j => ⟨fun h => ⟨h.1.2, h.2, h.1.1⟩, fun h => ⟨⟨h.2.2, h.1⟩, h.2.1⟩⟩) hf⟩

end Cert.KernelIdeal.Value

end
-- ==== Proof.KVPay7.lean ====
module

public import proofs.«01_k».proof.Proof.Gen.KernelIdeal.Skeleton
public import Idealize.ShloMosaic.Lib.Pointwise

@[expose] public section

set_option maxRecDepth 16384

noncomputable section

/-! # One chunk of the compaction, read at an index -/

namespace Cert.KernelIdeal.Value

open Cert.KernelIdeal Cert.KernelIdeal.Gen
open Idealize.ShloMosaic
open scoped BigOperators

/-- One chunk's contribution to the gathered rows, entry by entry, before its words and conditions are read. -/
theorem pay7_raw (lo : EReal) (v34 : FVec Ideal S2048x1 .f32) (v35 : Vec Ideal S512x512 .f32) (k : Fin k0_t3_loop.trips)
    (a9 : FVec Ideal S10x2048 .f32) (a10 : EReal) (x : Vec Ideal S1x1x512 .f32) (y : Vec Ideal S1x4x512 .f32) (z : Vec Ideal S4x512 .f32)
    (f : Fin 10) (j : Fin 2048) :
    (k0_pay7 (F := Ideal) lo v34 v35 0#32 1#32 k a9 a10 x y z (ix2 f j) : EReal)
      = a9 (ix2 f j) + ∑ l : Fin 512, Scalar.select (IntOp.andi
            (BitVec.ofBool (decide ((v34 (ix2 j 0) : EReal) = ∑ a, k0_pay6 (F := Ideal) lo x (ix2 0 a) * v35 (ix2 a l) + a10 - 1)))
            (BitVec.ofBool (decide ((0 : EReal) < k0_pay6 (F := Ideal) lo x (ix2 0 l)))))
          (if h : f.val < 1 then if (0 : EReal) < k0_pay6 (F := Ideal) lo x (ix2 ⟨f.val, h⟩ l) then (k0_pay5 (F := Ideal) x (ix2 ⟨f.val, h⟩ l) : EReal) else 0
          else if h : f.val - 1 < 1 then
              (FloatOps.sitofp (F := Ideal) .f32 (BitVec.ofNat 32 l.val) : EReal)
                + ((((Scalar.muli (Scf.iv 0#32 1#32 k.val) 512#32).toInt : ℤ) : ℝ) : EReal)
            else if h : f.val - 1 - 1 < 4 then y (ix3 0 ⟨f.val - 1 - 1, h⟩ l) else z (ix2 ⟨f.val - 1 - 1 - 4, by omega⟩ l)) 0 := by
  pointwise [k0_pay7]
  try rfl

end Cert.KernelIdeal.Value

end
-- ==== Proof.KVCompact.lean ====
module

public import proofs.«01_k».proof.Proof.KVBracket
public import proofs.«01_k».proof.Proof.KVPay7

@[expose] public section

set_option maxRecDepth 16384

noncomputable section

/-! # The kernel's compaction of the candidates -/

namespace Rpn

open scoped BigOperators

/-- A count splits by a second property. -/
theorem cnt_split {α : Type} [Fintype α] (p q : α → Prop) : cnt p = cnt (fun x => q x ∧ p x) + cnt (fun x => ¬ q x ∧ p x) := by
  classical
  rw [cnt_eq, cnt_eq, cnt_eq, ← Finset.card_union_of_disjoint]
  · congr 1
    ext x
    by_cases h : q x <;> simp [h]
  · rw [Finset.disjoint_left]
    intro x hx hx'
    simp at hx hx'
    exact hx'.1 hx.1

/-- Counting up to a place in block `k` of width `T`: the earlier blocks, and the block up to that place. -/
theorem cnt_block {N : ℕ} (T k L : ℕ) (hL : L ≤ T) (hk : (k + 1) * T ≤ N) (hT : 0 < T) (p : Fin N → Prop) :
    cnt (fun i : Fin N => i.val < k * T + L ∧ p i)
      = cnt (fun i : Fin N => i.val < k * T ∧ p i)
        + cnt (fun a : Fin T => a.val < L ∧ p ⟨k * T + a.val, by have := a.isLt; rw [Nat.add_mul, Nat.one_mul] at hk; omega⟩) := by
  rw [Nat.add_mul, Nat.one_mul] at hk
  rw [cnt_split _ (fun i : Fin N => i.val < k * T)]
  congr 1
  · exact cnt_congr fun i => ⟨fun h => ⟨h.1, h.2.2⟩, fun h => ⟨h.1, by omega, h.2⟩⟩
  · refine cnt_bij (fun i => if h : i.val - k * T < T then ⟨i.val - k * T, h⟩ else ⟨0, hT⟩) (fun a => ⟨k * T + a.val, by have := a.isLt; omega⟩) ?_ ?_ ?_ ?_
    · rintro i ⟨h1, h2, h3⟩
      have h : i.val - k * T < T := by omega
      have e : (⟨k * T + (i.val - k * T), by omega⟩ : Fin N) = i := Fin.ext (by show k * T + (i.val - k * T) = i.val; omega)
      simp only [h, dif_pos]
      refine ⟨by omega, ?_⟩
      rw [e]; exact h3
    · rintro a ⟨h1, h2⟩
      exact ⟨by show ¬ (k * T + a.val < k * T); omega, by show k * T + a.val < k * T + L; omega, h2⟩
    · rintro i ⟨h1, h2, h3⟩
      have h : i.val - k * T < T := by omega
      simp only [h, dif_pos]
      exact Fin.ext (by show k * T + (i.val - k * T) = i.val; omega)
    · rintro a ⟨h1, h2⟩
      have h : k * T + a.val - k * T < T := by have := a.isLt; omega
      simp only [h, dif_pos]
      exact Fin.ext (by show k * T + a.val - k * T = a.val; omega)

/-- Counting up to and including a member adds one. -/
theorem cnt_le_succ {T : ℕ} (l : Fin T) (p : Fin T → Prop) (hp : p l) :
    cnt (fun a : Fin T => p a ∧ a ≤ l) = cnt (fun a : Fin T => a.val < l.val ∧ p a) + 1 := by
  rw [cnt_split _ (fun a : Fin T => a.val < l.val)]
  congr 1
  · exact cnt_congr fun a => ⟨fun h => ⟨h.1, h.2.1⟩, fun h => ⟨h.1, h.2, Fin.le_def.mpr h.1.le⟩⟩
  · classical
    rw [cnt_eq, Finset.card_eq_one]
    refine ⟨l, ?_⟩
    ext a
    simp only [Finset.mem_filter, Finset.mem_univ, true_and, Finset.mem_singleton, Fin.le_def]
    constructor
    · rintro ⟨h1, h2, h3⟩; exact Fin.ext (by omega)
    · rintro rfl; exact ⟨lt_irrefl _, hp, le_rfl⟩

end Rpn

namespace Cert.KernelIdeal.Value

open Cert.KernelIdeal Cert.KernelIdeal.Gen
open Idealize.ShloMosaic Rpn
open scoped BigOperators

variable (c : Dev nD) (i : grid0.Coords) (arg1 : Memref sig .tc .vmem S1x1x20480 .f32) (harg1 : arg1.IsWhole)
  (arg2 : Memref sig .tc .vmem S1x4x20480 .f32) (harg2 : arg2.IsWhole) (arg3 : Memref sig .tc .vmem S4x20480 .f32) (harg3 : arg3.IsWhole)
  (arg4 : Memref sig .tc .vmem S1x1000x4 .f32) (harg4 : arg4.IsWhole) (arg5 : Memref sig .tc .vmem S1x1x1000 .f32) (harg5 : arg5.IsWhole)
  (arg6 : Memref sig .tc .vmem S512x512 .f32) (harg6 : arg6.IsWhole) (arg7 : Memref sig .tc .vmem S2048x2048 .f32) (harg7 : arg7.IsWhole)
  (x0 : Vec Ideal S1x1x20480 .f32) (x1 : Vec Ideal S1x4x20480 .f32) (x2 : Vec Ideal S4x20480 .f32)

/-- The ten numbers the kernel keeps of a proposal: its score, its place, its four offsets and its anchor's corners. -/
def feat (f : Fin 10) (i : Fin 20480) : EReal :=
  if f.val < 1 then sc x0 i else if f.val - 1 < 1 then ((i.val : ℕ) : EReal)
    else if h : f.val - 1 - 1 < 4 then x1 (ix3 0 ⟨f.val - 1 - 1, h⟩ i) else x2 (ix2 ⟨f.val - 1 - 1 - 4, by omega⟩ i)

/-- Where a chunk of scores is read. -/
theorem off2_idx (q : Fin k0_t3_loop.trips) (l : Fin 512) :
    (Rect.unit (s := S1x1x20480) (k0_off2 q) S1x1x512.size (k0_off2_inb q)).toLoadRect.idx (ix3 0 0 l)
      = ix3 0 0 ⟨q.val * 512 + l.val, by have := lt3 q; omega⟩ := by
  funext a
  refine Fin.ext ?_
  have := lt3 q
  have hw : k0_off2 q 2 = q.val * 512 := trip_toNat q.val 512 (by omega)
  match a with
  | 0 => rfl
  | 1 => rfl
  | 2 => show k0_off2 q 2 + 1 * l.val = _; rw [hw, one_mul]; rfl

/-- Where a chunk of deltas is read. -/
theorem off3_idx (q : Fin k0_t3_loop.trips) (f : Fin 4) (l : Fin 512) :
    (Rect.unit (s := S1x4x20480) (k0_off3 q) S1x4x512.size (k0_off3_inb q)).toLoadRect.idx (ix3 0 f l)
      = ix3 0 f ⟨q.val * 512 + l.val, by have := lt3 q; omega⟩ := by
  funext a
  refine Fin.ext ?_
  have := lt3 q
  have hw : k0_off3 q 2 = q.val * 512 := trip_toNat q.val 512 (by omega)
  match a with
  | 0 => rfl
  | 1 => show k0_off3 q 1 + 1 * f.val = _; rw [one_mul]; exact Nat.zero_add _
  | 2 => show k0_off3 q 2 + 1 * l.val = _; rw [hw, one_mul]; rfl

/-- Where a chunk of anchors is read. -/
theorem off4_idx (q : Fin k0_t3_loop.trips) (f : Fin 4) (l : Fin 512) :
    (Rect.unit (s := S4x20480) (k0_off4 q) S4x512.size (k0_off4_inb q)).toLoadRect.idx (ix2 f l)
      = ix2 f ⟨q.val * 512 + l.val, by have := lt3 q; omega⟩ := by
  funext a
  refine Fin.ext ?_
  have := lt3 q
  have hw : k0_off4 q 1 = q.val * 512 := trip_toNat q.val 512 (by omega)
  match a with
  | 0 => show k0_off4 q 0 + 1 * f.val = _; rw [one_mul]; exact Nat.zero_add _
  | 1 => show k0_off4 q 1 + 1 * l.val = _; rw [hw, one_mul]; rfl

/-- The mark of a candidate in a chunk. -/
theorem pay6_at (lo : EReal) (x : Vec Ideal S1x1x512 .f32) (l : Fin 512) :
    k0_pay6 (F := Ideal) lo x (ix2 0 l) = ind (lo ≤ x (ix3 0 0 l)) := by
  pointwise [k0_pay6, k0_pay5]
  simp only [word_ofBool]

/-- The score of a lane. -/
theorem pay5_at (x : Vec Ideal S1x1x512 .f32) (l : Fin 512) : k0_pay5 (F := Ideal) x (ix2 0 l) = x (ix3 0 0 l) := by
  pointwise [k0_pay5]

/-- The lane number of a slot. -/
theorem pay17_at (j : Fin 2048) : k0_pay17 (F := Ideal) (ix2 j 0) = ((j.val : ℕ) : EReal) := by
  pointwise [k0_pay17]
  exact word_nat j.val (by omega)

/-- One round of compaction adds the candidates of one chunk at their slots. -/
theorem pay7_at (lo : EReal) (v35 : Vec Ideal S512x512 .f32) (h35 : ∀ a b, v35 (ix2 a b) = ind (a ≤ b))
    (k : Fin k0_t3_loop.trips) (a9 : FVec Ideal S10x2048 .f32) (B : ℕ) (x : Vec Ideal S1x1x512 .f32) (y : Vec Ideal S1x4x512 .f32)
    (z : Vec Ideal S4x512 .f32) (f : Fin 10) (u : Fin 2048)
    (hx : ∀ l, x (ix3 0 0 l) = sc x0 ⟨k.val * 512 + l.val, by have := lt3 k; omega⟩)
    (hy : ∀ f l, y (ix3 0 f l) = x1 (ix3 0 f ⟨k.val * 512 + l.val, by have := lt3 k; omega⟩))
    (hz : ∀ f l, z (ix2 f l) = x2 (ix2 f ⟨k.val * 512 + l.val, by have := lt3 k; omega⟩)) :
    k0_pay7 (F := Ideal) lo k0_pay17 v35 0#32 1#32 k a9 ((B : ℕ) : EReal) x y z (ix2 f u)
      = a9 (ix2 f u) + ∑ l : Fin 512, feat x0 x1 x2 f ⟨k.val * 512 + l.val, by have := lt3 k; omega⟩
          * ind (lo ≤ x (ix3 0 0 l) ∧ u.val = B + cnt (fun a : Fin 512 => a.val < l.val ∧ lo ≤ x (ix3 0 0 a))) := by
  refine (pay7_raw lo k0_pay17 v35 k a9 _ x y z f u).trans ?_
  congr 1
  refine Finset.sum_congr rfl fun l _ => ?_
  have hk := lt3 k
  simp only [andi_ofBool, select_ofBool, pay6_at, ind_gt, h35, ind_mul, sum_indicator, pay17_at]
  rw [trip_word, word_toInt _ (by omega), word_nat _ (by omega), nat_add]
  by_cases hC : lo ≤ x (ix3 0 0 l)
  · rw [cnt_le_succ l (fun a => lo ≤ x (ix3 0 0 a)) hC, nat_add,
      show ∀ n : ℕ, n + 1 + B = B + n + 1 from fun n => by omega, nat_sub_one]
    simp only [nat_eq, hC, true_and, and_true]
    by_cases hu : u.val = B + cnt (fun a : Fin 512 => a.val < l.val ∧ lo ≤ x (ix3 0 0 a))
    · rw [ind_pos hu, mul_one, if_pos hu]
      unfold feat
      split
      · rename_i h0
        have : (⟨f.val, h0⟩ : Fin 1) = 0 := Fin.eq_zero _
        simp only [this, pay5_at, pay6_at, ind_gt]
        rw [if_pos hC, hx]
      · split
        · rw [Nat.add_comm]
        · split
          · rw [hy]
          · rw [hz]
    · rw [ind_neg hu, mul_zero, if_neg hu]
  · simp only [hC, false_and, and_false]
    rw [ind_neg not_false, mul_zero, if_neg not_false]

/-- The number of candidates in the chunks before chunk `k`. -/
def base (lo : EReal) (k : ℕ) : ℕ := cnt fun i : Fin 20480 => i.val < k * 512 ∧ lo ≤ sc x0 i

/-- The candidates before the next chunk. -/
theorem base_succ (lo : EReal) (k : Fin k0_t3_loop.trips) :
    base x0 lo (k.val + 1) = base x0 lo k.val + cnt (fun a : Fin 512 => lo ≤ sc x0 ⟨k.val * 512 + a.val, by have := lt3 k; omega⟩) := by
  have hk := lt3 k
  unfold base
  have h := cnt_block (N := 20480) 512 k.val 512 le_rfl (by omega) (by norm_num) (fun i => lo ≤ sc x0 i)
  rw [show (k.val + 1) * 512 = k.val * 512 + 512 by ring, h]
  refine congrArg (fun n => _ + n) (cnt_congr fun a => ?_)
  exact ⟨fun h => h.2, fun h => ⟨a.isLt, h⟩⟩

/-- The number of a candidate is the count before its chunk plus that within it. -/
theorem num_block (lo : EReal) (k : Fin k0_t3_loop.trips) (l : Fin 512) (s : Fin 20480 → EReal) (hs : s = sc x0) (r : ℝ) (hr : lo = (r : EReal)) :
    num s r ⟨k.val * 512 + l.val, by have := lt3 k; omega⟩
      = base x0 lo k.val + cnt (fun a : Fin 512 => a.val < l.val ∧ lo ≤ sc x0 ⟨k.val * 512 + a.val, by have := lt3 k; omega⟩) := by
  subst hs hr
  have hk := lt3 k
  unfold base
  rw [← cnt_block (N := 20480) 512 k.val l.val l.isLt.le (by omega) (by norm_num) (fun i => (r : EReal) ≤ sc x0 i)]
  rfl

/-- The gathered rows and the number of candidates after the chunks before `k`. -/
abbrev T3 (lo : EReal) (v35 : Vec Ideal S512x512 .f32) (a : FVec Ideal S10x2048 .f32) (b : EReal) (k : ℕ) : FVec Ideal S10x2048 .f32 × Ideal .f32 :=
  st_k0_t3 (F := Ideal) Variants.nat c none i arg1 harg1 arg2 harg2 arg3 harg3 arg4 harg4 arg5 harg5 arg6 harg6 arg7 harg7
    lo k0_pay17 v35 k0_pay18 b 0#32 (harg1.unread x0) (harg2.unread x1) (harg3.unread x2) (a, b) k

/-- One round of the loop. -/
theorem T3_succ (lo : EReal) (v35 : Vec Ideal S512x512 .f32) (a : FVec Ideal S10x2048 .f32) (b : EReal) (k : Fin k0_t3_loop.trips) :
    T3 c i arg1 harg1 arg2 harg2 arg3 harg3 arg4 harg4 arg5 harg5 arg6 harg6 arg7 harg7 x0 x1 x2 lo v35 a b (k.val + 1)
      = (k0_pay7 (F := Ideal) lo k0_pay17 v35 0#32 1#32 k
          (T3 c i arg1 harg1 arg2 harg2 arg3 harg3 arg4 harg4 arg5 harg5 arg6 harg6 arg7 harg7 x0 x1 x2 lo v35 a b k.val).1
          (T3 c i arg1 harg1 arg2 harg2 arg3 harg3 arg4 harg4 arg5 harg5 arg6 harg6 arg7 harg7 x0 x1 x2 lo v35 a b k.val).2
          (View.readAt (Elt Ideal) arg1.view (Rect.unit (s := S1x1x20480) (k0_off2 k) S1x1x512.size (k0_off2_inb k)).toLoadRect (harg1.unread x0))
          (View.readAt (Elt Ideal) arg2.view (Rect.unit (s := S1x4x20480) (k0_off3 k) S1x4x512.size (k0_off3_inb k)).toLoadRect (harg2.unread x1))
          (View.readAt (Elt Ideal) arg3.view (Rect.unit (s := S4x20480) (k0_off4 k) S4x512.size (k0_off4_inb k)).toLoadRect (harg3.unread x2)),
        k0_pay19 (T3 c i arg1 harg1 arg2 harg2 arg3 harg3 arg4 harg4 arg5 harg5 arg6 harg6 arg7 harg7 x0 x1 x2 lo v35 a b k.val).2
          (k0_pay8 lo (View.readAt (Elt Ideal) arg1.view (Rect.unit (s := S1x1x20480) (k0_off2 k) S1x1x512.size (k0_off2_inb k)).toLoadRect (harg1.unread x0)))) := by
  unfold T3
  rw [st_k0_t3_succ]
  unfold tripR_k0_t3 trip_k0_t3
  rfl

/-- The count carried by the loop. -/
theorem T3_base (lo : EReal) (v35 : Vec Ideal S512x512 .f32) (a : FVec Ideal S10x2048 .f32) (b : EReal) (hb : b = 0) (k : ℕ) (hk : k ≤ 40) :
    (T3 c i arg1 harg1 arg2 harg2 arg3 harg3 arg4 harg4 arg5 harg5 arg6 harg6 arg7 harg7 x0 x1 x2 lo v35 a b k).2
      = ((base x0 lo k : ℕ) : EReal) := by
  induction k with
  | zero =>
    have : base x0 lo 0 = 0 := by
      by_contra hc
      obtain ⟨i, hi⟩ := cnt_pos.mp (Nat.pos_of_ne_zero hc)
      omega
    rw [this]; exact hb.trans (by simp)
  | succ k ih =>
    have hk' : k < k0_t3_loop.trips := by rw [trips3]; omega
    have e := T3_succ c i arg1 harg1 arg2 harg2 arg3 harg3 arg4 harg4 arg5 harg5 arg6 harg6 arg7 harg7 x0 x1 x2 lo v35 a b ⟨k, hk'⟩
    rw [e]
    have hbs := base_succ x0 lo ⟨k, hk'⟩
    rw [hbs, ← nat_add, ← ih (by omega)]
    have h19 : ∀ (a10 : EReal) (x : Vec Ideal S1x1x512 .f32), (k0_pay19 (F := Ideal) a10 (k0_pay8 lo x) : EReal) = a10 + ∑ l, ind (lo ≤ x (ix3 0 0 l)) := by
      intro a10 x
      pointwise [k0_pay19, k0_pay8]
      simp only [Fin.sum_univ_one, pay6_at]
    refine (h19 _ _).trans (congrArg (fun n : EReal => _ + n) ?_)
    rw [← sum_indicator]
    refine Finset.sum_congr rfl fun l _ => ?_
    rw [Memref.IsWhole.readAt_unread, off2_idx]; rfl

/-- After all chunks, column `u` of the gathered rows is a one-hot sum over the proposals. -/
theorem T3_gath (lo : ℝ) (v35 : Vec Ideal S512x512 .f32) (h35 : ∀ a b, v35 (ix2 a b) = ind (a ≤ b)) (b : EReal) (hb : b = 0)
    (f : Fin 10) (u : Fin 2048) :
    (T3 c i arg1 harg1 arg2 harg2 arg3 harg3 arg4 harg4 arg5 harg5 arg6 harg6 arg7 harg7 x0 x1 x2 lo v35 k0_pay18 b
        (Scf.trips k0_t3_loop.lb k0_t3_loop.ub k0_t3_loop.st)).1 (ix2 f u)
      = ∑ q : Fin 20480, feat x0 x1 x2 f q * ind (Cand (sc x0) lo q ∧ u.val = num (sc x0) lo q) := by
  have h := rec_sum (n := k0_t3_loop.trips)
    (fun n => (T3 c i arg1 harg1 arg2 harg2 arg3 harg3 arg4 harg4 arg5 harg5 arg6 harg6 arg7 harg7 x0 x1 x2 lo v35 k0_pay18 b n).1 (ix2 f u))
    (fun k => ∑ l : Fin 512, feat x0 x1 x2 f ⟨k.val * 512 + l.val, by have := lt3 k; omega⟩
      * ind (Cand (sc x0) lo ⟨k.val * 512 + l.val, by have := lt3 k; omega⟩ ∧ u.val = num (sc x0) lo ⟨k.val * 512 + l.val, by have := lt3 k; omega⟩))
    (fun k => by
      beta_reduce
      have hx : ∀ l, View.readAt (Elt Ideal) arg1.view (Rect.unit (s := S1x1x20480) (k0_off2 k) S1x1x512.size (k0_off2_inb k)).toLoadRect (harg1.unread x0) (ix3 0 0 l)
          = sc x0 ⟨k.val * 512 + l.val, by have := lt3 k; omega⟩ := fun l => by rw [Memref.IsWhole.readAt_unread, off2_idx]; rfl
      rw [T3_succ, T3_base c i arg1 harg1 arg2 harg2 arg3 harg3 arg4 harg4 arg5 harg5 arg6 harg6 arg7 harg7 x0 x1 x2 lo v35 k0_pay18 b hb k.val (lt3 k).le]
      refine (pay7_at x0 x1 x2 lo v35 h35 k _ _ _ _ _ f u hx (fun f l => by rw [Memref.IsWhole.readAt_unread, off3_idx])
        (fun f l => by rw [Memref.IsWhole.readAt_unread, off4_idx])).trans ?_
      congr 1
      refine Finset.sum_congr rfl fun l _ => ?_
      congr 1
      refine ind_congr ?_
      rw [num_block x0 lo k l _ rfl lo rfl, hx]
      refine and_congr_right fun _ => ?_
      simp only [hx])
  refine Eq.trans h ?_
  rw [← Fin.sum_univ_tiles k0_t3_loop.trips 512 (by rw [trips3]) (fun q : Fin 20480 => feat x0 x1 x2 f q * ind (Cand (sc x0) lo q ∧ u.val = num (sc x0) lo q))]
  have : k0_pay18 (F := Ideal) (ix2 f u) = 0 := by pointwise [k0_pay18]
  show k0_pay18 (F := Ideal) (ix2 f u) + _ = _
  rw [this, zero_add]

/-- After all chunks every candidate has been counted. -/
theorem base_all (lo : ℝ) : base x0 lo 40 = reach (sc x0) lo :=
  cnt_congr fun q => ⟨fun h => h.2, fun h => ⟨by have := q.isLt; omega, h⟩⟩

end Cert.KernelIdeal.Value

end
-- ==== Proof.KVOut.lean ====
module

public import proofs.«01_k».proof.Proof.KVNms
public import proofs.«01_k».proof.Proof.KVCompact

@[expose] public section

set_option maxRecDepth 16384

noncomputable section

/-! # The rows the kernel writes -/

namespace Cert.KernelIdeal.Value

open Cert.KernelIdeal Cert.KernelIdeal.Gen
open Idealize.ShloMosaic Idealize.ShloMosaic.Tactic Rpn
open scoped BigOperators

variable (v35 : Vec Ideal S512x512 .f32) (h35 : ∀ a b, (v35 (ix2 a b) : EReal) = ind (a ≤ b)) (K : Fin 2048 → Prop)

/-- A block of 512 marks against a column of the triangle. -/
theorem block_sum (q : ℕ) (hq : q + 512 ≤ 2048) (t : Fin 512) (h35 : ∀ a b, (v35 (ix2 a b) : EReal) = ind (a ≤ b)) :
    (∑ x : Fin 512, (marks K (ix2 0 ⟨q + x.val, by omega⟩) : EReal) * v35 (ix2 x t))
      = ∑ x : Fin 512, ind (K ⟨q + x.val, by omega⟩ ∧ q + x.val ≤ q + t.val) := by
  refine Finset.sum_congr rfl fun x _ => ?_
  rw [h35, marks_at, ind_mul]
  exact ind_congr (and_congr Iff.rfl (by rw [Fin.le_def]; omega))

/-- A quarter that lies before the place is counted in full. -/
theorem block_full (q t : ℕ) (hq : q + 512 ≤ 2048) (ht : q + 511 ≤ t) :
    (∑ x : Fin 512, ind (K ⟨q + x.val, by omega⟩ ∧ q + x.val ≤ q + (511 : Fin 512).val))
      = ∑ x : Fin 512, ind (K ⟨q + x.val, by omega⟩ ∧ q + x.val ≤ t) :=
  Finset.sum_congr rfl fun x _ => ind_congr (and_congr Iff.rfl
    ⟨fun _ => by omega, fun _ => by show q + x.val ≤ q + 511; omega⟩)

/-- A quarter that lies after the place is not counted. -/
theorem block_none (q t : ℕ) (hq : q + 512 ≤ 2048) (ht : t < q) :
    (∑ x : Fin 512, ind (K ⟨q + x.val, by omega⟩ ∧ q + x.val ≤ t)) = 0 :=
  Finset.sum_eq_zero fun x _ => ind_neg fun h => by omega

/-- The number of marks up to a place, as four blocks. -/
theorem upto_eq (t : ℕ) : ((cnt fun p : Fin 2048 => K p ∧ p.val ≤ t : ℕ) : EReal)
    = (∑ x : Fin 512, ind (K ⟨0 + x.val, by omega⟩ ∧ 0 + x.val ≤ t)) + (∑ x : Fin 512, ind (K ⟨512 + x.val, by omega⟩ ∧ 512 + x.val ≤ t))
      + (∑ x : Fin 512, ind (K ⟨1024 + x.val, by omega⟩ ∧ 1024 + x.val ≤ t)) + ∑ x : Fin 512, ind (K ⟨1536 + x.val, by omega⟩ ∧ 1536 + x.val ≤ t) := by
  rw [← sum_indicator, sum_four]
  simp only [Nat.zero_add]

include h35 in
/-- The mark that row `r` of the result takes its entry from place `j`. -/
theorem pay157_at (r : Fin 1000) (j : Fin 2048) :
    (k0_pay157 (F := Ideal) v35 (marks K) (ix2 r j) : EReal) = ind (K j ∧ slotOf K j = r.val) := by
  pointwise [k0_pay157]
  have key : ∀ e : EReal, e = ((cnt fun p : Fin 2048 => K p ∧ p.val ≤ j.val : ℕ) : EReal) →
      (Scalar.select (IntOp.andi
        (BitVec.ofBool (decide ((FloatOps.sitofp (F := Ideal) FTy.f32 (BitVec.ofNat 32 r.val) : EReal) = e - 1)))
        (BitVec.ofBool (decide ((0 : EReal) < marks K (ix2 0 j))))) (1 : EReal) 0) = ind (K j ∧ slotOf K j = r.val) := by
    intro e he
    rw [andi_ofBool, select_ofBool, ind_ite]
    refine ind_congr ?_
    rw [marks_at, ind_gt, word_nat _ (by omega)]
    refine and_comm.trans (and_congr_right fun hj => ?_)
    rw [he, show (cnt fun p : Fin 2048 => K p ∧ p.val ≤ j.val) = slotOf K j + 1 from cnt_le_succ j K hj, nat_sub_one, nat_eq]
    exact eq_comm
  refine key _ ?_
  rw [upto_eq]
  split
  · rename_i h
    have := block_sum v35 K 0 (by omega) ⟨j.val, h⟩ h35
    simp only [Nat.zero_add] at this
    rw [this, block_none K 512 _ (by omega) (by omega), block_none K 1024 _ (by omega) (by omega), block_none K 1536 _ (by omega) (by omega)]
    simp only [Nat.zero_add, add_zero]
  · have h0 := block_sum v35 K 0 (by omega) 511 h35
    rw [block_full K 0 j.val (by omega) (by omega)] at h0
    simp only [Nat.zero_add] at h0 ⊢
    rw [h0]
    split
    · rename_i h1 h
      rw [block_sum v35 K 512 (by omega) ⟨j.val - 512, h⟩ h35, block_none K 1024 _ (by omega) (by omega), block_none K 1536 _ (by omega) (by omega)]
      simp only [show 512 + (j.val - 512) = j.val by omega]
      abel
    · have h1 := block_sum v35 K 512 (by omega) 511 h35
      rw [block_full K 512 j.val (by omega) (by omega)] at h1
      rw [h1]
      split
      · rename_i h
        rw [block_sum v35 K 1024 (by omega) ⟨j.val - 512 - 512, h⟩ h35, block_none K 1536 _ (by omega) (by omega)]
        simp only [show 1024 + (j.val - 512 - 512) = j.val by omega]
        abel
      · have h2 := block_sum v35 K 1024 (by omega) 511 h35
        rw [block_full K 1024 j.val (by omega) (by omega)] at h2
        rw [h2, block_sum v35 K 1536 (by omega) ⟨j.val - 512 - 512 - 512, by omega⟩ h35]
        simp only [show 1536 + (j.val - 512 - 512 - 512) = j.val by omega]
        abel

include h35 in
/-- The scores written are the rows of the kept scores. -/
theorem scores_row (s : FVec Ideal S1x2048 .f32) (r : Fin 1000) :
    Row K (fun p => (s (ix2 0 p) : EReal)) r.val (k0_pay1 (F := Ideal) (k0_pay158 v35 s (marks K)) (ix3 0 0 r)) := by
  have e : (k0_pay1 (F := Ideal) (k0_pay158 v35 s (marks K)) (ix3 0 0 r) : EReal)
      = ∑ p, ind (K p ∧ slotOf K p = r.val) * s (ix2 0 p) := by
    pointwise [k0_pay1]
    pointwise [k0_pay158]
    refine Finset.sum_congr rfl fun x _ => ?_
    rw [pay157_at v35 h35, marks_at]
    by_cases h : K x
    · rw [if_pos (ind_gt.mpr h), mul_comm]
    · rw [ind_neg (fun h' : K x ∧ slotOf K x = r.val => h h'.1), mul_zero, zero_mul]
  rw [e]
  exact row_sum K _ _ _ (fun p h1 h2 => ind_pos ⟨h1, h2⟩) fun p h => ind_neg h

include h35 in
/-- The boxes written are the rows of the kept boxes. -/
theorem boxes_row (x1 y1 x2 y2 : FVec Ideal S1x2048 .f32) (r : Fin 1000) (f : Fin 4) :
    Row K (fun p => boxAt x1 y1 x2 y2 p f) r.val (k0_pay2 (F := Ideal) x1 y1 x2 y2 (k0_pay157 v35 (marks K)) (ix3 0 r f)) := by
  have e : (k0_pay2 (F := Ideal) x1 y1 x2 y2 (k0_pay157 v35 (marks K)) (ix3 0 r f) : EReal)
      = ∑ p, ind (K p ∧ slotOf K p = r.val) * boxAt x1 y1 x2 y2 p f := by
    pointwise [k0_pay2]
    refine Finset.sum_congr rfl fun x _ => ?_
    rw [pay157_at v35 h35]
    congr 1
    fin_cases f <;> simp <;> rfl
  rw [e]
  exact row_sum K _ _ _ (fun p h1 h2 => ind_pos ⟨h1, h2⟩) fun p h => ind_neg h

end Cert.KernelIdeal.Value

end
-- ==== Proof.KVBox.lean ====
module

public import proofs.«01_k».proof.Proof.KVOut

@[expose] public section

set_option maxRecDepth 16384

noncomputable section

/-! # Decoding the selected boxes -/

namespace Cert.KernelIdeal.Value

open Cert.KernelIdeal Cert.KernelIdeal.Gen
open Idealize.ShloMosaic Idealize.ShloMosaic.Tactic Rpn
open scoped BigOperators

variable (G : FVec Ideal S10x2048 .f32) (R : FVec Ideal S1x2048 .f32) (C : FVec Ideal S2048x1 .f32) (P : FVec Ideal S10x2048 .f32)

/-- Feature `f` of the box at place `p` of the sorted order. -/
def srt (f : Fin 10) (p : Fin 2048) : EReal := k0_pay26 (F := Ideal) G R C P (ix2 f p)

/-- The box decoded from ten features: score, index, four deltas, four anchor corners. -/
def boxF (F : Fin 10 → EReal) : Fin 4 → EReal := boxOf (F 2) (F 3) (F 4) (F 5) (F 6) (F 7) (F 8) (F 9)

/-- The low first corner. -/
abbrev bx1 : FVec Ideal S1x2048 .f32 := k0_pay42 (k0_pay29 G R C P) (k0_pay31 G R C P) (k0_pay35 G R C P) (k0_pay37 G R C P)
/-- The low second corner. -/
abbrev by1 : FVec Ideal S1x2048 .f32 := k0_pay43 (k0_pay30 G R C P) (k0_pay32 G R C P) (k0_pay34 G R C P) (k0_pay36 G R C P) (FloatOps.ofBits .f32 1056964608#32)
/-- The high first corner. -/
abbrev bx2 : FVec Ideal S1x2048 .f32 := k0_pay44 (k0_pay29 G R C P) (k0_pay31 G R C P) (k0_pay35 G R C P) (k0_pay37 G R C P)
/-- The high second corner. -/
abbrev by2 : FVec Ideal S1x2048 .f32 := k0_pay45 (k0_pay30 G R C P) (k0_pay32 G R C P) (k0_pay34 G R C P) (k0_pay36 G R C P) (FloatOps.ofBits .f32 1056964608#32)
/-- The first extent. -/
abbrev bw : FVec Ideal S1x2048 .f32 := k0_pay46 (k0_pay29 G R C P) (k0_pay31 G R C P) (k0_pay35 G R C P) (k0_pay37 G R C P)
/-- The sorted scores, masked past place 2000. -/
abbrev bst : FVec Ideal S1x2048 .f32 := k0_pay28 G R C P
/-- The sorted scores, masked where the box is too small too. -/
abbrev bsn : FVec Ideal S1x2048 .f32 := k0_pay48 (bst G R C P) (by1 G R C P) (by2 G R C P) (bw G R C P) k0_pay47
/-- The marks of the boxes that may be kept. -/
abbrev bfin : FVec Ideal S1x2048 .f32 := k0_pay49 (bst G R C P) (by1 G R C P) (by2 G R C P) (bw G R C P) k0_pay47
/-- The four corners. -/
abbrev bbox (p : Fin 2048) : Fin 4 → EReal := boxAt (bx1 G R C P) (by1 G R C P) (bx2 G R C P) (by2 G R C P) p

/-- The clipped box in place `p`. -/
theorem bbox_at (p : Fin 2048) : bbox G R C P p = boxF (fun f => srt G R C P f p) := by
  funext f
  fin_cases f
  · show k0_pay42 (F := Ideal) _ _ _ _ (ix2 0 p) = _
    pointwise [k0_pay42, k0_pay41, k0_pay40, k0_pay39, k0_pay38, k0_pay29, k0_pay31, k0_pay33, k0_pay34, k0_pay35, k0_pay36, k0_pay37]
    rfl
  · show k0_pay43 (F := Ideal) _ _ _ _ _ (ix2 0 p) = _
    pointwise [k0_pay43, k0_pay41, k0_pay40, k0_pay39, k0_pay38, k0_pay30, k0_pay32, k0_pay33, k0_pay34, k0_pay35, k0_pay36, k0_pay37]
    rfl
  · show k0_pay44 (F := Ideal) _ _ _ _ (ix2 0 p) = _
    pointwise [k0_pay44, k0_pay41, k0_pay40, k0_pay39, k0_pay38, k0_pay29, k0_pay31, k0_pay33, k0_pay34, k0_pay35, k0_pay36, k0_pay37]
    rfl
  · show k0_pay45 (F := Ideal) _ _ _ _ _ (ix2 0 p) = _
    pointwise [k0_pay45, k0_pay41, k0_pay40, k0_pay39, k0_pay38, k0_pay30, k0_pay32, k0_pay33, k0_pay34, k0_pay35, k0_pay36, k0_pay37]
    rfl

/-- The sorted scores, `⊥` from place 2000 on. -/
theorem bst_at (p : Fin 2048) : (bst G R C P (ix2 0 p) : EReal) = if p.val < 2000 then srt G R C P 0 p else ⊥ := by
  pointwise [k0_pay28]
  rw [show Ideal.ofBits FTy.f32 1157234688#32 = _ from c_2000, show Ideal.ofBits FTy.f32 4286578688#32 = _ from c_bot, row_index]
  simp only [nat_lt]
  rfl

open Classical in
/-- The scores of small boxes replaced by `⊥`. -/
theorem bsn_at (p : Fin 2048) : (bsn G R C P (ix2 0 p) : EReal)
    = if ¬ Big (bbox G R C P p) then ⊥ else bst G R C P (ix2 0 p) := by
  pointwise [k0_pay48, k0_pay47, k0_pay46]
  rw [ori_ofBool, select_ofBool, show Ideal.ofBits FTy.f32 4286578688#32 = _ from c_bot]
  refine if_congr ?_ rfl rfl
  unfold Big
  rw [not_and_or, not_le, not_le]
  rfl

/-- A place is a candidate to be kept: among the first 2000, and its box is large enough. -/
def bvalid (p : Fin 2048) : Prop := p.val < 2000 ∧ Big (bbox G R C P p)

/-- The finite scores are those of the valid places. -/
theorem bfin_at (hs : ∀ p : Fin 2048, p.val < 2000 → srt G R C P 0 p ≠ ⊥) (p : Fin 2048) :
    (bfin G R C P (ix2 0 p) : EReal) = ind (bvalid G R C P p) := by
  pointwise [k0_pay49]
  rw [word_ofBool, show Ideal.ofBits FTy.f32 4286578688#32 = _ from c_bot]
  refine ind_congr ?_
  rw [bot_lt_iff_ne_bot]
  show (bsn G R C P (ix2 0 p) : EReal) ≠ ⊥ ↔ _
  rw [bsn_at]
  by_cases h : Big (bbox G R C P p)
  · rw [if_neg (not_not.mpr h), bst_at]
    by_cases h2 : p.val < 2000
    · rw [if_pos h2]; exact ⟨fun _ => ⟨h2, h⟩, fun _ => hs p h2⟩
    · rw [if_neg h2]; exact ⟨fun h => absurd rfl h, fun h => absurd h.1 h2⟩
  · rw [if_pos h]; exact ⟨fun h => absurd rfl h, fun h' => absurd h'.2 h⟩

/-- A valid place keeps its score. -/
theorem bsn_valid (p : Fin 2048) (h : bvalid G R C P p) : (bsn G R C P (ix2 0 p) : EReal) = srt G R C P 0 p := by
  rw [bsn_at, if_neg (not_not.mpr h.2), bst_at, if_pos h.1]

/-- The selection and the rows written, from the sorted features. -/
theorem select_rows (v35 : Vec Ideal S512x512 .f32) (h35 : ∀ a b, (v35 (ix2 a b) : EReal) = ind (a ≤ b))
    (hs : ∀ p : Fin 2048, p.val < 2000 → srt G R C P 0 p ≠ ⊥) :
    ∃ K : Fin 2048 → Prop,
      Greedy (bvalid G R C P) (fun i j => Overlap (bbox G R C P i) (bbox G R C P j)) K
      ∧ (∀ r : Fin 1000, Row K (fun p => (bsn G R C P (ix2 0 p) : EReal)) r.val
          (k0_pay1 (F := Ideal) (k0_pay158 v35 (bsn G R C P) (nmsRun (suppC (pieces (bst G R C P) (bx1 G R C P) (by1 G R C P) (bx2 G R C P) (by2 G R C P)
            (bw G R C P) k0_pay47 (k0_pay50 (bx1 G R C P) (by1 G R C P) (bx2 G R C P) (by2 G R C P))
            (k0_pay51 (bst G R C P) (bx1 G R C P) (by1 G R C P) (bx2 G R C P) (by2 G R C P) (bw G R C P) k0_pay47))) (bfin G R C P) 2048
            (ctr 2048, 1#1, bfin G R C P)).2.2) (ix3 0 0 r)))
      ∧ ∀ (r : Fin 1000) (f : Fin 4), Row K (fun p => bbox G R C P p f) r.val
          (k0_pay2 (F := Ideal) (bx1 G R C P) (by1 G R C P) (bx2 G R C P) (by2 G R C P) (k0_pay157 v35 (nmsRun (suppC (pieces (bst G R C P) (bx1 G R C P) (by1 G R C P) (bx2 G R C P) (by2 G R C P)
            (bw G R C P) k0_pay47 (k0_pay50 (bx1 G R C P) (by1 G R C P) (bx2 G R C P) (by2 G R C P))
            (k0_pay51 (bst G R C P) (bx1 G R C P) (by1 G R C P) (bx2 G R C P) (by2 G R C P) (bw G R C P) k0_pay47))) (bfin G R C P) 2048
            (ctr 2048, 1#1, bfin G R C P)).2.2) (ix3 0 r f)) := by
  have hf := eq_marks _ _ (bfin_at G R C P hs)
  obtain ⟨K, hK, hg⟩ := nms_greedy _ (bvalid G R C P) (bbox G R C P)
    (supp_at (bst G R C P) (bx1 G R C P) (by1 G R C P) (bx2 G R C P) (by2 G R C P) (bw G R C P) k0_pay47 _ (bfin_at G R C P hs))
  refine ⟨K, hg, fun r => ?_, fun r f => ?_⟩
  · rw [hf, hK]; exact scores_row v35 h35 K _ r
  · rw [hf, hK]; exact boxes_row v35 h35 K _ _ _ _ r f

end Cert.KernelIdeal.Value

end
-- ==== Proof.KVRows.lean ====
module

public import proofs.«01_k».proof.Proof.KIFrame
public import proofs.«01_k».proof.Proof.KVBracket
public import proofs.«01_k».proof.Proof.KVBox

@[expose] public section

set_option maxRecDepth 16384

noncomputable section

/-! # What the kernel's body leaves in its two results -/

namespace Cert.KernelIdeal.Value

open Cert.KernelIdeal Cert.KernelIdeal.Gen
open Idealize.ShloMosaic Idealize.ShloMosaic.Tactic Rpn
open scoped BigOperators

/-- The triangle of ones. -/
theorem triangle_at (a b : Fin 512) : (k0_pay10 (F := Ideal) (ix2 a b) : EReal) = ind (a ≤ b) := by
  pointwise [k0_pay10]
  rw [word_ofBool]
  rw [word_nat _ (by omega), word_nat _ (by omega), nat_le, ← Fin.le_def]

variable (c : Dev nD) (i : grid0.Coords) (arg1 : Memref sig .tc .vmem S1x1x20480 .f32) (harg1 : arg1.IsWhole)
  (arg2 : Memref sig .tc .vmem S1x4x20480 .f32) (harg2 : arg2.IsWhole) (arg3 : Memref sig .tc .vmem S4x20480 .f32) (harg3 : arg3.IsWhole)
  (arg4 : Memref sig .tc .vmem S1x1000x4 .f32) (harg4 : arg4.IsWhole) (arg5 : Memref sig .tc .vmem S1x1x1000 .f32) (harg5 : arg5.IsWhole)
  (arg6 : Memref sig .tc .vmem S512x512 .f32) (harg6 : arg6.IsWhole) (arg7 : Memref sig .tc .vmem S2048x2048 .f32) (harg7 : arg7.IsWhole)
  (x0 : Vec Ideal S1x1x20480 .f32) (x1 : Vec Ideal S1x4x20480 .f32) (x2 : Vec Ideal S4x20480 .f32)

/-- The triangle as the compaction loop loads it. -/
abbrev tri : Vec Ideal S512x512 .f32 := kernelRun0_A.sl.v35 (F := Ideal) c arg6

/-- The triangle of ones as it is read back. -/
theorem tri_at (a b : Fin 512) : (tri c arg6 (ix2 a b) : EReal) = ind (a ≤ b) := by
  rw [← triangle_at]
  exact congrFun (View.readCov_cons_toLoadRect arg6.view _ _ _) _

/-- A decision with a proof takes its second branch. -/
theorem rec_true {p : Prop} {α : Type} (hp : p) (a : ¬ p → α) (b : p → α) (d : Decidable p) :
    (Decidable.rec (motive := fun _ => α) a b d : α) = b hp := by
  cases d with
  | isFalse h => exact absurd hp h
  | isTrue h => rfl

/-- The loop's guard before the first round. -/
theorem go_on : Scalar.andi 1#1 (Scalar.cmpi .slt (ctr 2048) 2048#32) = 1#1 := by decide

/-- The first round of the suppression loop. -/
theorem nms_open (S : Vec Ideal S2048x2048 .f32) (fin : FVec Ideal S1x2048 .f32) :
    nmsRun S fin 2048 (ctr 2048, 1#1, fin)
      = nmsRun S fin 2047 (Scalar.addi (ctr 2048) 1#32, Scalar.cmpf .ogt (k0_pay4 fin fin S) (Scalar.ofBits .f32 0x00000000#32), k0_pay3 fin fin S) := by
  rw [nmsRun, if_pos go_on]

/-- The run after its first round is the whole run, from any listing of the overlap table. -/
theorem step_L (fin : FVec Ideal S1x2048 .f32) (L L' : List (View.Piece (Elt Ideal) S2048x2048 .f32)) (m : ℕ) (n : BitVec 32)
    (ch : BitVec 1) (kp : FVec Ideal S1x2048 .f32) (u : BitVec 32 × BitVec 1 × FVec Ideal S1x2048 .f32) (hu : nmsRun (suppC L) fin m (n, ch, kp) = u)
    (hm : m = 2047) (hn : n = Scalar.addi (ctr 2048) 1#32) (hch : ch = Scalar.cmpf .ogt (k0_pay4 fin fin (suppC L)) (Scalar.ofBits .f32 0x00000000#32))
    (hkp : kp = k0_pay3 fin fin (suppC L)) (h : L = L') :
    u = nmsRun (suppC L') fin 2048 (ctr 2048, 1#1, fin) := by
  subst h hm hn hch hkp hu; rw [nms_open]

/-- The boxes the body writes. -/
theorem boxes_eq :
    kernelRun0_A.sl.r_80 (F := Ideal) c i arg1 harg1 arg2 harg2 arg3 harg3 arg4 harg4 arg5 harg5 arg6 harg6 arg7 harg7 x0 x1 x2
      = k0_pay157 (kernelRun0_A.sl.v35 (F := Ideal) c arg6) (nmsRun (suppC (pieces (kernelRun0_A.sl.r_5 (F := Ideal) c i arg1 harg1 arg2 harg2 arg3 harg3 arg4 harg4 arg5 harg5 arg6 harg6 arg7 harg7 x0 x1 x2) (kernelRun0_A.sl.r_14 (F := Ideal) c i arg1 harg1 arg2 harg2 arg3 harg3 arg4 harg4 arg5 harg5 arg6 harg6 arg7 harg7 x0 x1 x2) (kernelRun0_A.sl.r_15 (F := Ideal) c i arg1 harg1 arg2 harg2 arg3 harg3 arg4 harg4 arg5 harg5 arg6 harg6 arg7 harg7 x0 x1 x2) (kernelRun0_A.sl.r_16 (F := Ideal) c i arg1 harg1 arg2 harg2 arg3 harg3 arg4 harg4 arg5 harg5 arg6 harg6 arg7 harg7 x0 x1 x2) (kernelRun0_A.sl.r_17 (F := Ideal) c i arg1 harg1 arg2 harg2 arg3 harg3 arg4 harg4 arg5 harg5 arg6 harg6 arg7 harg7 x0 x1 x2) (kernelRun0_A.sl.r_18 (F := Ideal) c i arg1 harg1 arg2 harg2 arg3 harg3 arg4 harg4 arg5 harg5 arg6 harg6 arg7 harg7 x0 x1 x2) k0_pay47 (kernelRun0_A.sl.r_21 (F := Ideal) c i arg1 harg1 arg2 harg2 arg3 harg3 arg4 harg4 arg5 harg5 arg6 harg6 arg7 harg7 x0 x1 x2) (kernelRun0_A.sl.r_22 (F := Ideal) c i arg1 harg1 arg2 harg2 arg3 harg3 arg4 harg4 arg5 harg5 arg6 harg6 arg7 harg7 x0 x1 x2))) (kernelRun0_A.sl.r_20 (F := Ideal) c i arg1 harg1 arg2 harg2 arg3 harg3 arg4 harg4 arg5 harg5 arg6 harg6 arg7 harg7 x0 x1 x2) 2048 (ctr 2048, 1#1, (kernelRun0_A.sl.r_20 (F := Ideal) c i arg1 harg1 arg2 harg2 arg3 harg3 arg4 harg4 arg5 harg5 arg6 harg6 arg7 harg7 x0 x1 x2))).2.2 := by
  unfold kernelRun0_A.sl.r_80
  rw [rec_true go_on]
  beta_reduce
  generalize hu : nmsRun (F := Ideal) _ _ _ (_, _) = u
  have h := step_L _ _ (pieces (kernelRun0_A.sl.r_5 (F := Ideal) c i arg1 harg1 arg2 harg2 arg3 harg3 arg4 harg4 arg5 harg5 arg6 harg6 arg7 harg7 x0 x1 x2) (kernelRun0_A.sl.r_14 (F := Ideal) c i arg1 harg1 arg2 harg2 arg3 harg3 arg4 harg4 arg5 harg5 arg6 harg6 arg7 harg7 x0 x1 x2) (kernelRun0_A.sl.r_15 (F := Ideal) c i arg1 harg1 arg2 harg2 arg3 harg3 arg4 harg4 arg5 harg5 arg6 harg6 arg7 harg7 x0 x1 x2) (kernelRun0_A.sl.r_16 (F := Ideal) c i arg1 harg1 arg2 harg2 arg3 harg3 arg4 harg4 arg5 harg5 arg6 harg6 arg7 harg7 x0 x1 x2) (kernelRun0_A.sl.r_17 (F := Ideal) c i arg1 harg1 arg2 harg2 arg3 harg3 arg4 harg4 arg5 harg5 arg6 harg6 arg7 harg7 x0 x1 x2) (kernelRun0_A.sl.r_18 (F := Ideal) c i arg1 harg1 arg2 harg2 arg3 harg3 arg4 harg4 arg5 harg5 arg6 harg6 arg7 harg7 x0 x1 x2) k0_pay47 (kernelRun0_A.sl.r_21 (F := Ideal) c i arg1 harg1 arg2 harg2 arg3 harg3 arg4 harg4 arg5 harg5 arg6 harg6 arg7 harg7 x0 x1 x2) (kernelRun0_A.sl.r_22 (F := Ideal) c i arg1 harg1 arg2 harg2 arg3 harg3 arg4 harg4 arg5 harg5 arg6 harg6 arg7 harg7 x0 x1 x2)) _ _ _ _ _ hu rfl rfl rfl rfl ?_
  · obtain ⟨u1, u2, u3⟩ := u
    dsimp only
    rw [← h]
  · rfl

/-- The scores the body writes. -/
theorem scores_eq :
    kernelRun0_A.sl.r_81 (F := Ideal) c i arg1 harg1 arg2 harg2 arg3 harg3 arg4 harg4 arg5 harg5 arg6 harg6 arg7 harg7 x0 x1 x2
      = k0_pay158 (kernelRun0_A.sl.v35 (F := Ideal) c arg6) (kernelRun0_A.sl.r_19 (F := Ideal) c i arg1 harg1 arg2 harg2 arg3 harg3 arg4 harg4 arg5 harg5 arg6 harg6 arg7 harg7 x0 x1 x2) (nmsRun (suppC (pieces (kernelRun0_A.sl.r_5 (F := Ideal) c i arg1 harg1 arg2 harg2 arg3 harg3 arg4 harg4 arg5 harg5 arg6 harg6 arg7 harg7 x0 x1 x2) (kernelRun0_A.sl.r_14 (F := Ideal) c i arg1 harg1 arg2 harg2 arg3 harg3 arg4 harg4 arg5 harg5 arg6 harg6 arg7 harg7 x0 x1 x2) (kernelRun0_A.sl.r_15 (F := Ideal) c i arg1 harg1 arg2 harg2 arg3 harg3 arg4 harg4 arg5 harg5 arg6 harg6 arg7 harg7 x0 x1 x2) (kernelRun0_A.sl.r_16 (F := Ideal) c i arg1 harg1 arg2 harg2 arg3 harg3 arg4 harg4 arg5 harg5 arg6 harg6 arg7 harg7 x0 x1 x2) (kernelRun0_A.sl.r_17 (F := Ideal) c i arg1 harg1 arg2 harg2 arg3 harg3 arg4 harg4 arg5 harg5 arg6 harg6 arg7 harg7 x0 x1 x2) (kernelRun0_A.sl.r_18 (F := Ideal) c i arg1 harg1 arg2 harg2 arg3 harg3 arg4 harg4 arg5 harg5 arg6 harg6 arg7 harg7 x0 x1 x2) k0_pay47 (kernelRun0_A.sl.r_21 (F := Ideal) c i arg1 harg1 arg2 harg2 arg3 harg3 arg4 harg4 arg5 harg5 arg6 harg6 arg7 harg7 x0 x1 x2) (kernelRun0_A.sl.r_22 (F := Ideal) c i arg1 harg1 arg2 harg2 arg3 harg3 arg4 harg4 arg5 harg5 arg6 harg6 arg7 harg7 x0 x1 x2))) (kernelRun0_A.sl.r_20 (F := Ideal) c i arg1 harg1 arg2 harg2 arg3 harg3 arg4 harg4 arg5 harg5 arg6 harg6 arg7 harg7 x0 x1 x2) 2048 (ctr 2048, 1#1, (kernelRun0_A.sl.r_20 (F := Ideal) c i arg1 harg1 arg2 harg2 arg3 harg3 arg4 harg4 arg5 harg5 arg6 harg6 arg7 harg7 x0 x1 x2))).2.2 := by
  unfold kernelRun0_A.sl.r_81
  rw [rec_true go_on]
  beta_reduce
  generalize hu : nmsRun (F := Ideal) _ _ _ (_, _) = u
  have h := step_L _ _ (pieces (kernelRun0_A.sl.r_5 (F := Ideal) c i arg1 harg1 arg2 harg2 arg3 harg3 arg4 harg4 arg5 harg5 arg6 harg6 arg7 harg7 x0 x1 x2) (kernelRun0_A.sl.r_14 (F := Ideal) c i arg1 harg1 arg2 harg2 arg3 harg3 arg4 harg4 arg5 harg5 arg6 harg6 arg7 harg7 x0 x1 x2) (kernelRun0_A.sl.r_15 (F := Ideal) c i arg1 harg1 arg2 harg2 arg3 harg3 arg4 harg4 arg5 harg5 arg6 harg6 arg7 harg7 x0 x1 x2) (kernelRun0_A.sl.r_16 (F := Ideal) c i arg1 harg1 arg2 harg2 arg3 harg3 arg4 harg4 arg5 harg5 arg6 harg6 arg7 harg7 x0 x1 x2) (kernelRun0_A.sl.r_17 (F := Ideal) c i arg1 harg1 arg2 harg2 arg3 harg3 arg4 harg4 arg5 harg5 arg6 harg6 arg7 harg7 x0 x1 x2) (kernelRun0_A.sl.r_18 (F := Ideal) c i arg1 harg1 arg2 harg2 arg3 harg3 arg4 harg4 arg5 harg5 arg6 harg6 arg7 harg7 x0 x1 x2) k0_pay47 (kernelRun0_A.sl.r_21 (F := Ideal) c i arg1 harg1 arg2 harg2 arg3 harg3 arg4 harg4 arg5 harg5 arg6 harg6 arg7 harg7 x0 x1 x2) (kernelRun0_A.sl.r_22 (F := Ideal) c i arg1 harg1 arg2 harg2 arg3 harg3 arg4 harg4 arg5 harg5 arg6 harg6 arg7 harg7 x0 x1 x2)) _ _ _ _ _ hu rfl rfl rfl rfl ?_
  · obtain ⟨u1, u2, u3⟩ := u
    dsimp only
    rw [← h]
  · rfl

/-! The values the body names, in terms of the tables of the earlier modules: `e5` and `e14` to `e22` the sorted and decoded
rows, `e1` to `e4` the ranks and the compacted table. -/

theorem e5 : (kernelRun0_A.sl.r_5 (F := Ideal) c i arg1 harg1 arg2 harg2 arg3 harg3 arg4 harg4 arg5 harg5 arg6 harg6 arg7 harg7 x0 x1 x2) = bst (kernelRun0_A.sl.r_2 (F := Ideal) c i arg1 harg1 arg2 harg2 arg3 harg3 arg4 harg4 arg5 harg5 arg6 harg6 arg7 harg7 x0 x1 x2) (kernelRun0_A.sl.r_3 (F := Ideal) c i arg1 harg1 arg2 harg2 arg3 harg3 arg4 harg4 arg5 harg5 arg6 harg6 arg7 harg7 x0 x1 x2) k0_pay24 (kernelRun0_A.sl.r_4 (F := Ideal) c i arg1 harg1 arg2 harg2 arg3 harg3 arg4 harg4 arg5 harg5 arg6 harg6 arg7 harg7 x0 x1 x2) := rfl
theorem e14 : (kernelRun0_A.sl.r_14 (F := Ideal) c i arg1 harg1 arg2 harg2 arg3 harg3 arg4 harg4 arg5 harg5 arg6 harg6 arg7 harg7 x0 x1 x2) = bx1 (kernelRun0_A.sl.r_2 (F := Ideal) c i arg1 harg1 arg2 harg2 arg3 harg3 arg4 harg4 arg5 harg5 arg6 harg6 arg7 harg7 x0 x1 x2) (kernelRun0_A.sl.r_3 (F := Ideal) c i arg1 harg1 arg2 harg2 arg3 harg3 arg4 harg4 arg5 harg5 arg6 harg6 arg7 harg7 x0 x1 x2) k0_pay24 (kernelRun0_A.sl.r_4 (F := Ideal) c i arg1 harg1 arg2 harg2 arg3 harg3 arg4 harg4 arg5 harg5 arg6 harg6 arg7 harg7 x0 x1 x2) := rfl
theorem e15 : (kernelRun0_A.sl.r_15 (F := Ideal) c i arg1 harg1 arg2 harg2 arg3 harg3 arg4 harg4 arg5 harg5 arg6 harg6 arg7 harg7 x0 x1 x2) = by1 (kernelRun0_A.sl.r_2 (F := Ideal) c i arg1 harg1 arg2 harg2 arg3 harg3 arg4 harg4 arg5 harg5 arg6 harg6 arg7 harg7 x0 x1 x2) (kernelRun0_A.sl.r_3 (F := Ideal) c i arg1 harg1 arg2 harg2 arg3 harg3 arg4 harg4 arg5 harg5 arg6 harg6 arg7 harg7 x0 x1 x2) k0_pay24 (kernelRun0_A.sl.r_4 (F := Ideal) c i arg1 harg1 arg2 harg2 arg3 harg3 arg4 harg4 arg5 harg5 arg6 harg6 arg7 harg7 x0 x1 x2) := rfl
theorem e16 : (kernelRun0_A.sl.r_16 (F := Ideal) c i arg1 harg1 arg2 harg2 arg3 harg3 arg4 harg4 arg5 harg5 arg6 harg6 arg7 harg7 x0 x1 x2) = bx2 (kernelRun0_A.sl.r_2 (F := Ideal) c i arg1 harg1 arg2 harg2 arg3 harg3 arg4 harg4 arg5 harg5 arg6 harg6 arg7 harg7 x0 x1 x2) (kernelRun0_A.sl.r_3 (F := Ideal) c i arg1 harg1 arg2 harg2 arg3 harg3 arg4 harg4 arg5 harg5 arg6 harg6 arg7 harg7 x0 x1 x2) k0_pay24 (kernelRun0_A.sl.r_4 (F := Ideal) c i arg1 harg1 arg2 harg2 arg3 harg3 arg4 harg4 arg5 harg5 arg6 harg6 arg7 harg7 x0 x1 x2) := rfl
theorem e17 : (kernelRun0_A.sl.r_17 (F := Ideal) c i arg1 harg1 arg2 harg2 arg3 harg3 arg4 harg4 arg5 harg5 arg6 harg6 arg7 harg7 x0 x1 x2) = by2 (kernelRun0_A.sl.r_2 (F := Ideal) c i arg1 harg1 arg2 harg2 arg3 harg3 arg4 harg4 arg5 harg5 arg6 harg6 arg7 harg7 x0 x1 x2) (kernelRun0_A.sl.r_3 (F := Ideal) c i arg1 harg1 arg2 harg2 arg3 harg3 arg4 harg4 arg5 harg5 arg6 harg6 arg7 harg7 x0 x1 x2) k0_pay24 (kernelRun0_A.sl.r_4 (F := Ideal) c i arg1 harg1 arg2 harg2 arg3 harg3 arg4 harg4 arg5 harg5 arg6 harg6 arg7 harg7 x0 x1 x2) := rfl
theorem e18 : (kernelRun0_A.sl.r_18 (F := Ideal) c i arg1 harg1 arg2 harg2 arg3 harg3 arg4 harg4 arg5 harg5 arg6 harg6 arg7 harg7 x0 x1 x2) = bw (kernelRun0_A.sl.r_2 (F := Ideal) c i arg1 harg1 arg2 harg2 arg3 harg3 arg4 harg4 arg5 harg5 arg6 harg6 arg7 harg7 x0 x1 x2) (kernelRun0_A.sl.r_3 (F := Ideal) c i arg1 harg1 arg2 harg2 arg3 harg3 arg4 harg4 arg5 harg5 arg6 harg6 arg7 harg7 x0 x1 x2) k0_pay24 (kernelRun0_A.sl.r_4 (F := Ideal) c i arg1 harg1 arg2 harg2 arg3 harg3 arg4 harg4 arg5 harg5 arg6 harg6 arg7 harg7 x0 x1 x2) := rfl
theorem e19 : (kernelRun0_A.sl.r_19 (F := Ideal) c i arg1 harg1 arg2 harg2 arg3 harg3 arg4 harg4 arg5 harg5 arg6 harg6 arg7 harg7 x0 x1 x2) = bsn (kernelRun0_A.sl.r_2 (F := Ideal) c i arg1 harg1 arg2 harg2 arg3 harg3 arg4 harg4 arg5 harg5 arg6 harg6 arg7 harg7 x0 x1 x2) (kernelRun0_A.sl.r_3 (F := Ideal) c i arg1 harg1 arg2 harg2 arg3 harg3 arg4 harg4 arg5 harg5 arg6 harg6 arg7 harg7 x0 x1 x2) k0_pay24 (kernelRun0_A.sl.r_4 (F := Ideal) c i arg1 harg1 arg2 harg2 arg3 harg3 arg4 harg4 arg5 harg5 arg6 harg6 arg7 harg7 x0 x1 x2) := rfl
theorem e20 : (kernelRun0_A.sl.r_20 (F := Ideal) c i arg1 harg1 arg2 harg2 arg3 harg3 arg4 harg4 arg5 harg5 arg6 harg6 arg7 harg7 x0 x1 x2) = bfin (kernelRun0_A.sl.r_2 (F := Ideal) c i arg1 harg1 arg2 harg2 arg3 harg3 arg4 harg4 arg5 harg5 arg6 harg6 arg7 harg7 x0 x1 x2) (kernelRun0_A.sl.r_3 (F := Ideal) c i arg1 harg1 arg2 harg2 arg3 harg3 arg4 harg4 arg5 harg5 arg6 harg6 arg7 harg7 x0 x1 x2) k0_pay24 (kernelRun0_A.sl.r_4 (F := Ideal) c i arg1 harg1 arg2 harg2 arg3 harg3 arg4 harg4 arg5 harg5 arg6 harg6 arg7 harg7 x0 x1 x2) := rfl
theorem e21 : (kernelRun0_A.sl.r_21 (F := Ideal) c i arg1 harg1 arg2 harg2 arg3 harg3 arg4 harg4 arg5 harg5 arg6 harg6 arg7 harg7 x0 x1 x2) = k0_pay50 (kernelRun0_A.sl.r_14 (F := Ideal) c i arg1 harg1 arg2 harg2 arg3 harg3 arg4 harg4 arg5 harg5 arg6 harg6 arg7 harg7 x0 x1 x2) (kernelRun0_A.sl.r_15 (F := Ideal) c i arg1 harg1 arg2 harg2 arg3 harg3 arg4 harg4 arg5 harg5 arg6 harg6 arg7 harg7 x0 x1 x2) (kernelRun0_A.sl.r_16 (F := Ideal) c i arg1 harg1 arg2 harg2 arg3 harg3 arg4 harg4 arg5 harg5 arg6 harg6 arg7 harg7 x0 x1 x2) (kernelRun0_A.sl.r_17 (F := Ideal) c i arg1 harg1 arg2 harg2 arg3 harg3 arg4 harg4 arg5 harg5 arg6 harg6 arg7 harg7 x0 x1 x2) := rfl
theorem e22 : (kernelRun0_A.sl.r_22 (F := Ideal) c i arg1 harg1 arg2 harg2 arg3 harg3 arg4 harg4 arg5 harg5 arg6 harg6 arg7 harg7 x0 x1 x2) = k0_pay51 (kernelRun0_A.sl.r_5 (F := Ideal) c i arg1 harg1 arg2 harg2 arg3 harg3 arg4 harg4 arg5 harg5 arg6 harg6 arg7 harg7 x0 x1 x2) (kernelRun0_A.sl.r_14 (F := Ideal) c i arg1 harg1 arg2 harg2 arg3 harg3 arg4 harg4 arg5 harg5 arg6 harg6 arg7 harg7 x0 x1 x2) (kernelRun0_A.sl.r_15 (F := Ideal) c i arg1 harg1 arg2 harg2 arg3 harg3 arg4 harg4 arg5 harg5 arg6 harg6 arg7 harg7 x0 x1 x2) (kernelRun0_A.sl.r_16 (F := Ideal) c i arg1 harg1 arg2 harg2 arg3 harg3 arg4 harg4 arg5 harg5 arg6 harg6 arg7 harg7 x0 x1 x2) (kernelRun0_A.sl.r_17 (F := Ideal) c i arg1 harg1 arg2 harg2 arg3 harg3 arg4 harg4 arg5 harg5 arg6 harg6 arg7 harg7 x0 x1 x2) (kernelRun0_A.sl.r_18 (F := Ideal) c i arg1 harg1 arg2 harg2 arg3 harg3 arg4 harg4 arg5 harg5 arg6 harg6 arg7 harg7 x0 x1 x2) k0_pay47 := rfl

theorem e2 : (kernelRun0_A.sl.r_2 (F := Ideal) c i arg1 harg1 arg2 harg2 arg3 harg3 arg4 harg4 arg5 harg5 arg6 harg6 arg7 harg7 x0 x1 x2) = (T3 c i arg1 harg1 arg2 harg2 arg3 harg3 arg4 harg4 arg5 harg5 arg6 harg6 arg7 harg7 x0 x1 x2 (kernelRun0_A.sl.r (F := Ideal) c i arg1 harg1 arg2 harg2 arg3 harg3 arg4 harg4 arg5 harg5 arg6 harg6 arg7 harg7 x0) (kernelRun0_A.sl.v35 (F := Ideal) c arg6) k0_pay18 (kernelRun0_A.sl.cst_12 (F := Ideal)) (Scf.trips k0_t3_loop.lb k0_t3_loop.ub k0_t3_loop.st)).1 := rfl
theorem e1 : (kernelRun0_A.sl.r_1 (F := Ideal) c i arg1 harg1 arg2 harg2 arg3 harg3 arg4 harg4 arg5 harg5 arg6 harg6 arg7 harg7 x0 x1 x2) = Scf.fold (fun a a_1 => k0_pay22 (F := Ideal) (T3 c i arg1 harg1 arg2 harg2 arg3 harg3 arg4 harg4 arg5 harg5 arg6 harg6 arg7 harg7 x0 x1 x2 (kernelRun0_A.sl.r (F := Ideal) c i arg1 harg1 arg2 harg2 arg3 harg3 arg4 harg4 arg5 harg5 arg6 harg6 arg7 harg7 x0) (kernelRun0_A.sl.v35 (F := Ideal) c arg6) k0_pay18 (kernelRun0_A.sl.cst_12 (F := Ideal)) (Scf.trips k0_t3_loop.lb k0_t3_loop.ub k0_t3_loop.st)).1 (T3 c i arg1 harg1 arg2 harg2 arg3 harg3 arg4 harg4 arg5 harg5 arg6 harg6 arg7 harg7 x0 x1 x2 (kernelRun0_A.sl.r (F := Ideal) c i arg1 harg1 arg2 harg2 arg3 harg3 arg4 harg4 arg5 harg5 arg6 harg6 arg7 harg7 x0) (kernelRun0_A.sl.v35 (F := Ideal) c arg6) k0_pay18 (kernelRun0_A.sl.cst_12 (F := Ideal)) (Scf.trips k0_t3_loop.lb k0_t3_loop.ub k0_t3_loop.st)).2 a a_1) k0_pay21 := rfl
theorem e3 : (kernelRun0_A.sl.r_3 (F := Ideal) c i arg1 harg1 arg2 harg2 arg3 harg3 arg4 harg4 arg5 harg5 arg6 harg6 arg7 harg7 x0 x1 x2) = k0_pay23 (T3 c i arg1 harg1 arg2 harg2 arg3 harg3 arg4 harg4 arg5 harg5 arg6 harg6 arg7 harg7 x0 x1 x2 (kernelRun0_A.sl.r (F := Ideal) c i arg1 harg1 arg2 harg2 arg3 harg3 arg4 harg4 arg5 harg5 arg6 harg6 arg7 harg7 x0) (kernelRun0_A.sl.v35 (F := Ideal) c arg6) k0_pay18 (kernelRun0_A.sl.cst_12 (F := Ideal)) (Scf.trips k0_t3_loop.lb k0_t3_loop.ub k0_t3_loop.st)).2 (kernelRun0_A.sl.r_1 (F := Ideal) c i arg1 harg1 arg2 harg2 arg3 harg3 arg4 harg4 arg5 harg5 arg6 harg6 arg7 harg7 x0 x1 x2) := rfl
theorem e4 : (kernelRun0_A.sl.r_4 (F := Ideal) c i arg1 harg1 arg2 harg2 arg3 harg3 arg4 harg4 arg5 harg5 arg6 harg6 arg7 harg7 x0 x1 x2) = k0_pay25 (T3 c i arg1 harg1 arg2 harg2 arg3 harg3 arg4 harg4 arg5 harg5 arg6 harg6 arg7 harg7 x0 x1 x2 (kernelRun0_A.sl.r (F := Ideal) c i arg1 harg1 arg2 harg2 arg3 harg3 arg4 harg4 arg5 harg5 arg6 harg6 arg7 harg7 x0) (kernelRun0_A.sl.v35 (F := Ideal) c arg6) k0_pay18 (kernelRun0_A.sl.cst_12 (F := Ideal)) (Scf.trips k0_t3_loop.lb k0_t3_loop.ub k0_t3_loop.st)).1 (T3 c i arg1 harg1 arg2 harg2 arg3 harg3 arg4 harg4 arg5 harg5 arg6 harg6 arg7 harg7 x0 x1 x2 (kernelRun0_A.sl.r (F := Ideal) c i arg1 harg1 arg2 harg2 arg3 harg3 arg4 harg4 arg5 harg5 arg6 harg6 arg7 harg7 x0) (kernelRun0_A.sl.v35 (F := Ideal) c arg6) k0_pay18 (kernelRun0_A.sl.cst_12 (F := Ideal)) (Scf.trips k0_t3_loop.lb k0_t3_loop.ub k0_t3_loop.st)).2 (kernelRun0_A.sl.r_1 (F := Ideal) c i arg1 harg1 arg2 harg2 arg3 harg3 arg4 harg4 arg5 harg5 arg6 harg6 arg7 harg7 x0 x1 x2) := rfl

/-- The threshold starts from the least score and the spread of the scores. -/
theorem e0 : (kernelRun0_A.sl.r (F := Ideal) c i arg1 harg1 arg2 harg2 arg3 harg3 arg4 harg4 arg5 harg5 arg6 harg6 arg7 harg7 x0) = (st_k0_t1 (F := Ideal) Variants.nat c none i arg1 harg1 arg2 harg2 arg3 harg3 arg4 harg4 arg5 harg5 arg6 harg6 arg7 harg7
      (harg1.unread x0) (k0_pay11 x0, k0_pay12 x0) (Scf.trips k0_t1_loop.lb k0_t1_loop.ub k0_t1_loop.st)).1 := by
  unfold kernelRun0_A.sl.r
  rw [show View.readAt (Elt Ideal) arg1.view (Rect.unit ![0, 0, 0] S1x1x20480.size inb_S1x1x20480_S1x1x20480_0_0_0).toLoadRect (harg1.unread x0) = x0 from ?_]
  funext y
  refine (harg1.readAt_unread x0 _ y).trans (congrArg x0 (funext fun a => Fin.ext ?_))
  show (![0, 0, 0] : Fin 3 → ℕ) a + 1 * (y a).val = (y a).val
  fin_cases a <;> simp

/-- An entry of the block of boxes. -/
theorem out3_at (r : Fin 1000) (f : Fin 4) :
    (out0_A_3 (F := Ideal) c i arg1 harg1 arg2 harg2 arg3 harg3 arg4 harg4 arg5 harg5 arg6 harg6 arg7 harg7 x0 x1 x2 (ix3 0 r f) : EReal) = k0_pay2 (F := Ideal) (kernelRun0_A.sl.r_14 (F := Ideal) c i arg1 harg1 arg2 harg2 arg3 harg3 arg4 harg4 arg5 harg5 arg6 harg6 arg7 harg7 x0 x1 x2) (kernelRun0_A.sl.r_15 (F := Ideal) c i arg1 harg1 arg2 harg2 arg3 harg3 arg4 harg4 arg5 harg5 arg6 harg6 arg7 harg7 x0 x1 x2) (kernelRun0_A.sl.r_16 (F := Ideal) c i arg1 harg1 arg2 harg2 arg3 harg3 arg4 harg4 arg5 harg5 arg6 harg6 arg7 harg7 x0 x1 x2) (kernelRun0_A.sl.r_17 (F := Ideal) c i arg1 harg1 arg2 harg2 arg3 harg3 arg4 harg4 arg5 harg5 arg6 harg6 arg7 harg7 x0 x1 x2) (kernelRun0_A.sl.r_80 (F := Ideal) c i arg1 harg1 arg2 harg2 arg3 harg3 arg4 harg4 arg5 harg5 arg6 harg6 arg7 harg7 x0 x1 x2) (ix3 0 r f) := by
  unfold out0_A_3
  exact View.read_writes_cons_hit_of_coords VO0_3 _ (Rect.unit (s := S1x1000x4) ![0, 0, 0] ![1, 1000, 4] inb_S1x1000x4_S1x1000x4_0_0_0) _ [] (ix3 0 r f) (ix3 0 r f)
    (by intro a; fin_cases a
        · rfl
        · show r.val = 0 + 1 * r.val; omega
        · show f.val = 0 + 1 * f.val; omega)

/-- An entry of the block of scores. -/
theorem out4_at (r : Fin 1000) :
    (out0_A_4 (F := Ideal) c i arg1 harg1 arg2 harg2 arg3 harg3 arg4 harg4 arg5 harg5 arg6 harg6 arg7 harg7 x0 x1 x2 (ix3 0 0 r) : EReal) = k0_pay1 (F := Ideal) (kernelRun0_A.sl.r_81 (F := Ideal) c i arg1 harg1 arg2 harg2 arg3 harg3 arg4 harg4 arg5 harg5 arg6 harg6 arg7 harg7 x0 x1 x2) (ix3 0 0 r) := by
  unfold out0_A_4
  exact View.read_writes_cons_hit_of_coords VO0_4 _ (Rect.unit (s := S1x1x1000) ![0, 0, 0] ![1, 1, 1000] inb_S1x1x1000_S1x1x1000_0_0_0) _ [] (ix3 0 0 r) (ix3 0 0 r)
    (by intro a; fin_cases a
        · rfl
        · rfl
        · show r.val = 0 + 1 * r.val; omega)

/-- The proposal with the `p`-th score. -/
def top (x0 : Vec Ideal S1x1x20480 .f32) (p : Fin 2000) : Fin 20480 := ordr (sc x0) (p.castLE (by norm_num))

/-- The box decoded from the proposal with the `p`-th score. -/
def topBox (x0 : Vec Ideal S1x1x20480 .f32) (x1 : Vec Ideal S1x4x20480 .f32) (x2 : Vec Ideal S4x20480 .f32) (p : Fin 2000) : Fin 4 → EReal :=
  boxF fun f => feat x0 x1 x2 f (top x0 p)

/-- The sorted table holds the best candidates in order. -/
theorem sorted_srt (lo : ℝ) (hlo : (kernelRun0_A.sl.r (F := Ideal) c i arg1 harg1 arg2 harg2 arg3 harg3 arg4 harg4 arg5 harg5 arg6 harg6 arg7 harg7 x0) = (lo : EReal)) (h1 : 2000 ≤ reach (sc x0) lo) (h2 : reach (sc x0) lo ≤ 2048) (f : Fin 10)
    (p : Fin 2048) (hp : p.val < 2000) :
    srt (kernelRun0_A.sl.r_2 (F := Ideal) c i arg1 harg1 arg2 harg2 arg3 harg3 arg4 harg4 arg5 harg5 arg6 harg6 arg7 harg7 x0 x1 x2) (kernelRun0_A.sl.r_3 (F := Ideal) c i arg1 harg1 arg2 harg2 arg3 harg3 arg4 harg4 arg5 harg5 arg6 harg6 arg7 harg7 x0 x1 x2) k0_pay24 (kernelRun0_A.sl.r_4 (F := Ideal) c i arg1 harg1 arg2 harg2 arg3 harg3 arg4 harg4 arg5 harg5 arg6 harg6 arg7 harg7 x0 x1 x2) f p = feat x0 x1 x2 f (ordr (sc x0) (p.castLE (by norm_num))) := by
  have hc : (kernelRun0_A.sl.cst_12 (F := Ideal) : EReal) = 0 := Ideal.ofBits_zero_f32
  have hb : ((T3 c i arg1 harg1 arg2 harg2 arg3 harg3 arg4 harg4 arg5 harg5 arg6 harg6 arg7 harg7 x0 x1 x2 (kernelRun0_A.sl.r (F := Ideal) c i arg1 harg1 arg2 harg2 arg3 harg3 arg4 harg4 arg5 harg5 arg6 harg6 arg7 harg7 x0) (kernelRun0_A.sl.v35 (F := Ideal) c arg6) k0_pay18 (kernelRun0_A.sl.cst_12 (F := Ideal)) (Scf.trips k0_t3_loop.lb k0_t3_loop.ub k0_t3_loop.st)).2 : EReal) = ((reach (sc x0) lo : ℕ) : EReal) := by
    rw [hlo, ← base_all]
    exact T3_base c i arg1 harg1 arg2 harg2 arg3 harg3 arg4 harg4 arg5 harg5 arg6 harg6 arg7 harg7 x0 x1 x2 (lo : EReal) (kernelRun0_A.sl.v35 (F := Ideal) c arg6) k0_pay18 _ hc 40 le_rfl
  unfold srt
  rw [e3, e4, e2]
  refine sorted_at (sc x0) lo (feat x0 x1 x2) (T3 c i arg1 harg1 arg2 harg2 arg3 harg3 arg4 harg4 arg5 harg5 arg6 harg6 arg7 harg7 x0 x1 x2 (kernelRun0_A.sl.r (F := Ideal) c i arg1 harg1 arg2 harg2 arg3 harg3 arg4 harg4 arg5 harg5 arg6 harg6 arg7 harg7 x0) (kernelRun0_A.sl.v35 (F := Ideal) c arg6) k0_pay18 (kernelRun0_A.sl.cst_12 (F := Ideal)) (Scf.trips k0_t3_loop.lb k0_t3_loop.ub k0_t3_loop.st)).1 ?_ (fun q => ?_) (fun q => ?_) h2 h1 (T3 c i arg1 harg1 arg2 harg2 arg3 harg3 arg4 harg4 arg5 harg5 arg6 harg6 arg7 harg7 x0 x1 x2 (kernelRun0_A.sl.r (F := Ideal) c i arg1 harg1 arg2 harg2 arg3 harg3 arg4 harg4 arg5 harg5 arg6 harg6 arg7 harg7 x0) (kernelRun0_A.sl.v35 (F := Ideal) c arg6) k0_pay18 (kernelRun0_A.sl.cst_12 (F := Ideal)) (Scf.trips k0_t3_loop.lb k0_t3_loop.ub k0_t3_loop.st)).2 hb (kernelRun0_A.sl.r_1 (F := Ideal) c i arg1 harg1 arg2 harg2 arg3 harg3 arg4 harg4 arg5 harg5 arg6 harg6 arg7 harg7 x0 x1 x2) (fun j => ?_) f p hp (by omega)
  · intro f u
    rw [hlo]
    exact T3_gath c i arg1 harg1 arg2 harg2 arg3 harg3 arg4 harg4 arg5 harg5 arg6 harg6 arg7 harg7 x0 x1 x2 lo (kernelRun0_A.sl.v35 (F := Ideal) c arg6) (tri_at c arg6) _ hc f u
  · rfl
  · rfl
  · rw [e1]
    exact rank_fold _ _ _ hb j

variable (hreal : ∀ i : Fin 20000, ∃ r : ℝ, scR x0 i = (r : EReal)) (hpad : ∀ i : Fin 20480, 20000 ≤ i.val → sc x0 i = ⊥)
  (hgap : ∀ m M w lo : ℝ, IsMin (scR x0) (m : EReal) → IsMax (scR x0) (M : EReal) → width m M = (w : EReal) → 2000 ≤ reach (sc x0) lo →
    reach (sc x0) (lo + w / 65536) < 2000 → reach (sc x0) lo ≤ 2048)

include hreal hpad hgap in
/-- The lower edge lets between 2000 and 2048 candidates through. -/
theorem low_at : ∃ lo : ℝ, (kernelRun0_A.sl.r (F := Ideal) c i arg1 harg1 arg2 harg2 arg3 harg3 arg4 harg4 arg5 harg5 arg6 harg6 arg7 harg7 x0) = (lo : EReal) ∧ 2000 ≤ reach (sc x0) lo ∧ reach (sc x0) lo ≤ 2048 := by
  have hm := pay11_at x0 hreal
  obtain ⟨M, hM, h12⟩ := pay12_at x0 hreal hpad
  obtain ⟨⟨a, hi⟩, -⟩ := id hm
  obtain ⟨j, hj⟩ := hM.1
  obtain ⟨m, hmr⟩ := hreal a
  obtain ⟨M', hMr⟩ := hreal j
  have em : (k0_pay11 (F := Ideal) x0 : EReal) = (m : EReal) := hi.symm.trans hmr
  have eM : M = (M' : EReal) := hj.symm.trans hMr
  subst eM
  rw [em] at hm h12
  have hmM : m ≤ M' := by
    have := hm.2 j
    rw [hMr] at this
    exact EReal.coe_le_coe_iff.mp this
  obtain ⟨w, hw, hw0, hlt⟩ := width_real m M' hmM
  have h12' : (k0_pay12 (F := Ideal) x0 : EReal) = (w : EReal) := h12.trans hw
  obtain ⟨lo, h1, h2, h3⟩ := rounds c i arg1 harg1 arg2 harg2 arg3 harg3 arg4 harg4 arg5 harg5 arg6 harg6 arg7 harg7 x0 m w hw0 (reach_start x0 m hm) (reach_end x0 hpad M' (m + w) hM hlt) _ _ em h12'
  exact ⟨lo, (e0 c i arg1 harg1 arg2 harg2 arg3 harg3 arg4 harg4 arg5 harg5 arg6 harg6 arg7 harg7 x0).trans h1, h2, hgap m M' w lo hm hM hw h2 h3⟩

/-- The 2000 best scores are not `⊥`. -/
theorem top_ne (lo : ℝ) (h1 : 2000 ≤ reach (sc x0) lo) (p : Fin 2048) (hp : p.val < 2000) :
    sc x0 (ordr (sc x0) (p.castLE (by norm_num))) ≠ ⊥ := by
  intro h
  have hc : Cand (sc x0) lo (ordr (sc x0) (p.castLE (by norm_num))) := cand_of_rk (sc x0) lo (by
    rw [rk_ordr]; exact lt_of_lt_of_le hp h1)
  unfold Cand at hc
  rw [h] at hc
  exact absurd hc (not_le.mpr (EReal.bot_lt_coe lo))

include hreal hpad hgap in
/-- What the body leaves: a greedy choice `K` among the first 2000 boxes, and the rows of the kept scores and boxes. -/
theorem image_rows : ∃ K : Fin 2000 → Prop,
    Greedy (fun p => Big (topBox x0 x1 x2 p)) (fun p q => Overlap (topBox x0 x1 x2 p) (topBox x0 x1 x2 q)) K
    ∧ (∀ r : Fin 1000, Row K (fun p => sc x0 (top x0 p)) r.val (out0_A_4 (F := Ideal) c i arg1 harg1 arg2 harg2 arg3 harg3 arg4 harg4 arg5 harg5 arg6 harg6 arg7 harg7 x0 x1 x2 (ix3 0 0 r)))
    ∧ ∀ (r : Fin 1000) (f : Fin 4), Row K (fun p => topBox x0 x1 x2 p f) r.val (out0_A_3 (F := Ideal) c i arg1 harg1 arg2 harg2 arg3 harg3 arg4 harg4 arg5 harg5 arg6 harg6 arg7 harg7 x0 x1 x2 (ix3 0 r f)) := by
  obtain ⟨lo, hlo, h1, h2⟩ := low_at c i arg1 harg1 arg2 harg2 arg3 harg3 arg4 harg4 arg5 harg5 arg6 harg6 arg7 harg7 x0 hreal hpad hgap
  have hs := sorted_srt c i arg1 harg1 arg2 harg2 arg3 harg3 arg4 harg4 arg5 harg5 arg6 harg6 arg7 harg7 x0 x1 x2 lo hlo h1 h2
  have hne : ∀ p : Fin 2048, p.val < 2000 → srt (kernelRun0_A.sl.r_2 (F := Ideal) c i arg1 harg1 arg2 harg2 arg3 harg3 arg4 harg4 arg5 harg5 arg6 harg6 arg7 harg7 x0 x1 x2) (kernelRun0_A.sl.r_3 (F := Ideal) c i arg1 harg1 arg2 harg2 arg3 harg3 arg4 harg4 arg5 harg5 arg6 harg6 arg7 harg7 x0 x1 x2) k0_pay24 (kernelRun0_A.sl.r_4 (F := Ideal) c i arg1 harg1 arg2 harg2 arg3 harg3 arg4 harg4 arg5 harg5 arg6 harg6 arg7 harg7 x0 x1 x2) 0 p ≠ ⊥ := fun p hp => by
    rw [hs 0 p hp]; exact top_ne x0 lo h1 p hp
  obtain ⟨K, hK, hS, hB⟩ := select_rows (kernelRun0_A.sl.r_2 (F := Ideal) c i arg1 harg1 arg2 harg2 arg3 harg3 arg4 harg4 arg5 harg5 arg6 harg6 arg7 harg7 x0 x1 x2) (kernelRun0_A.sl.r_3 (F := Ideal) c i arg1 harg1 arg2 harg2 arg3 harg3 arg4 harg4 arg5 harg5 arg6 harg6 arg7 harg7 x0 x1 x2) k0_pay24 (kernelRun0_A.sl.r_4 (F := Ideal) c i arg1 harg1 arg2 harg2 arg3 harg3 arg4 harg4 arg5 harg5 arg6 harg6 arg7 harg7 x0 x1 x2) (kernelRun0_A.sl.v35 (F := Ideal) c arg6) (tri_at c arg6) hne
  have hbox : ∀ p : Fin 2000, bbox (kernelRun0_A.sl.r_2 (F := Ideal) c i arg1 harg1 arg2 harg2 arg3 harg3 arg4 harg4 arg5 harg5 arg6 harg6 arg7 harg7 x0 x1 x2) (kernelRun0_A.sl.r_3 (F := Ideal) c i arg1 harg1 arg2 harg2 arg3 harg3 arg4 harg4 arg5 harg5 arg6 harg6 arg7 harg7 x0 x1 x2) k0_pay24 (kernelRun0_A.sl.r_4 (F := Ideal) c i arg1 harg1 arg2 harg2 arg3 harg3 arg4 harg4 arg5 harg5 arg6 harg6 arg7 harg7 x0 x1 x2) (p.castLE (by norm_num)) = topBox x0 x1 x2 p := fun p => by
    rw [bbox_at]
    exact congrArg boxF (funext fun f => hs f _ p.isLt)
  have hK2 : ∀ p, K p → p.val < 2000 := fun p hp => ((hK p).mp hp).1.1
  refine ⟨fun p => K (p.castLE (by norm_num)), ?_, fun r => ?_, fun r f => ?_⟩
  · have := hK.castLE (m := 2000) (by norm_num)
    intro j
    refine (this j).trans (and_congr ?_ (forall_congr' fun i => imp_congr_right fun _ => imp_congr_right fun _ => not_congr ?_))
    · beta_reduce; unfold bvalid; rw [hbox]; exact ⟨fun h => h.2, fun h => ⟨j.isLt, h⟩⟩
    · show Overlap _ _ ↔ _
      rw [hbox, hbox]
  · have hR := (hS r).castLE (m := 2000) (by norm_num) hK2
    rw [out4_at, scores_eq, e20, e22, e21, e18, e17, e16, e15, e14, e5, e19]
    refine ⟨fun p hp e => (hR.1 p hp e).trans ?_, hR.2⟩
    have hv := ((hK _).mp hp).1
    exact (bsn_valid _ _ _ _ _ hv).trans (hs 0 _ p.isLt)
  · have hR := (hB r f).castLE (m := 2000) (by norm_num) hK2
    rw [out3_at, boxes_eq, e20, e22, e21, e18, e17, e16, e15, e14, e5]
    refine ⟨fun p hp e => (hR.1 p hp e).trans ?_, hR.2⟩
    exact congrFun (hbox p) f

end Cert.KernelIdeal.Value

end
-- ==== Proof.VTop.lean ====
module

public import proofs.«01_k».proof.Proof.VGreedy
public import proofs.«01_k».proof.Proof.VBox
public import proofs.«01_k».proof.Proof.VSelect

/-! # What both programs compute for one image

`s` are the objectness scores of an image, `D` its deltas and `W` the anchors.  The 2000 best anchors are taken in
order, decoded, and suppressed greedily; the survivors are written out in order.  `RowsOf` says that two output
arrays hold exactly that, and `RowsOf.unique` that it determines them. -/

@[expose] public section

noncomputable section

namespace Rpn

variable (s : Fin 20000 → EReal) (D W : Fin 20000 → Fin 4 → EReal)

/-- The anchor in place `p` of the order of falling score. -/
def sel (p : Fin 2000) : Fin 20000 := ordr s (p.castLE (by norm_num))

/-- Its decoded and clipped box. -/
def selBox (p : Fin 2000) : Fin 4 → EReal :=
  boxOf (D (sel s p) 0) (D (sel s p) 1) (D (sel s p) 2) (D (sel s p) 3) (W (sel s p) 0) (W (sel s p) 1) (W (sel s p) 2) (W (sel s p) 3)

/-- The output arrays of one image hold the boxes and the scores of the survivors in order, and zeros after them. -/
def RowsOf (box : Fin 1000 → Fin 4 → EReal) (score : Fin 1000 → EReal) : Prop :=
  ∃ K : Fin 2000 → Prop,
    Greedy (fun p => Big (selBox s D W p)) (fun p q => Overlap (selBox s D W p) (selBox s D W q)) K
    ∧ (∀ r : Fin 1000, Row K (fun p => s (sel s p)) r.val (score r))
    ∧ ∀ (r : Fin 1000) (f : Fin 4), Row K (fun p => selBox s D W p f) r.val (box r f)

/-- The description leaves no freedom. -/
theorem RowsOf.unique {s : Fin 20000 → EReal} {D W : Fin 20000 → Fin 4 → EReal} {box box' : Fin 1000 → Fin 4 → EReal}
    {score score' : Fin 1000 → EReal} (h : RowsOf s D W box score) (h' : RowsOf s D W box' score') :
    (∀ r, score r = score' r) ∧ ∀ r f, box r f = box' r f := by
  obtain ⟨K, hg, h1, h2⟩ := h
  obtain ⟨K', hg', h1', h2'⟩ := h'
  have hK : K = K' := funext fun p => propext (hg.unique hg' p)
  subst hK
  exact ⟨fun r => (h1 r).unique (h1' r), fun r f => (h2 r f).unique (h2' r f)⟩

/-- Padding the scores with `⊥` changes no rank. -/
theorem rk_pad (t : Fin 20480 → EReal) (hreal : ∀ i, s i ≠ ⊥) (h : ∀ i : Fin 20000, t (i.castLE (by norm_num)) = s i)
    (hpad : ∀ i : Fin 20480, 20000 ≤ i.val → t i = ⊥) (i : Fin 20000) :
    rk t (i.castLE (by norm_num)) = rk s i := by
  unfold rk
  have hlt : ∀ j : Fin 20480, Before t j (i.castLE (by norm_num)) → j.val < 20000 := fun j hj => by
    by_contra hc
    have hb := hpad j (by omega)
    rcases hj with hj | hj
    · rw [hb] at hj; exact not_lt_bot hj
    · rw [hb, h] at hj; exact hreal i hj.1.symm
  have hb : ∀ j : Fin 20000, Before t (j.castLE (by norm_num)) (i.castLE (by norm_num)) ↔ Before s j i := fun j => by
    unfold Before; rw [h, h]; exact Iff.rfl
  refine cnt_bij (fun j => if hj : j.val < 20000 then ⟨j.val, hj⟩ else i) (fun j => j.castLE (by norm_num)) ?_ ?_ ?_ ?_
  · intro j hj
    have := hlt j hj
    simp only [this, dif_pos]
    exact (hb ⟨j.val, this⟩).mp hj
  · intro j hj; exact (hb j).mpr hj
  · intro j hj
    have := hlt j hj
    simp only [this, dif_pos]
    rfl
  · intro j hj
    have : (j.castLE (by norm_num) : Fin 20480).val < 20000 := j.isLt
    simp only [this, dif_pos]
    rfl

/-- Nor does it change the order of the real scores. -/
theorem ordr_pad (t : Fin 20480 → EReal) (hreal : ∀ i, s i ≠ ⊥) (h : ∀ i : Fin 20000, t (i.castLE (by norm_num)) = s i)
    (hpad : ∀ i : Fin 20480, 20000 ≤ i.val → t i = ⊥) (p : Fin 20000) :
    ordr t (p.castLE (by norm_num)) = (ordr s p).castLE (by norm_num) :=
  (eq_ordr t ((rk_pad s t hreal h hpad (ordr s p)).trans (rk_ordr s p))).symm

/-- Where the scores of the places 2000 and 2049 are `δ` apart, a threshold that fewer than 2000 scores reach once
raised by `δ` is reached by at most 2048. -/
theorem reach_pad (t : Fin 20480 → EReal) (hreal : ∀ i, s i ≠ ⊥) (h : ∀ i : Fin 20000, t (i.castLE (by norm_num)) = s i)
    (hpad : ∀ i : Fin 20480, 20000 ≤ i.val → t i = ⊥) (lo δ : ℝ)
    (hsep : s (ordr s ⟨2048, by norm_num⟩) + (δ : EReal) ≤ s (ordr s ⟨1999, by norm_num⟩))
    (h2 : reach t (lo + δ) < 2000) : reach t lo ≤ 2048 :=
  reach_le t 2000 2048 lo δ h2 ((ordr s ⟨1999, by norm_num⟩).castLE (by norm_num)) ((ordr s ⟨2048, by norm_num⟩).castLE (by norm_num))
    (by rw [rk_pad s t hreal h hpad, rk_ordr]) (by rw [rk_pad s t hreal h hpad, rk_ordr]) (by rw [h, h]; exact hsep)

end Rpn

end
-- ==== Proof.KVPrefix.lean ====
module

public import proofs.«01_k».proof.Proof.KIValue
public import proofs.«01_k».proof.Proof.KVRows
public import Idealize.ShloMosaic.Lib.Routing.OpsSet
public import Idealize.ShloMosaic.Lib.Routing.OpsPair
public import Idealize.ShloMosaic.Lib.StableHlo.RunRead
public import Idealize.ShloMosaic.Lib.Pipeline.ValueKit
public import proofs.«01_k».proof.Proof.VTop

@[expose] public section

set_option maxRecDepth 16384

noncomputable section

/-! # From one block to the whole arrays

The kernel's windows, read at an element, and the padded copies of the arguments that the host code makes before the
launch.  Together with the value of the body at a grid point they give the two result arrays. -/

namespace Cert.KernelIdeal.Value

open Cert.KernelIdeal Cert.KernelIdeal.Gen
open Idealize.ShloMosaic Idealize.ShloMosaic.Tactic Rpn
open scoped BigOperators

variable (m : (ℓ : Loc nD τ sig) → Buf (Elt Ideal) ℓ)

/-- The block of boxes of a step. -/
theorem index3 : ∀ t : Fin grid0.N, win0_3.index t 0 = t.val ∧ win0_3.index t 1 = 0 ∧ win0_3.index t 2 = 0 := by decide +kernel
/-- The block of scores of a step. -/
theorem index4 : ∀ t : Fin grid0.N, win0_4.index t 0 = t.val ∧ win0_4.index t 1 = 0 ∧ win0_4.index t 2 = 0 := by decide +kernel
/-- The block of input scores of a step. -/
theorem index0 : ∀ t : Fin grid0.N, win0_0.index t 0 = t.val ∧ win0_0.index t 1 = 0 ∧ win0_0.index t 2 = 0 := by decide +kernel
/-- The block of deltas of a step. -/
theorem index1 : ∀ t : Fin grid0.N, win0_1.index t 0 = t.val ∧ win0_1.index t 1 = 0 ∧ win0_1.index t 2 = 0 := by decide +kernel
/-- The anchors are the same block at every step. -/
theorem index2 : ∀ t : Fin grid0.N, win0_2.index t 0 = 0 ∧ win0_2.index t 1 = 0 := by decide +kernel

/-- An element of a block of window 3. -/
theorem idx3 (X : S2x1000x4.Idx → EReal) (t : Fin (cfg0 (F := Ideal)).N) (i : Fin 1000) (f : Fin 4) :
    (((cfg0 (F := Ideal)).win 3).blk t).view.read (Elt Ideal) X (ix3 0 i f) = X (ix3 ⟨t.val, t.isLt⟩ i f) := by
  refine congrArg X ?_
  funext a
  apply Fin.ext
  refine (Pipeline.Window.rect_emb_val win0_3 t (ix3 0 i f) a).trans ?_
  obtain ⟨e0, e1, e2⟩ := index3 t
  match a with
  | ⟨0, _⟩ => refine (congrArg (· * 1 + 0) e0).trans ?_; show t.val * 1 + 0 = t.val; omega
  | ⟨1, _⟩ => refine (congrArg (· * 1000 + i.val) e1).trans ?_; show 0 * 1000 + i.val = i.val; omega
  | ⟨2, _⟩ => refine (congrArg (· * 4 + f.val) e2).trans ?_; show 0 * 4 + f.val = f.val; omega

/-- An element of a block of window 4. -/
theorem idx4 (X : S2x1x1000.Idx → EReal) (t : Fin (cfg0 (F := Ideal)).N) (i : Fin 1000) :
    (((cfg0 (F := Ideal)).win 4).blk t).view.read (Elt Ideal) X (ix3 0 0 i) = X (ix3 ⟨t.val, t.isLt⟩ 0 i) := by
  refine congrArg X ?_
  funext a
  apply Fin.ext
  refine (Pipeline.Window.rect_emb_val win0_4 t (ix3 0 0 i) a).trans ?_
  obtain ⟨e0, e1, e2⟩ := index4 t
  match a with
  | ⟨0, _⟩ => refine (congrArg (· * 1 + 0) e0).trans ?_; show t.val * 1 + 0 = t.val; omega
  | ⟨1, _⟩ => refine (congrArg (· * 1 + 0) e1).trans ?_; show 0 * 1 + 0 = 0; omega
  | ⟨2, _⟩ => refine (congrArg (· * 1000 + i.val) e2).trans ?_; show 0 * 1000 + i.val = i.val; omega

/-- An element of a block of window 0. -/
theorem idx0 (X : S2x1x20480.Idx → EReal) (t : Fin (cfg0 (F := Ideal)).N) (i : Fin 20480) :
    (((cfg0 (F := Ideal)).win 0).blk t).view.read (Elt Ideal) X (ix3 0 0 i) = X (ix3 ⟨t.val, t.isLt⟩ 0 i) := by
  refine congrArg X ?_
  funext a
  apply Fin.ext
  refine (Pipeline.Window.rect_emb_val win0_0 t (ix3 0 0 i) a).trans ?_
  obtain ⟨e0, e1, e2⟩ := index0 t
  match a with
  | ⟨0, _⟩ => refine (congrArg (· * 1 + 0) e0).trans ?_; show t.val * 1 + 0 = t.val; omega
  | ⟨1, _⟩ => refine (congrArg (· * 1 + 0) e1).trans ?_; show 0 * 1 + 0 = 0; omega
  | ⟨2, _⟩ => refine (congrArg (· * 20480 + i.val) e2).trans ?_; show 0 * 20480 + i.val = i.val; omega

/-- An element of a block of window 1. -/
theorem idx1 (X : S2x4x20480.Idx → EReal) (t : Fin (cfg0 (F := Ideal)).N) (d : Fin 4) (i : Fin 20480) :
    (((cfg0 (F := Ideal)).win 1).blk t).view.read (Elt Ideal) X (ix3 0 d i) = X (ix3 ⟨t.val, t.isLt⟩ d i) := by
  refine congrArg X ?_
  funext a
  apply Fin.ext
  refine (Pipeline.Window.rect_emb_val win0_1 t (ix3 0 d i) a).trans ?_
  obtain ⟨e0, e1, e2⟩ := index1 t
  match a with
  | ⟨0, _⟩ => refine (congrArg (· * 1 + 0) e0).trans ?_; show t.val * 1 + 0 = t.val; omega
  | ⟨1, _⟩ => refine (congrArg (· * 4 + d.val) e1).trans ?_; show 0 * 4 + d.val = d.val; omega
  | ⟨2, _⟩ => refine (congrArg (· * 20480 + i.val) e2).trans ?_; show 0 * 20480 + i.val = i.val; omega

/-- An element of a block of window 2. -/
theorem idx2 (X : S4x20480.Idx → EReal) (t : Fin (cfg0 (F := Ideal)).N) (d : Fin 4) (i : Fin 20480) :
    (((cfg0 (F := Ideal)).win 2).blk t).view.read (Elt Ideal) X (ix2 d i) = X (ix2 d i) := by
  refine congrArg X ?_
  funext a
  apply Fin.ext
  refine (Pipeline.Window.rect_emb_val win0_2 t (ix2 d i) a).trans ?_
  obtain ⟨e0, e1⟩ := index2 t
  match a with
  | ⟨0, _⟩ => refine (congrArg (· * 4 + d.val) e0).trans ?_; show 0 * 4 + d.val = d.val; omega
  | ⟨1, _⟩ => refine (congrArg (· * 20480 + i.val) e1).trans ?_; show 0 * 20480 + i.val = i.val; omega

/-- A scatter whose index words are all zero starts at the origin. -/
theorem start_zero {s si u : Shape} (d : ScatterDims s si u) (idx : IVec si 32) (h : ∀ i, idx i = 0#32) (j : u.Idx) (a : Fin s.rank) : d.start j idx a = 0 := by
  unfold ScatterDims.start
  split
  · rw [h]; rfl
  · rfl

/-- Joining constant parts gives the constant. -/
theorem concat_const {α : Type} {t : Shape} (a : Fin t.rank) (xs : List ((s : Shape) × (s.Idx → α))) (h) (v : α)
    (hv : ∀ p ∈ xs, ∀ i, p.2 i = v) (j : t.Idx) : concatenate t a xs h j = v := by
  unfold concatenate
  exact hv _ (List.getElem_mem _) _

/-- The image coordinate of a padded score. -/
theorem win0_0' (k : S2x20000.Idx) : scatter_S2x1x20480_S2_S2x20000_01_1_12_0.window k 0 = (k 0).val := by
  unfold ScatterDims.window
  rw [dif_pos (by decide)]
  rfl
/-- The middle coordinate of a padded score. -/
theorem win0_1' (k : S2x20000.Idx) : scatter_S2x1x20480_S2_S2x20000_01_1_12_0.window k 1 = 0 := by rfl
/-- The anchor coordinate of a padded score. -/
theorem win0_2' (k : S2x20000.Idx) : scatter_S2x1x20480_S2_S2x20000_01_1_12_0.window k 2 = (k 1).val := by rfl

/-- The padded scores where the argument has an element. -/
theorem scat0_hit (x0 : S2x1x20480.Idx → EReal) (idx : IVec S2 32) (h : ∀ i, idx i = 0#32) (u : S2x20000.Idx → EReal) (b : Fin 2) (i : Fin 20000) :
    Host.scatter scatter_S2x1x20480_S2_S2x20000_01_1_12_0 (fun _ b => b) x0 idx u (ix3 b 0 (i.castLE (by norm_num))) = u (ix2 b i) := by
  have key : ∀ k : S2x20000.Idx, scatter_S2x1x20480_S2_S2x20000_01_1_12_0.resultIdx? k idx = some (ix3 b 0 (i.castLE (by norm_num))) ↔ k = ix2 b i := by
    intro k
    rw [Idealize.ShloMosaic.Routing.resultIdx?_eq_some]
    simp only [start_zero _ _ h, Int.zero_add]
    constructor
    · intro q
      have q0 := (congrArg (Nat.cast (R := Int)) (win0_0' k)).symm.trans (q 0)
      have q2 := (congrArg (Nat.cast (R := Int)) (win0_2' k)).symm.trans (q 2)
      funext a
      match a with
      | ⟨0, _⟩ => exact Fin.ext (Int.ofNat.inj q0)
      | ⟨1, _⟩ => exact Fin.ext (Int.ofNat.inj q2)
    · rintro rfl a
      match a with
      | ⟨0, _⟩ => exact congrArg (Nat.cast (R := Int)) (win0_0' (ix2 b i))
      | ⟨1, _⟩ => exact congrArg (Nat.cast (R := Int)) (win0_1' (ix2 b i))
      | ⟨2, _⟩ => exact congrArg (Nat.cast (R := Int)) (win0_2' (ix2 b i))
  exact Idealize.ShloMosaic.Routing.scatter_set_hit _ x0 idx u _ _ (fun k hk => by rw [(key k).mp hk]) (ix2 b i) ((key _).mpr rfl)

/-- The padded scores beyond it. -/
theorem scat0_miss (x0 : S2x1x20480.Idx → EReal) (idx : IVec S2 32) (h : ∀ i, idx i = 0#32) (u : S2x20000.Idx → EReal) (b : Fin 2) (i : Fin 20480) (hi : 20000 ≤ i.val) :
    Host.scatter scatter_S2x1x20480_S2_S2x20000_01_1_12_0 (fun _ b => b) x0 idx u (ix3 b 0 i) = x0 (ix3 b 0 i) := by
  refine Idealize.ShloMosaic.Routing.scatter_set_miss _ x0 idx u _ fun k => ?_
  intro q
  rw [Idealize.ShloMosaic.Routing.resultIdx?_eq_some] at q
  simp only [start_zero _ _ h, Int.zero_add] at q
  have q2 : (k 1).val = i.val := Int.ofNat.inj ((congrArg (Nat.cast (R := Int)) (win0_2' k)).symm.trans (q 2))
  have : (k 1).val < 20000 := (k 1).isLt
  omega

/-- The image coordinate of a padded delta. -/
theorem win1_0' (k : S2x4x20000.Idx) : scatter_S2x4x20480_S1_S2x4x20000_012_n_2_0.window k 0 = (k 0).val := by rfl
/-- The component of a padded delta. -/
theorem win1_1' (k : S2x4x20000.Idx) : scatter_S2x4x20480_S1_S2x4x20000_012_n_2_0.window k 1 = (k 1).val := by rfl
/-- The anchor coordinate of a padded delta. -/
theorem win1_2' (k : S2x4x20000.Idx) : scatter_S2x4x20480_S1_S2x4x20000_012_n_2_0.window k 2 = (k 2).val := by rfl

/-- The padded deltas where the argument has an element. -/
theorem scat1_hit (x0 : S2x4x20480.Idx → EReal) (idx : IVec S1 32) (h : ∀ i, idx i = 0#32) (u : S2x4x20000.Idx → EReal) (b : Fin 2) (d : Fin 4) (i : Fin 20000) :
    Host.scatter scatter_S2x4x20480_S1_S2x4x20000_012_n_2_0 (fun _ b => b) x0 idx u (ix3 b d (i.castLE (by norm_num))) = u (ix3 b d i) := by
  have key : ∀ k : S2x4x20000.Idx, scatter_S2x4x20480_S1_S2x4x20000_012_n_2_0.resultIdx? k idx = some (ix3 b d (i.castLE (by norm_num))) ↔ k = ix3 b d i := by
    intro k
    rw [Idealize.ShloMosaic.Routing.resultIdx?_eq_some]
    simp only [start_zero _ _ h, Int.zero_add]
    constructor
    · intro q
      have q0 := (congrArg (Nat.cast (R := Int)) (win1_0' k)).symm.trans (q 0)
      have q1 := (congrArg (Nat.cast (R := Int)) (win1_1' k)).symm.trans (q 1)
      have q2 := (congrArg (Nat.cast (R := Int)) (win1_2' k)).symm.trans (q 2)
      funext a
      match a with
      | ⟨0, _⟩ => exact Fin.ext (Int.ofNat.inj q0)
      | ⟨1, _⟩ => exact Fin.ext (Int.ofNat.inj q1)
      | ⟨2, _⟩ => exact Fin.ext (Int.ofNat.inj q2)
    · rintro rfl a
      match a with
      | ⟨0, _⟩ => exact congrArg (Nat.cast (R := Int)) (win1_0' (ix3 b d i))
      | ⟨1, _⟩ => exact congrArg (Nat.cast (R := Int)) (win1_1' (ix3 b d i))
      | ⟨2, _⟩ => exact congrArg (Nat.cast (R := Int)) (win1_2' (ix3 b d i))
  exact Idealize.ShloMosaic.Routing.scatter_set_hit _ x0 idx u _ _ (fun k hk => by rw [(key k).mp hk]) (ix3 b d i) ((key _).mpr rfl)

/-- The component of a padded anchor. -/
theorem win2_0' (k : S4x20000.Idx) : scatter_S4x20480_S1_S4x20000_01_n_1_0.window k 0 = (k 0).val := by rfl
/-- The number of a padded anchor. -/
theorem win2_1' (k : S4x20000.Idx) : scatter_S4x20480_S1_S4x20000_01_n_1_0.window k 1 = (k 1).val := by rfl

/-- The padded anchors where the argument has an element. -/
theorem scat2_hit (x0 : S4x20480.Idx → EReal) (idx : IVec S1 32) (h : ∀ i, idx i = 0#32) (u : S4x20000.Idx → EReal) (d : Fin 4) (i : Fin 20000) :
    Host.scatter scatter_S4x20480_S1_S4x20000_01_n_1_0 (fun _ b => b) x0 idx u (ix2 d (i.castLE (by norm_num))) = u (ix2 d i) := by
  have key : ∀ k : S4x20000.Idx, scatter_S4x20480_S1_S4x20000_01_n_1_0.resultIdx? k idx = some (ix2 d (i.castLE (by norm_num))) ↔ k = ix2 d i := by
    intro k
    rw [Idealize.ShloMosaic.Routing.resultIdx?_eq_some]
    simp only [start_zero _ _ h, Int.zero_add]
    constructor
    · intro q
      have q0 := (congrArg (Nat.cast (R := Int)) (win2_0' k)).symm.trans (q 0)
      have q1 := (congrArg (Nat.cast (R := Int)) (win2_1' k)).symm.trans (q 1)
      funext a
      match a with
      | ⟨0, _⟩ => exact Fin.ext (Int.ofNat.inj q0)
      | ⟨1, _⟩ => exact Fin.ext (Int.ofNat.inj q1)
    · rintro rfl a
      match a with
      | ⟨0, _⟩ => exact congrArg (Nat.cast (R := Int)) (win2_0' (ix2 d i))
      | ⟨1, _⟩ => exact congrArg (Nat.cast (R := Int)) (win2_1' (ix2 d i))
  exact Idealize.ShloMosaic.Routing.scatter_set_hit _ x0 idx u _ _ (fun k hk => by rw [(key k).mp hk]) (ix2 d i) ((key _).mpr rfl)

/-- The scores the launch finds. -/
theorem entry_scores (c : Dev nD) : ∃ (x0 : S2x1x20480.Idx → EReal) (idx : IVec S2 32), (∀ i, x0 i = ⊥) ∧ (∀ i, idx i = 0#32)
    ∧ V m c main_v4 = Host.scatter scatter_S2x1x20480_S2_S2x20000_01_1_12_0 (fun _ b => b) x0 idx (m (c, Proc.devRef .tc main_arg0)) := by
  have h : V m c main_v4 = Host.scatter scatter_S2x1x20480_S2_S2x20000_01_1_12_0 (fun _ b => b) (V m c main_v0) (V m c main_v3) (m (c, Proc.devRef .tc main_arg0)) := by
    unfold V; after_reads_simp; rfl
  have h0 : V m c main_v0 = broadcastInDim S2x1x20480 ![] bcast_S_S2x1x20480 (constant (F := Ideal) S_ .f32 0xFF800000#32) := by unfold V; after_reads_simp
  have h1 : V m c main_v1 = fun _ => 0#32 := by unfold V; after_reads_simp; rfl
  have h2 : V m c main_v2 = fun _ => 0#32 := by unfold V; after_reads_simp; rfl
  have h3 : V m c main_v3 = concatenate S2 0 [⟨S1, V m c main_v1⟩, ⟨S1, V m c main_v2⟩] concatenates_S1_S1_S2_d0 := by
    unfold V; after_reads_simp; rfl
  refine ⟨_, _, fun i => ?_, fun i => ?_, h⟩
  · rw [h0]; exact Rpn.c_bot
  · rw [h3, h1, h2]
    refine concat_const _ _ _ _ (fun p hp j => ?_) i
    simp only [List.mem_cons, List.not_mem_nil, or_false] at hp
    rcases hp with rfl | rfl <;> rfl

/-- The deltas the launch finds. -/
theorem entry_deltas (c : Dev nD) : ∃ (x0 : S2x4x20480.Idx → EReal) (idx : IVec S1 32), (∀ i, idx i = 0#32)
    ∧ V m c main_v8 = Host.scatter scatter_S2x4x20480_S1_S2x4x20000_012_n_2_0 (fun _ b => b) x0 idx (transpose S2x4x20000 [0, 2, 1] (m (c, Proc.devRef .tc main_arg1)) transposes_S2x20000x4_S2x4x20000_0_2_1) := by
  have h : V m c main_v8 = Host.scatter scatter_S2x4x20480_S1_S2x4x20000_012_n_2_0 (fun _ b => b) (V m c main_v5) (V m c main_v7) (transpose S2x4x20000 [0, 2, 1] (m (c, Proc.devRef .tc main_arg1)) transposes_S2x20000x4_S2x4x20000_0_2_1) := by
    unfold V; after_reads_simp; rfl
  have h1 : V m c main_v7 = fun _ => 0#32 := by unfold V; after_reads_simp; rfl
  exact ⟨_, _, fun i => by rw [h1], h⟩

/-- The anchors the launch finds. -/
theorem entry_anchors (c : Dev nD) : ∃ (x0 : S4x20480.Idx → EReal) (idx : IVec S1 32), (∀ i, idx i = 0#32)
    ∧ V m c main_v12 = Host.scatter scatter_S4x20480_S1_S4x20000_01_n_1_0 (fun _ b => b) x0 idx (transpose S4x20000 [1, 0] (m (c, Proc.devRef .tc main_arg2)) transposes_S20000x4_S4x20000_1_0) := by
  have h : V m c main_v12 = Host.scatter scatter_S4x20480_S1_S4x20000_01_n_1_0 (fun _ b => b) (V m c main_v9) (V m c main_v11) (transpose S4x20000 [1, 0] (m (c, Proc.devRef .tc main_arg2)) transposes_S20000x4_S4x20000_1_0) := by
    unfold V; after_reads_simp; rfl
  have h1 : V m c main_v11 = fun _ => 0#32 := by unfold V; after_reads_simp; rfl
  exact ⟨_, _, fun i => by rw [h1], h⟩

/-- Every step writes its block of boxes out. -/
theorem flush3 : ∀ t : Fin (cfg0 (F := Ideal)).N, ((cfg0 (F := Ideal)).win 3).flush t = true :=
  (by decide +kernel : ∀ t : Fin grid0.N, win0_3.flush t = true)
/-- Every step writes its block of scores out. -/
theorem flush4 : ∀ t : Fin (cfg0 (F := Ideal)).N, ((cfg0 (F := Ideal)).win 4).flush t = true :=
  (by decide +kernel : ∀ t : Fin grid0.N, win0_4.flush t = true)

/-- The objectness scores of an image. -/
def imgS (c : Dev nD) (b : Fin 2) (i : Fin 20000) : EReal := (m (c, Proc.devRef .tc main_arg0) : S2x20000.Idx → EReal) (ix2 b i)
/-- Its deltas. -/
def imgD (c : Dev nD) (b : Fin 2) (i : Fin 20000) (d : Fin 4) : EReal := (m (c, Proc.devRef .tc main_arg1) : S2x20000x4.Idx → EReal) (ix3 b i d)
/-- The anchors. -/
def imgW (c : Dev nD) (i : Fin 20000) (d : Fin 4) : EReal := (m (c, Proc.devRef .tc main_arg2) : S20000x4.Idx → EReal) (ix2 i d)

/-- The scores a step reads. -/
theorem block_score (c : Dev nD) (t : Fin (cfg0 (F := Ideal)).N) (i : Fin 20000) :
    (iblk m c 0 t : S1x1x20480.Idx → EReal) (ix3 0 0 (i.castLE (by norm_num))) = imgS m c ⟨t.val, t.isLt⟩ i := by
  obtain ⟨x0, idx, _, h, e⟩ := entry_scores m c
  refine (idx0 (V m c main_v4) t _).trans ?_
  rw [e]
  exact scat0_hit x0 idx h _ _ i

/-- The padding of the scores. -/
theorem block_pad (c : Dev nD) (t : Fin (cfg0 (F := Ideal)).N) (i : Fin 20480) (hi : 20000 ≤ i.val) :
    (iblk m c 0 t : S1x1x20480.Idx → EReal) (ix3 0 0 i) = (⊥ : EReal) := by
  obtain ⟨x0, idx, hb, h, e⟩ := entry_scores m c
  refine (idx0 (V m c main_v4) t _).trans ?_
  rw [e]
  exact (scat0_miss x0 idx h _ _ i hi).trans (hb _)

/-- The deltas a step reads. -/
theorem block_delta (c : Dev nD) (t : Fin (cfg0 (F := Ideal)).N) (d : Fin 4) (i : Fin 20000) :
    (iblk m c 1 t : S1x4x20480.Idx → EReal) (ix3 0 d (i.castLE (by norm_num))) = imgD m c ⟨t.val, t.isLt⟩ i d := by
  obtain ⟨x0, idx, h, e⟩ := entry_deltas m c
  refine (idx1 (V m c main_v8) t d _).trans ?_
  rw [e]
  refine (scat1_hit x0 idx h _ _ d i).trans ?_
  unfold imgD
  generalize m (c, Proc.devRef .tc main_arg1) = X
  pointwise

/-- The anchors a step reads. -/
theorem block_anchor (c : Dev nD) (t : Fin (cfg0 (F := Ideal)).N) (d : Fin 4) (i : Fin 20000) :
    (iblk m c 2 t : S4x20480.Idx → EReal) (ix2 d (i.castLE (by norm_num))) = imgW m c i d := by
  obtain ⟨x0, idx, h, e⟩ := entry_anchors m c
  refine (idx2 (V m c main_v12) t d _).trans ?_
  rw [e]
  refine (scat2_hit x0 idx h _ d i).trans ?_
  unfold imgW
  generalize m (c, Proc.devRef .tc main_arg2) = X
  pointwise

/-- The two result arrays of the launch hold, for every image, the rows of the survivors. -/
theorem kernel_rows (c : Dev nD) (t : Fin (cfg0 (F := Ideal)).N) (hreal : ∀ i, ∃ r : ℝ, imgS m c ⟨t.val, t.isLt⟩ i = r)
    (hsep : ∀ mn M w : ℝ, IsMin (imgS m c ⟨t.val, t.isLt⟩) mn → IsMax (imgS m c ⟨t.val, t.isLt⟩) M → width mn M = w →
      imgS m c ⟨t.val, t.isLt⟩ (ordr (imgS m c ⟨t.val, t.isLt⟩) ⟨2048, by norm_num⟩) + ((w / 65536 : ℝ) : EReal) ≤ imgS m c ⟨t.val, t.isLt⟩ (ordr (imgS m c ⟨t.val, t.isLt⟩) ⟨1999, by norm_num⟩)) :
    RowsOf (imgS m c ⟨t.val, t.isLt⟩) (imgD m c ⟨t.val, t.isLt⟩) (imgW m c)
      (fun r f => ((dats m 0 c).arrAt 3 (cfg0 (F := Ideal)).N : S2x1000x4.Idx → EReal) (ix3 ⟨t.val, t.isLt⟩ r f))
      (fun r => ((dats m 0 c).arrAt 4 (cfg0 (F := Ideal)).N : S2x1x1000.Idx → EReal) (ix3 ⟨t.val, t.isLt⟩ 0 r)) := by
  have e3 : ∀ (r : Fin 1000) (f : Fin 4), ((dats m 0 c).arrAt 3 (cfg0 (F := Ideal)).N : S2x1000x4.Idx → EReal) (ix3 ⟨t.val, t.isLt⟩ r f) = out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (ix3 0 r f) := fun r f =>
    (idx3 ((dats m 0 c).arrAt 3 (cfg0 (F := Ideal)).N) t r f).symm.trans (congrFun ((blocks3 m c t (flush3 t)).trans (flushed3_A m c t)) (ix3 0 r f))
  have e4 : ∀ (r : Fin 1000), ((dats m 0 c).arrAt 4 (cfg0 (F := Ideal)).N : S2x1x1000.Idx → EReal) (ix3 ⟨t.val, t.isLt⟩ 0 r) = out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (ix3 0 0 r) := fun r =>
    (idx4 ((dats m 0 c).arrAt 4 (cfg0 (F := Ideal)).N) t r).symm.trans (congrFun ((blocks4 m c t (flush4 t)).trans (flushed4_A m c t)) (ix3 0 0 r))
  have hs : ∀ i : Fin 20000, sc (iblk m c 0 t) (i.castLE (by norm_num)) = imgS m c ⟨t.val, t.isLt⟩ i := fun i => block_score m c t i
  have hpad : ∀ i : Fin 20480, 20000 ≤ i.val → sc (iblk m c 0 t) i = ⊥ := fun i hi => block_pad m c t i hi
  have hbot : ∀ i, imgS m c ⟨t.val, t.isLt⟩ i ≠ ⊥ := fun i h => by
    obtain ⟨r, hr⟩ := hreal i
    rw [hr] at h; exact EReal.coe_ne_bot r h
  have hsc : scR (iblk m c 0 t) = imgS m c ⟨t.val, t.isLt⟩ := funext hs
  obtain ⟨K, hg, h1, h2⟩ := image_rows c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t)
    (fun i => by rw [hsc]; exact hreal i) hpad
    (fun mn M w lo hmn hM hw _ h2 => reach_pad (imgS m c ⟨t.val, t.isLt⟩) _ hbot hs hpad lo (w / 65536) (hsep mn M w (hsc ▸ hmn) (hsc ▸ hM) hw) h2)
  have ht : ∀ p, top (iblk m c 0 t) p = (sel (imgS m c ⟨t.val, t.isLt⟩) p).castLE (by norm_num) := fun p =>
    ordr_pad (imgS m c ⟨t.val, t.isLt⟩) _ hbot hs hpad (p.castLE (by norm_num))
  have hbox : topBox (iblk m c 0 t) (iblk m c 1 t) (iblk m c 2 t) = selBox (imgS m c ⟨t.val, t.isLt⟩) (imgD m c ⟨t.val, t.isLt⟩) (imgW m c) := by
    funext p
    unfold topBox selBox boxF
    rw [ht p]
    rw [← block_delta m c t 0, ← block_delta m c t 1, ← block_delta m c t 2, ← block_delta m c t 3,
      ← block_anchor m c t 0, ← block_anchor m c t 1, ← block_anchor m c t 2, ← block_anchor m c t 3]
    rfl
  have hscore : (fun p => sc (iblk m c 0 t) (top (iblk m c 0 t) p)) = fun p => imgS m c ⟨t.val, t.isLt⟩ (sel (imgS m c ⟨t.val, t.isLt⟩) p) :=
    funext fun p => by rw [ht p, hs]
  rw [hbox] at hg
  rw [hscore] at h1
  rw [hbox] at h2
  exact ⟨K, hg, fun r => (congrArg (Row K _ r.val) (e4 r)).mpr (h1 r), fun r f => (congrArg (Row K _ r.val) (e3 r f)).mpr (h2 r f)⟩

end Cert.KernelIdeal.Value
-- ==== Proof.RTake.lean ====
module

public import proofs.«01_k».proof.Proof.VOrder
public import proofs.«01_k».proof.Proof.VBits
public import Idealize.ShloMosaic.Lib.Pointwise
public import Idealize.ShloMosaic.Lib.ValueIdx

@[expose] public section

set_option maxRecDepth 16384

noncomputable section

/-! # Sorting and taking along an axis, read at an index -/

namespace Rpn

open Idealize.ShloMosaic Idealize.ShloMosaic.Tactic
open scoped BigOperators

/-- Replacing the last coordinate of a pair. -/
theorem along2 {A N : ℕ} (b : Fin A) (p q : Fin N) :
    Shape.Idx.along (s := ⟨2, ![A, N]⟩) (ix2 b p) (1 : Fin 2) q = ix2 b q := by
  funext a
  match a with
  | ⟨0, _⟩ => rfl
  | ⟨1, _⟩ => rfl

/-- The leading part of each row. -/
theorem cut2 {α : Type} {A N k : ℕ} (hk : k ≤ N) (x : (⟨2, ![A, N]⟩ : Shape).Idx → α)
    (h : (⟨2, ![A, N]⟩ : Shape).Slices (fun _ => 0) ⟨2, ![A, k]⟩) (b : Fin A) (p : Fin k) :
    extractStridedSlice ⟨2, ![A, k]⟩ (fun _ => 0) x h (ix2 b p) = x (ix2 b (p.castLE hk)) := by
  unfold extractStridedSlice
  refine congrArg x ?_
  funext a
  match a with
  | ⟨0, _⟩ => exact Fin.ext (Nat.zero_add _)
  | ⟨1, _⟩ => exact Fin.ext (Nat.zero_add _)

/-- The total comparison of extended reals. -/
theorem gt_total (a b : EReal) : ((FloatOps.cmpfTotal (F := Ideal) (φ := .f32) .gt a b) == 1#1) = decide (b < a) := by
  show (BitVec.ofBool (decide (b < a)) == 1#1) = _
  by_cases h : b < a <;> simp [h]

/-- The greatest `k`, read at a position: the value of the element that the stable sort puts there. -/
theorem topK_fst {A N k : ℕ} (hk : k ≤ N) (x : (⟨2, ![A, N]⟩ : Shape).Idx → EReal)
    (h : (⟨2, ![A, N]⟩ : Shape).Slices (fun _ => 0) ⟨2, ![A, k]⟩) (b : Fin A) (p : Fin k) :
    (Host.topK ⟨2, ![A, k]⟩ 1 (FloatOps.cmpfTotal (F := Ideal) (φ := .f32) .gt) x h).1 (ix2 b p)
      = x (ix2 b (ordr (fun i => x (ix2 b i)) (p.castLE hk))) := by
  unfold Host.topK
  dsimp only
  refine (cut2 hk _ h b p).trans ?_
  unfold Host.sort2
  rw [dif_pos (by decide : 1 < 2)]
  refine (congrArg x (along2 b _ _)).trans ?_
  unfold ordr
  refine congrArg (fun B => x (ix2 b (sortedFrom B (p.castLE hk)))) ?_
  funext k k'
  refine (gt_total _ _).trans ?_
  exact congrArg₂ (fun u v => decide (x u < x v)) (along2 b _ _) (along2 b _ _)

/-- The greatest `k`, read at a position: the index of the element that the stable sort puts there. -/
theorem topK_snd {A N k : ℕ} (hk : k ≤ N) (x : (⟨2, ![A, N]⟩ : Shape).Idx → EReal)
    (h : (⟨2, ![A, N]⟩ : Shape).Slices (fun _ => 0) ⟨2, ![A, k]⟩) (b : Fin A) (p : Fin k) :
    (Host.topK ⟨2, ![A, k]⟩ 1 (FloatOps.cmpfTotal (F := Ideal) (φ := .f32) .gt) x h).2 (ix2 b p)
      = BitVec.ofNat 32 (ordr (fun i => x (ix2 b i)) (p.castLE hk)).val := by
  unfold Host.topK
  dsimp only
  refine (cut2 hk _ h b p).trans ?_
  unfold Host.sort2
  rw [dif_pos (by decide : 1 < 2)]
  refine (congrArg (fun j : (⟨2, ![A, N]⟩ : Shape).Idx => BitVec.ofNat 32 (j (1 : Fin 2)).val) (along2 b _ _)).trans ?_
  unfold ordr
  refine congrArg (fun B => BitVec.ofNat 32 (sortedFrom B (p.castLE hk)).val) ?_
  funext k k'
  refine (gt_total _ _).trans ?_
  exact congrArg₂ (fun u v => decide (x u < x v)) (along2 b _ _) (along2 b _ _)

/-- Rows taken along the middle axis, read at an index. -/
theorem gather_rows {α : Type} {A N n C : ℕ} (d : GatherDims ⟨3, ![A, N, C]⟩ ⟨3, ![A, n, 1]⟩ ⟨3, ![A, n, C]⟩)
    (w : GatherDims.WF ⟨3, ![A, N, C]⟩ ⟨3, ![A, n, 1]⟩ ⟨3, ![A, n, C]⟩ [2] [1] [0] [1] [0] 2 ![1, 1, C])
    (hd : d = ⟨[2], [1], [0], [0], [1], 2, ![1, 1, C], w⟩)
    (x : (⟨3, ![A, N, C]⟩ : Shape).Idx → α) (idx : IVec ⟨3, ![A, n, 1]⟩ 32) (b : Fin A) (p : Fin n) (f : Fin C) (i : Fin N)
    (hi : min (idx (ix3 b p 0)).toInt.toNat (N - 1) = i.val) :
    Host.gather d x idx (ix3 b p f) = x (ix3 b i f) := by
  subst hd
  unfold Host.gather
  refine congrArg x ?_
  funext a
  apply Fin.ext
  match a with
  | ⟨0, _⟩ => exact (Nat.zero_add b.val)
  | ⟨1, _⟩ =>
    refine Eq.trans ?_ hi
    refine congrArg (fun j => min (idx j).toInt.toNat (N - 1)) ?_
    funext c
    match c with
    | ⟨0, _⟩ => rfl
    | ⟨1, _⟩ => rfl
    | ⟨2, _⟩ => rfl
  | ⟨2, _⟩ => exact (Nat.zero_add f.val)

/-- Entries taken along the second axis, read at an index. -/
theorem gather_entries {α : Type} {A N n : ℕ} (d : GatherDims ⟨2, ![A, N]⟩ ⟨3, ![A, n, 1]⟩ ⟨2, ![A, n]⟩)
    (w : GatherDims.WF ⟨2, ![A, N]⟩ ⟨3, ![A, n, 1]⟩ ⟨2, ![A, n]⟩ [] [1] [0] [1] [0] 2 ![1, 1])
    (hd : d = ⟨[], [1], [0], [0], [1], 2, ![1, 1], w⟩)
    (x : (⟨2, ![A, N]⟩ : Shape).Idx → α) (idx : IVec ⟨3, ![A, n, 1]⟩ 32) (b : Fin A) (p : Fin n) (i : Fin N)
    (hi : min (idx (ix3 b p 0)).toInt.toNat (N - 1) = i.val) :
    Host.gather d x idx (ix2 b p) = x (ix2 b i) := by
  subst hd
  unfold Host.gather
  refine congrArg x ?_
  funext a
  apply Fin.ext
  match a with
  | ⟨0, _⟩ => exact (Nat.zero_add b.val)
  | ⟨1, _⟩ =>
    refine Eq.trans ?_ hi
    refine congrArg (fun j => min (idx j).toInt.toNat (N - 1)) ?_
    funext c
    match c with
    | ⟨0, _⟩ => rfl
    | ⟨1, _⟩ => rfl
    | ⟨2, _⟩ => rfl

/-- The conjunction of words that are all `1`. -/
theorem reduce_ones {s t u : Shape} {axes : List (Fin s.rank)} (x : s.Idx → BitVec 1) (v : u.Idx → BitVec 1)
    (h : s.ReducesTo axes t) (hu : 0 < u.numel) (hx : ∀ i, x i = 1#1) (hv : ∀ i, v i = 1#1) (j : t.Idx) :
    Host.reduce IntOp.andi x v h hu j = 1#1 := by
  unfold Host.reduce
  rw [hv]
  generalize (List.finRange s.numel).filter _ = l
  induction l with
  | nil => rfl
  | cons a l ih => rw [List.foldl_cons, hx]; exact ih

/-- A small word read as a signed number. -/
theorem toInt_small (i : ℕ) (h : i < 2 ^ 31) : (BitVec.ofNat 32 i).toInt = (i : ℤ) := by
  have e : (BitVec.ofNat 32 i).toNat = i := by rw [BitVec.toNat_ofNat]; omega
  rw [BitVec.toInt_eq_toNat_of_lt (by rw [e]; omega), e]

/-- A word that is an index below `N` is taken as it is. -/
theorem word_index {N : ℕ} (i : Fin N) (h : N ≤ 2 ^ 31) : min (BitVec.ofNat 32 i.val).toInt.toNat (N - 1) = i.val := by
  rw [toInt_small _ (by omega)]; omega

/-- An index word is not negative. -/
theorem word_not_neg {N : ℕ} (i : Fin N) (h : N ≤ 2 ^ 31) : IntOp.cmpi .slt (BitVec.ofNat 32 i.val) 0#32 = 0#1 := by
  have e := toInt_small i.val (by omega)
  show BitVec.ofBool (BitVec.slt _ _) = _
  rw [BitVec.slt, e]
  have : ¬ ((i.val : ℤ) < (0#32 : BitVec 32).toInt) := by simp
  rw [decide_eq_false this]; rfl

/-- An index word is at least zero. -/
theorem word_nonneg {N : ℕ} (i : Fin N) (h : N ≤ 2 ^ 31) : IntOp.cmpi .sge (BitVec.ofNat 32 i.val) 0#32 = 1#1 := by
  have e := toInt_small i.val (by omega)
  show BitVec.ofBool (BitVec.sle _ _) = _
  rw [BitVec.sle, e]
  simp

/-- An index word is at most the last index. -/
theorem word_below {N : ℕ} (i : Fin N) (h : N ≤ 2 ^ 31) : IntOp.cmpi .sle (BitVec.ofNat 32 i.val) (BitVec.ofNat 32 (N - 1)) = 1#1 := by
  have e := toInt_small i.val (by omega)
  have e' := toInt_small (N - 1) (by omega)
  show BitVec.ofBool (BitVec.sle _ _) = _
  rw [BitVec.sle, e, e']
  have : (i.val : ℤ) ≤ ((N - 1 : ℕ) : ℤ) := by omega
  simp [this]

end Rpn
-- ==== Proof.RVTake.lean ====
module

public import proofs.«01_k».proof.Proof.RTake
public import proofs.«01_k».proof.Proof.Gen.ReferenceIdeal.Run

@[expose] public section

set_option maxRecDepth 16384

noncomputable section

/-! # Taking along an axis and sorting, as the reference spells them -/

namespace Cert.ReferenceIdeal.Value

open Cert.ReferenceIdeal Cert.ReferenceIdeal.Gen
open Idealize.ShloMosaic Idealize.ShloMosaic.Tactic Rpn

/-- Index words that are not negative are left alone by the wrap of negative ones. -/
theorem wrap {s : Shape} {N : ℕ} (hN : N ≤ 2 ^ 31) (I Z W : IVec s 32) (hZ : ∀ j, Z j = 0#32) (hI : ∀ j, ∃ i : Fin N, I j = BitVec.ofNat 32 i.val) :
    select (cmpi .slt I Z) (addi I W) I = I := by
  funext j
  obtain ⟨i, hi⟩ := hI j
  show Scalar.select (IntOp.cmpi .slt (I j) (Z j)) _ _ = _
  rw [hZ, hi, word_not_neg i hN]
  exact if_neg (by decide)

/-- The test that index words are in range holds. -/
theorem in_range {s : Shape} {N : ℕ} (hN : N ≤ 2 ^ 31) (I Z L : IVec s 32) (hZ : ∀ j, Z j = 0#32) (hL : ∀ j, L j = BitVec.ofNat 32 (N - 1))
    (hI : ∀ j, ∃ i : Fin N, I j = BitVec.ofNat 32 i.val) (j : s.Idx) :
    andi (cmpi .sge I Z) (cmpi .sle I L) j = 1#1 := by
  obtain ⟨i, hi⟩ := hI j
  show IntOp.andi (IntOp.cmpi .sge (I j) (Z j)) (IntOp.cmpi .sle (I j) (L j)) = _
  rw [hZ, hL, hi, word_nonneg i hN, word_below i hN]
  rfl

/-- An index of an array whose last extent is one. -/
theorem eta3 {A B : ℕ} (j : (⟨3, ![A, B, 1]⟩ : Shape).Idx) : j = ix3 (j 0) (j 1) 0 := by
  funext a
  match a with
  | ⟨0, _⟩ => rfl
  | ⟨1, _⟩ => rfl
  | ⟨2, _⟩ => exact Fin.ext (Nat.lt_one_iff.mp (j 2).isLt)

/-- An index of a matrix by its coordinates. -/
theorem eta2 {A B : ℕ} (j : (⟨2, ![A, B]⟩ : Shape).Idx) : j = ix2 (j 0) (j 1) := by
  funext a
  match a with
  | ⟨0, _⟩ => rfl
  | ⟨1, _⟩ => rfl

/-- Rows taken at in-range indices. -/
theorem take_rows {N k C : ℕ} (hN : N ≤ 2 ^ 31) (d : GatherDims ⟨3, ![2, N, C]⟩ ⟨3, ![2, k, 1]⟩ ⟨3, ![2, k, C]⟩)
    (w : GatherDims.WF ⟨3, ![2, N, C]⟩ ⟨3, ![2, k, 1]⟩ ⟨3, ![2, k, C]⟩ [2] [1] [0] [1] [0] 2 ![1, 1, C])
    (hd : d = ⟨[2], [1], [0], [0], [1], 2, ![1, 1, C], w⟩)
    (T : (⟨3, ![2, N, C]⟩ : Shape).Idx → EReal) (I Z W L : IVec ⟨3, ![2, k, 1]⟩ 32) (Nan : (⟨3, ![2, k, C]⟩ : Shape).Idx → EReal)
    (ι : Fin 2 → Fin k → Fin N) (hI : ∀ b p, I (ix3 b p 0) = BitVec.ofNat 32 (ι b p).val)
    (hZ : ∀ j, Z j = 0#32) (hL : ∀ j, L j = BitVec.ofNat 32 (N - 1)) {u : Shape} (v : IVec u 1) (hv : ∀ j, v j = 1#1)
    {t : Shape} {axes : List (Fin 3)} (h : (⟨3, ![2, k, 1]⟩ : Shape).ReducesTo axes t) (hu : 0 < u.numel) (dims : Fin t.rank → Fin 3)
    (hb : t.BroadcastsInDim ⟨3, ![2, k, C]⟩ dims) (b : Fin 2) (p : Fin k) (f : Fin C) :
    select (broadcastInDim ⟨3, ![2, k, C]⟩ dims hb (Host.reduce IntOp.andi
        (andi (cmpi .sge (select (cmpi .slt I Z) (addi I W) I) Z) (cmpi .sle (select (cmpi .slt I Z) (addi I W) I) L)) v h hu))
      (Host.gather d T (select (cmpi .slt I Z) (addi I W) I)) Nan (ix3 b p f) = T (ix3 b (ι b p) f) := by
  have hI' : ∀ j, ∃ i : Fin N, I j = BitVec.ofNat 32 i.val := fun j => ⟨ι (j 0) (j 1), by rw [eta3 j]; exact hI _ _⟩
  rw [wrap hN I Z W hZ hI']
  have hm : broadcastInDim ⟨3, ![2, k, C]⟩ dims hb (Host.reduce IntOp.andi (andi (cmpi .sge I Z) (cmpi .sle I L)) v h hu) (ix3 b p f) = 1#1 :=
    reduce_ones _ v h hu (in_range hN I Z L hZ hL hI') hv _
  show Scalar.select _ _ _ = _
  rw [hm]
  refine (if_pos rfl).trans ?_
  exact gather_rows d w hd T I b p f (ι b p) (by rw [hI]; exact word_index _ hN)

/-- Entries taken at in-range indices. -/
theorem take_entries {N k : ℕ} (hN : N ≤ 2 ^ 31) (d : GatherDims ⟨2, ![2, N]⟩ ⟨3, ![2, k, 1]⟩ ⟨2, ![2, k]⟩)
    (w : GatherDims.WF ⟨2, ![2, N]⟩ ⟨3, ![2, k, 1]⟩ ⟨2, ![2, k]⟩ [] [1] [0] [1] [0] 2 ![1, 1])
    (hd : d = ⟨[], [1], [0], [0], [1], 2, ![1, 1], w⟩)
    (T : (⟨2, ![2, N]⟩ : Shape).Idx → EReal) (J Z L : IVec ⟨3, ![2, k, 1]⟩ 32) (Nan : (⟨2, ![2, k]⟩ : Shape).Idx → EReal)
    (ι : Fin 2 → Fin k → Fin N) (hJ : ∀ b p, J (ix3 b p 0) = BitVec.ofNat 32 (ι b p).val)
    (hZ : ∀ j, Z j = 0#32) (hL : ∀ j, L j = BitVec.ofNat 32 (N - 1)) {u : Shape} (v : IVec u 1) (hv : ∀ j, v j = 1#1)
    {axes : List (Fin 3)} (h : (⟨3, ![2, k, 1]⟩ : Shape).ReducesTo axes ⟨2, ![2, k]⟩) (hu : 0 < u.numel)
    (b : Fin 2) (p : Fin k) :
    select (Host.reduce IntOp.andi (andi (cmpi .sge J Z) (cmpi .sle J L)) v h hu) (Host.gather d T J) Nan (ix2 b p) = T (ix2 b (ι b p)) := by
  have hI' : ∀ j, ∃ i : Fin N, J j = BitVec.ofNat 32 i.val := fun j => ⟨ι (j 0) (j 1), by rw [eta3 j]; exact hJ _ _⟩
  have hm : Host.reduce IntOp.andi (andi (cmpi .sge J Z) (cmpi .sle J L)) v h hu (ix2 b p) = 1#1 :=
    reduce_ones _ v h hu (in_range hN J Z L hZ hL hI') hv _
  show Scalar.select _ _ _ = _
  rw [hm]
  refine (if_pos rfl).trans ?_
  exact gather_entries d w hd T J b p (ι b p) (by rw [hJ]; exact word_index _ hN)

/-- The sort compares the keys alone. -/
theorem comparator_eq (x y : EReal) (a a' : BitVec 32) :
    (comparator_f32_i32_d1 (F := Ideal) (-x, a) (-y, a') == 1#1) = decide (y < x) := by
  have h : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32)) (FloatOps.ofBits (F := Ideal) .f32 0x00000000#32) z) = z := by
    intro z
    have h0 : FloatOps.cmpf (F := Ideal) (φ := .f32) .une z z = 0#1 := by
      show BitVec.ofBool (decide (z ≠ z)) = 0#1
      simp
    rw [h0]
    refine (if_neg (by decide)).trans ?_
    have hz : (FloatOps.ofBits (F := Ideal) .f32 0x00000000#32 : EReal) = 0 := Ideal.ofBits_zero_f32
    rw [hz]
    show (if BitVec.ofBool (decide (z = 0)) = 1 then (0 : EReal) else z) = z
    by_cases hz0 : z = 0 <;> simp [hz0]
  show (FloatOps.cmpfTotal (F := Ideal) (φ := .f32) .lt _ _ == 1#1) = _
  refine (congrArg₂ (fun u v : EReal => (FloatOps.cmpfTotal (F := Ideal) (φ := .f32) .lt u v == 1#1)) (h (-x)) (h (-y))).trans ?_
  show (BitVec.ofBool (decide (-x < -y)) == 1#1) = _
  have e : (-x < -y) ↔ y < x := EReal.neg_lt_neg_iff
  by_cases hh : y < x
  · rw [decide_eq_true hh, decide_eq_true (e.mpr hh)]; rfl
  · rw [decide_eq_false hh, decide_eq_false (fun q => hh (e.mp q))]; rfl

/-- The stable sort of the negated scores, read at a position: the index of the score that falls there. -/
theorem argsort (X : S2x2000.Idx → EReal) (b : Fin 2) (p : Fin 2000) :
    (Host.sort2 S2x2000 1 (comparator_f32_i32_d1 (F := Ideal)) (Host.negf (F := Ideal) (φ := .f32) X) (iotaInDim S2x2000 32 1)).2 (ix2 b p)
      = BitVec.ofNat 32 (ordr (fun i => X (ix2 b i)) p).val := by
  unfold Host.sort2
  rw [dif_pos (by decide : 1 < 2)]
  refine (congrArg (fun j : (⟨2, ![2, 2000]⟩ : Shape).Idx => BitVec.ofNat 32 (j (1 : Fin 2)).val) (along2 b _ _)).trans ?_
  unfold ordr
  refine congrArg (fun B => BitVec.ofNat 32 (sortedFrom B p).val) ?_
  funext k k'
  refine (comparator_eq _ _ _ _).trans ?_
  exact congrArg₂ (fun u v => decide (X u < X v)) (along2 b _ _) (along2 b _ _)

end Cert.ReferenceIdeal.Value
-- ==== Proof.RVSeg.lean ====
module

public import proofs.«01_k».proof.Proof.RVTake
public import proofs.«01_k».proof.Proof.VTop
public import Idealize.ShloMosaic.Lib.Pointwise
public import Idealize.ShloMosaic.Lib.StableHlo.RunRead

@[expose] public section

set_option maxRecDepth 16384

noncomputable section

/-! # The reference's stretches of operations, read at an element

Each theorem says what one stretch leaves in a buffer, in terms of the buffers it finds. -/

namespace Cert.ReferenceIdeal.Value

open Cert.ReferenceIdeal Cert.ReferenceIdeal.Gen
open Idealize.ShloMosaic Idealize.ShloMosaic.Tactic Idealize.ShloMosaic.StableHlo Rpn

variable (V : Valuation τ sig (Elt Ideal))

/-- The rows taken after the first selection. -/
theorem seg1 (ι : Fin 2 → Fin 2000 → Fin 20000) (hI : ∀ b p, (V (Proc.devRef .tc main_v69) : IVec S2x2000x1 32) (ix3 b p 0) = BitVec.ofNat 32 (ι b p).val) (b : Fin 2) (p : Fin 2000) (f : Fin 4) :
    (after hostOps0_1 V (Proc.devRef .tc main_v70) : S2x2000x4.Idx → EReal) (ix3 b p f) = (V (Proc.devRef .tc main_v68) : S2x20000x4.Idx → EReal) (ix3 b (ι b p) f) := by
  after_reads_simp
  simp only [TRef.toBuf, TRef.ofBuf, cast_eq, id]
  exact take_rows (N := 20000) (k := 2000) (C := 4) (by norm_num) _ _ rfl _ _ _ _ _ _ ι hI (fun _ => rfl) (fun _ => rfl) _ (fun _ => rfl) _ _ _ _ b p f

/-- The boxes taken in the order of the masked scores. -/
theorem seg15 (ι : Fin 2 → Fin 2000 → Fin 2000) (hI : ∀ b p, (V (Proc.devRef .tc main_v106) : IVec S2x2000x1 32) (ix3 b p 0) = BitVec.ofNat 32 (ι b p).val) (b : Fin 2) (p : Fin 2000) (f : Fin 4) :
    (after hostOps0_15 V (Proc.devRef .tc main_v107) : S2x2000x4.Idx → EReal) (ix3 b p f) = (V (Proc.devRef .tc main_v87) : S2x2000x4.Idx → EReal) (ix3 b (ι b p) f) := by
  after_reads_simp
  simp only [TRef.toBuf, TRef.ofBuf, cast_eq, id]
  exact take_rows (N := 2000) (k := 2000) (C := 4) (by norm_num) _ _ rfl _ _ _ _ _ _ ι hI (fun _ => rfl) (fun _ => rfl) _ (fun _ => rfl) _ _ _ _ b p f

/-- The boxes taken at the last selection. -/
theorem seg21 (ι : Fin 2 → Fin 1000 → Fin 2000) (hI : ∀ b p, (V (Proc.devRef .tc main_v163) : IVec S2x1000x1 32) (ix3 b p 0) = BitVec.ofNat 32 (ι b p).val) (b : Fin 2) (p : Fin 1000) (f : Fin 4) :
    (after hostOps0_21 V (Proc.devRef .tc main_v164) : S2x1000x4.Idx → EReal) (ix3 b p f) = (V (Proc.devRef .tc main_v107) : S2x2000x4.Idx → EReal) (ix3 b (ι b p) f) := by
  after_reads_simp
  simp only [TRef.toBuf, TRef.ofBuf, cast_eq, id]
  exact take_rows (N := 2000) (k := 1000) (C := 4) (by norm_num) _ _ rfl _ _ _ _ _ _ ι hI (fun _ => rfl) (fun _ => rfl) _ (fun _ => rfl) _ _ _ _ b p f

/-- The masked scores taken in their order. -/
theorem seg16 (ι : Fin 2 → Fin 2000 → Fin 2000) (hI : ∀ b p, (V (Proc.devRef .tc main_v105) : IVec S2x2000 32) (ix2 b p) = BitVec.ofNat 32 (ι b p).val) (b : Fin 2) (p : Fin 2000) :
    (after hostOps0_16 V (Proc.devRef .tc main_v108) : S2x2000.Idx → EReal) (ix2 b p) = (V (Proc.devRef .tc main_v103) : S2x2000.Idx → EReal) (ix2 b (ι b p)) := by
  after_reads_simp
  simp only [TRef.toBuf, TRef.ofBuf, cast_eq, id]
  rw [wrap (N := 2000) (by norm_num) (V (Proc.devRef .tc main_v105) : IVec S2x2000 32) (broadcastInDim S2x2000 ![] bcast_S_S2x2000 (constantI S_ 32 0#32)) (broadcastInDim S2x2000 ![] bcast_S_S2x2000 (constantI S_ 32 2000#32)) (fun _ => rfl) (fun j => ⟨ι (j 0) (j 1), by rw [eta2 j]; exact hI _ _⟩)]
  refine take_entries (N := 2000) (k := 2000) (by norm_num) _ _ rfl _ _ _ _ _ ι (fun b p => ?_) (fun _ => rfl) (fun _ => rfl) _ (fun _ => rfl) _ _ b p
  rw [← hI b p]
  generalize V (Proc.devRef .tc main_v105) = X
  pointwise

/-- The clips. -/
def clips : Valuation τ sig (Elt Ideal) := after hostOps0_9 (after hostOps0_8 (after hostOps0_7 (after hostOps0_6 (after hostOps0_5 (after hostOps0_4 (after hostOps0_3 (after hostOps0_2 V)))))))

/-- Clipped column 0. -/
theorem clip0 (b : Fin 2) (p : Fin 2000) :
    (clips V (Proc.devRef .tc main_v73) : S2x2000.Idx → EReal) (ix2 b p) = min side (max 0 ((V (Proc.devRef .tc main_v70) : S2x2000x4.Idx → EReal) (ix3 b p 0))) := by
  unfold clips
  after_reads_simp
  simp only [TRef.toBuf, TRef.ofBuf, cast_eq, id]
  generalize V (Proc.devRef .tc main_v70) = X
  pointwise
  rfl

/-- Clipped column 1. -/
theorem clip1 (b : Fin 2) (p : Fin 2000) :
    (clips V (Proc.devRef .tc main_v76) : S2x2000.Idx → EReal) (ix2 b p) = min side (max 0 ((V (Proc.devRef .tc main_v70) : S2x2000x4.Idx → EReal) (ix3 b p 1))) := by
  unfold clips
  after_reads_simp
  simp only [TRef.toBuf, TRef.ofBuf, cast_eq, id]
  generalize V (Proc.devRef .tc main_v70) = X
  pointwise
  rfl

/-- Clipped column 2. -/
theorem clip2 (b : Fin 2) (p : Fin 2000) :
    (clips V (Proc.devRef .tc main_v79) : S2x2000.Idx → EReal) (ix2 b p) = min side (max 0 ((V (Proc.devRef .tc main_v70) : S2x2000x4.Idx → EReal) (ix3 b p 2))) := by
  unfold clips
  after_reads_simp
  simp only [TRef.toBuf, TRef.ofBuf, cast_eq, id]
  generalize V (Proc.devRef .tc main_v70) = X
  pointwise
  rfl

/-- Clipped column 3. -/
theorem clip3 (b : Fin 2) (p : Fin 2000) :
    (clips V (Proc.devRef .tc main_v82) : S2x2000.Idx → EReal) (ix2 b p) = min side (max 0 ((V (Proc.devRef .tc main_v70) : S2x2000x4.Idx → EReal) (ix3 b p 3))) := by
  unfold clips
  after_reads_simp
  simp only [TRef.toBuf, TRef.ofBuf, cast_eq, id]
  generalize V (Proc.devRef .tc main_v70) = X
  pointwise
  rfl

/-- Clipping leaves the scores as they are. -/
theorem clips_values : clips V (Proc.devRef .tc main_values) = V (Proc.devRef .tc main_values) := by
  unfold clips
  after_reads_simp

/-- The four clipped columns side by side. -/
theorem boxes_concat : after hostOps0_10 V (Proc.devRef .tc main_v87) = concatenate S2x2000x4 2
    [⟨S2x2000x1, broadcastInDim S2x2000x1 ![0, 1] bcast_S2x2000_S2x2000x1_0_1 (V (Proc.devRef .tc main_v73) : S2x2000.Idx → EReal)⟩,
     ⟨S2x2000x1, broadcastInDim S2x2000x1 ![0, 1] bcast_S2x2000_S2x2000x1_0_1 (V (Proc.devRef .tc main_v76) : S2x2000.Idx → EReal)⟩,
     ⟨S2x2000x1, broadcastInDim S2x2000x1 ![0, 1] bcast_S2x2000_S2x2000x1_0_1 (V (Proc.devRef .tc main_v79) : S2x2000.Idx → EReal)⟩,
     ⟨S2x2000x1, broadcastInDim S2x2000x1 ![0, 1] bcast_S2x2000_S2x2000x1_0_1 (V (Proc.devRef .tc main_v82) : S2x2000.Idx → EReal)⟩] concatenates_S2x2000x1_S2x2000x1_S2x2000x1_S2x2000x1_S2x2000x4_d2 := by
  after_reads_simp
  rfl

/-- The boxes, an entry at a time. -/
theorem boxes_entry (b : Fin 2) (p : Fin 2000) (f : Fin 4) : (after hostOps0_10 V (Proc.devRef .tc main_v87) : S2x2000x4.Idx → EReal) (ix3 b p f)
    = ![(V (Proc.devRef .tc main_v73) : S2x2000.Idx → EReal) (ix2 b p), (V (Proc.devRef .tc main_v76) : S2x2000.Idx → EReal) (ix2 b p), (V (Proc.devRef .tc main_v79) : S2x2000.Idx → EReal) (ix2 b p), (V (Proc.devRef .tc main_v82) : S2x2000.Idx → EReal) (ix2 b p)] f := by
  rw [boxes_concat]
  generalize V (Proc.devRef .tc main_v73) = X0
  generalize V (Proc.devRef .tc main_v76) = X1
  generalize V (Proc.devRef .tc main_v79) = X2
  generalize V (Proc.devRef .tc main_v82) = X3
  match f with
  | ⟨0, _⟩ => pointwise
  | ⟨1, _⟩ => pointwise
  | ⟨2, _⟩ => pointwise
  | ⟨3, _⟩ => pointwise

/-- The word that says that a box is big enough. -/
theorem big_word (X : S2x2000x4.Idx → EReal) (b : Fin 2) (p : Fin 2000) :
    (andi (cmpf .oge (subf (shapeCast S2x2000 (extractStridedSlice S2x2000x1 ![0, 0, 2] X slices_S2x2000x4_S2x2000x1_0_0_2) shapeCasts_S2x2000x1_S2x2000 : FVec Ideal S2x2000 .f32)
          (shapeCast S2x2000 (extractStridedSlice S2x2000x1 ![0, 0, 0] X slices_S2x2000x4_S2x2000x1_0_0_0) shapeCasts_S2x2000x1_S2x2000))
          (broadcastInDim S2x2000 ![] bcast_S_S2x2000 (constant S_ .f32 0x3A83126F#32)))
        (cmpf .oge (subf (shapeCast S2x2000 (extractStridedSlice S2x2000x1 ![0, 0, 3] X slices_S2x2000x4_S2x2000x1_0_0_3) shapeCasts_S2x2000x1_S2x2000 : FVec Ideal S2x2000 .f32)
          (shapeCast S2x2000 (extractStridedSlice S2x2000x1 ![0, 0, 1] X slices_S2x2000x4_S2x2000x1_0_0_1) shapeCasts_S2x2000x1_S2x2000))
          (broadcastInDim S2x2000 ![] bcast_S_S2x2000 (constant S_ .f32 0x3A83126F#32))) : IVec S2x2000 1) (ix2 b p) = 1#1
      ↔ Big (fun f => X (ix3 b p f)) := by
  have e : (andi (cmpf .oge (subf (shapeCast S2x2000 (extractStridedSlice S2x2000x1 ![0, 0, 2] X slices_S2x2000x4_S2x2000x1_0_0_2) shapeCasts_S2x2000x1_S2x2000 : FVec Ideal S2x2000 .f32)
          (shapeCast S2x2000 (extractStridedSlice S2x2000x1 ![0, 0, 0] X slices_S2x2000x4_S2x2000x1_0_0_0) shapeCasts_S2x2000x1_S2x2000))
          (broadcastInDim S2x2000 ![] bcast_S_S2x2000 (constant S_ .f32 0x3A83126F#32)))
        (cmpf .oge (subf (shapeCast S2x2000 (extractStridedSlice S2x2000x1 ![0, 0, 3] X slices_S2x2000x4_S2x2000x1_0_0_3) shapeCasts_S2x2000x1_S2x2000 : FVec Ideal S2x2000 .f32)
          (shapeCast S2x2000 (extractStridedSlice S2x2000x1 ![0, 0, 1] X slices_S2x2000x4_S2x2000x1_0_0_1) shapeCasts_S2x2000x1_S2x2000))
          (broadcastInDim S2x2000 ![] bcast_S_S2x2000 (constant S_ .f32 0x3A83126F#32))) : IVec S2x2000 1) (ix2 b p)
      = IntOp.andi (BitVec.ofBool (decide (minSize ≤ X (ix3 b p 2) - X (ix3 b p 0)))) (BitVec.ofBool (decide (minSize ≤ X (ix3 b p 3) - X (ix3 b p 1)))) := by
    pointwise
    rfl
  rw [e, andi_ofBool]
  show _ ↔ (_ ∧ _)
  by_cases hh : minSize ≤ X (ix3 b p 2) - X (ix3 b p 0) ∧ minSize ≤ X (ix3 b p 3) - X (ix3 b p 1)
  · rw [decide_eq_true hh]; exact ⟨fun _ => hh, fun _ => rfl⟩
  · rw [decide_eq_false hh]; exact ⟨fun q => absurd q (by decide), fun q => absurd q hh⟩

/-- The test that a box is large enough. -/
theorem big_entry (b : Fin 2) (p : Fin 2000) :
    (after hostOps0_10 V (Proc.devRef .tc main_v102) : IVec S2x2000 1) (ix2 b p) = 1#1 ↔ Big (fun f => (after hostOps0_10 V (Proc.devRef .tc main_v87) : S2x2000x4.Idx → EReal) (ix3 b p f)) := by
  have h : (after hostOps0_10 V (Proc.devRef .tc main_v102) : IVec S2x2000 1) =
      andi (cmpf .oge (subf (shapeCast S2x2000 (extractStridedSlice S2x2000x1 ![0, 0, 2] (after hostOps0_10 V (Proc.devRef .tc main_v87) : S2x2000x4.Idx → EReal) slices_S2x2000x4_S2x2000x1_0_0_2) shapeCasts_S2x2000x1_S2x2000 : FVec Ideal S2x2000 .f32)
          (shapeCast S2x2000 (extractStridedSlice S2x2000x1 ![0, 0, 0] (after hostOps0_10 V (Proc.devRef .tc main_v87) : S2x2000x4.Idx → EReal) slices_S2x2000x4_S2x2000x1_0_0_0) shapeCasts_S2x2000x1_S2x2000))
          (broadcastInDim S2x2000 ![] bcast_S_S2x2000 (constant S_ .f32 0x3A83126F#32)))
        (cmpf .oge (subf (shapeCast S2x2000 (extractStridedSlice S2x2000x1 ![0, 0, 3] (after hostOps0_10 V (Proc.devRef .tc main_v87) : S2x2000x4.Idx → EReal) slices_S2x2000x4_S2x2000x1_0_0_3) shapeCasts_S2x2000x1_S2x2000 : FVec Ideal S2x2000 .f32)
          (shapeCast S2x2000 (extractStridedSlice S2x2000x1 ![0, 0, 1] (after hostOps0_10 V (Proc.devRef .tc main_v87) : S2x2000x4.Idx → EReal) slices_S2x2000x4_S2x2000x1_0_0_1) shapeCasts_S2x2000x1_S2x2000))
          (broadcastInDim S2x2000 ![] bcast_S_S2x2000 (constant S_ .f32 0x3A83126F#32))) := by
    after_reads_simp
    rfl
  rw [h]
  exact big_word _ b p

/-- The small box test leaves the scores as they are. -/
theorem seg10_values : after hostOps0_10 V (Proc.devRef .tc main_values) = V (Proc.devRef .tc main_values) := by
  after_reads_simp

end Cert.ReferenceIdeal.Value
-- ==== Proof.RVFirst.lean ====
module

public import proofs.«01_k».proof.Proof.RVTake
public import proofs.«01_k».proof.Proof.VTop
public import proofs.«01_k».proof.Proof.RVSeg
public import Idealize.ShloMosaic.Lib.Pointwise
public import Idealize.ShloMosaic.Lib.StableHlo.RunRead

@[expose] public section

set_option maxRecDepth 16384

noncomputable section

/-! # The reference's first stretch: decoding every anchor and choosing the 2000 best -/

namespace Cert.ReferenceIdeal.Value

open Cert.ReferenceIdeal Cert.ReferenceIdeal.Gen
open Idealize.ShloMosaic Idealize.ShloMosaic.Tactic Idealize.ShloMosaic.StableHlo Rpn

variable (V : Valuation τ sig (Elt Ideal))

/-- The 2000 best scores. -/
theorem first_values (b : Fin 2) (p : Fin 2000) : (after hostOps0 V (Proc.devRef .tc main_values) : S2x2000.Idx → EReal) (ix2 b p)
    = (V (Proc.devRef .tc main_arg0) : S2x20000.Idx → EReal) (ix2 b (sel (fun i => (V (Proc.devRef .tc main_arg0) : S2x20000.Idx → EReal) (ix2 b i)) p)) := by
  after_reads_simp
  exact topK_fst (by norm_num) _ _ b p

/-- Where they are. -/
theorem first_indices (b : Fin 2) (p : Fin 2000) : (after hostOps0 V (Proc.devRef .tc main_v69) : IVec S2x2000x1 32) (ix3 b p 0)
    = BitVec.ofNat 32 (sel (fun i => (V (Proc.devRef .tc main_arg0) : S2x20000.Idx → EReal) (ix2 b i)) p).val := by
  refine Eq.trans ?_ (topK_snd (A := 2) (N := 20000) (k := 2000) (by norm_num) (V (Proc.devRef .tc main_arg0) : S2x20000.Idx → EReal) sliceFits_S2x20000_S2x2000 b p)
  after_reads_simp
  generalize (Host.topK (⟨2, ![2, 2000]⟩ : Shape) 1 (FloatOps.cmpfTotal (F := Ideal) (φ := .f32) .gt) (V (Proc.devRef .tc main_arg0) : S2x20000.Idx → EReal) sliceFits_S2x20000_S2x2000).2 = X
  pointwise

/-- The anchors and the deltas, an entry at a time. -/
abbrev ancAt (i : Fin 20000) (d : Fin 4) : EReal := (V (Proc.devRef .tc main_arg2) : S20000x4.Idx → EReal) (ix2 i d)
/-- A delta of an anchor in an image. -/
abbrev delAt (b : Fin 2) (i : Fin 20000) (d : Fin 4) : EReal := (V (Proc.devRef .tc main_arg1) : S2x20000x4.Idx → EReal) (ix3 b i d)

/-- Corner 0 of every decoded anchor. -/
theorem corner0 (b : Fin 2) (i : Fin 20000) : (after hostOps0 V (Proc.devRef .tc main_v54) : S2x20000.Idx → EReal) (ix2 b i)
    = delAt V b i 0 * (ancAt V i 2 - ancAt V i 0) + (ancAt V i 0 + half * (ancAt V i 2 - ancAt V i 0))
      - half * (Ideal.exp (min (delAt V b i 2) clipw) * (ancAt V i 2 - ancAt V i 0)) := by
  unfold ancAt delAt
  after_reads_simp
  try simp only [TRef.toBuf, TRef.ofBuf, cast_eq, id]
  generalize V (Proc.devRef .tc main_arg1) = D
  generalize V (Proc.devRef .tc main_arg2) = A
  pointwise
  rfl

/-- Corner 1 of every decoded anchor. -/
theorem corner1 (b : Fin 2) (i : Fin 20000) : (after hostOps0 V (Proc.devRef .tc main_v57) : S2x20000.Idx → EReal) (ix2 b i)
    = delAt V b i 1 * (ancAt V i 3 - ancAt V i 1) + (ancAt V i 1 + half * (ancAt V i 3 - ancAt V i 1))
      - half * (Ideal.exp (min (delAt V b i 3) clipw) * (ancAt V i 3 - ancAt V i 1)) := by
  unfold ancAt delAt
  after_reads_simp
  try simp only [TRef.toBuf, TRef.ofBuf, cast_eq, id]
  generalize V (Proc.devRef .tc main_arg1) = D
  generalize V (Proc.devRef .tc main_arg2) = A
  pointwise
  rfl

/-- Corner 2 of every decoded anchor. -/
theorem corner2 (b : Fin 2) (i : Fin 20000) : (after hostOps0 V (Proc.devRef .tc main_v60) : S2x20000.Idx → EReal) (ix2 b i)
    = delAt V b i 0 * (ancAt V i 2 - ancAt V i 0) + (ancAt V i 0 + half * (ancAt V i 2 - ancAt V i 0))
      + half * (Ideal.exp (min (delAt V b i 2) clipw) * (ancAt V i 2 - ancAt V i 0)) := by
  unfold ancAt delAt
  after_reads_simp
  try simp only [TRef.toBuf, TRef.ofBuf, cast_eq, id]
  generalize V (Proc.devRef .tc main_arg1) = D
  generalize V (Proc.devRef .tc main_arg2) = A
  pointwise
  rfl

/-- Corner 3 of every decoded anchor. -/
theorem corner3 (b : Fin 2) (i : Fin 20000) : (after hostOps0 V (Proc.devRef .tc main_v63) : S2x20000.Idx → EReal) (ix2 b i)
    = delAt V b i 1 * (ancAt V i 3 - ancAt V i 1) + (ancAt V i 1 + half * (ancAt V i 3 - ancAt V i 1))
      + half * (Ideal.exp (min (delAt V b i 3) clipw) * (ancAt V i 3 - ancAt V i 1)) := by
  unfold ancAt delAt
  after_reads_simp
  try simp only [TRef.toBuf, TRef.ofBuf, cast_eq, id]
  generalize V (Proc.devRef .tc main_arg1) = D
  generalize V (Proc.devRef .tc main_arg2) = A
  pointwise
  rfl

/-- The four corners side by side. -/
theorem corners_concat : after hostOps0 V (Proc.devRef .tc main_v68) = concatenate S2x20000x4 2
    [⟨S2x20000x1, broadcastInDim S2x20000x1 ![0, 1] bcast_S2x20000_S2x20000x1_0_1 (after hostOps0 V (Proc.devRef .tc main_v54) : S2x20000.Idx → EReal)⟩,
     ⟨S2x20000x1, broadcastInDim S2x20000x1 ![0, 1] bcast_S2x20000_S2x20000x1_0_1 (after hostOps0 V (Proc.devRef .tc main_v57) : S2x20000.Idx → EReal)⟩,
     ⟨S2x20000x1, broadcastInDim S2x20000x1 ![0, 1] bcast_S2x20000_S2x20000x1_0_1 (after hostOps0 V (Proc.devRef .tc main_v60) : S2x20000.Idx → EReal)⟩,
     ⟨S2x20000x1, broadcastInDim S2x20000x1 ![0, 1] bcast_S2x20000_S2x20000x1_0_1 (after hostOps0 V (Proc.devRef .tc main_v63) : S2x20000.Idx → EReal)⟩] concatenates_S2x20000x1_S2x20000x1_S2x20000x1_S2x20000x1_S2x20000x4_d2 := by
  after_reads_simp
  rfl

/-- The decoded box from its four columns. -/
theorem corners_entry (b : Fin 2) (i : Fin 20000) (f : Fin 4) : (after hostOps0 V (Proc.devRef .tc main_v68) : S2x20000x4.Idx → EReal) (ix3 b i f)
    = ![(after hostOps0 V (Proc.devRef .tc main_v54) : S2x20000.Idx → EReal) (ix2 b i), (after hostOps0 V (Proc.devRef .tc main_v57) : S2x20000.Idx → EReal) (ix2 b i), (after hostOps0 V (Proc.devRef .tc main_v60) : S2x20000.Idx → EReal) (ix2 b i), (after hostOps0 V (Proc.devRef .tc main_v63) : S2x20000.Idx → EReal) (ix2 b i)] f := by
  rw [corners_concat]
  generalize after hostOps0 V (Proc.devRef .tc main_v54) = X0
  generalize after hostOps0 V (Proc.devRef .tc main_v57) = X1
  generalize after hostOps0 V (Proc.devRef .tc main_v60) = X2
  generalize after hostOps0 V (Proc.devRef .tc main_v63) = X3
  match f with
  | ⟨0, _⟩ => pointwise
  | ⟨1, _⟩ => pointwise
  | ⟨2, _⟩ => pointwise
  | ⟨3, _⟩ => pointwise

/-- Gathering the boxes leaves the best scores as they are. -/
theorem seg1_values : after hostOps0_1 V (Proc.devRef .tc main_values) = V (Proc.devRef .tc main_values) := by after_reads_simp

/-- Clipping the corners of an anchor gives its box. -/
theorem box_clipped (b : Fin 2) (i : Fin 20000) (f : Fin 4) :
    min side (max 0 ((after hostOps0 V (Proc.devRef .tc main_v68) : S2x20000x4.Idx → EReal) (ix3 b i f)))
      = boxOf (delAt V b i 0) (delAt V b i 1)
          (delAt V b i 2) (delAt V b i 3)
          (ancAt V i 0) (ancAt V i 1)
          (ancAt V i 2) (ancAt V i 3) f := by
  rw [corners_entry, corner0, corner1, corner2, corner3]
  match f with
  | ⟨0, _⟩ => rfl
  | ⟨1, _⟩ => rfl
  | ⟨2, _⟩ => rfl
  | ⟨3, _⟩ => rfl

end Cert.ReferenceIdeal.Value
-- ==== Proof.RVLate.lean ====
module

public import proofs.«01_k».proof.Proof.RVTake
public import proofs.«01_k».proof.Proof.VTop
public import proofs.«01_k».proof.Proof.RVSeg
public import Idealize.ShloMosaic.Lib.Pointwise
public import Idealize.ShloMosaic.Lib.StableHlo.RunRead

@[expose] public section

set_option maxRecDepth 16384

noncomputable section

/-! # The reference's later stretches, read at an element -/

namespace Cert.ReferenceIdeal.Value

open Cert.ReferenceIdeal Cert.ReferenceIdeal.Gen
open Idealize.ShloMosaic Idealize.ShloMosaic.Tactic Idealize.ShloMosaic.StableHlo Rpn

variable (V : Valuation τ sig (Elt Ideal))

/-- The constant that replaces the scores of small boxes. -/
theorem seg10_cst : after hostOps0_10 V (Proc.devRef .tc main_cst_17) = (constant (F := Ideal) S_ .f32 0xFF800000#32) := by
  after_reads_simp

/-- The scores of the small boxes replaced by `⊥`. -/
theorem mask_entry (hc : V (Proc.devRef .tc main_cst_17) = (constant (F := Ideal) S_ .f32 0xFF800000#32)) (b : Fin 2) (p : Fin 2000) :
    (after hostOps0_11 V (Proc.devRef .tc main_v103) : S2x2000.Idx → EReal) (ix2 b p)
      = if (V (Proc.devRef .tc main_v102) : IVec S2x2000 1) (ix2 b p) = 1#1 then (V (Proc.devRef .tc main_values) : S2x2000.Idx → EReal) (ix2 b p) else (⊥ : EReal) := by
  have h : after hostOps0_11 V (Proc.devRef .tc main_v103) = select (V (Proc.devRef .tc main_v102) : IVec S2x2000 1) (V (Proc.devRef .tc main_values) : S2x2000.Idx → EReal) (broadcastInDim S2x2000 ![] bcast_S_S2x2000 (V (Proc.devRef .tc main_cst_17) : S_.Idx → EReal)) := by
    after_reads_simp
    rfl
  rw [h, hc, ← c_bot]
  rfl

/-- Masking the scores leaves the boxes as they are. -/
theorem seg11_v87 : after hostOps0_11 V (Proc.devRef .tc main_v87) = V (Proc.devRef .tc main_v87) := by after_reads_simp

/-- Their order. -/
def sorted : Valuation τ sig (Elt Ideal) := after hostOps0_13 (after hostOps0_12 V)

/-- The order of falling masked score. -/
theorem sorted_order (b : Fin 2) (p : Fin 2000) : (sorted V (Proc.devRef .tc main_v105) : IVec S2x2000 32) (ix2 b p)
    = BitVec.ofNat 32 (ordr (fun i => (V (Proc.devRef .tc main_v103) : S2x2000.Idx → EReal) (ix2 b i)) p).val := by
  have h : sorted V (Proc.devRef .tc main_v105) = (Host.sort2 S2x2000 1 (comparator_f32_i32_d1 (F := Ideal)) (Host.negf (F := Ideal) (φ := .f32) (V (Proc.devRef .tc main_v103) : S2x2000.Idx → EReal)) (iotaInDim S2x2000 32 1)).2 := by
    unfold sorted
    after_reads_simp
    rfl
  rw [h]
  exact argsort _ b p

/-- Ordering leaves the boxes as they are. -/
theorem sorted_v87 : sorted V (Proc.devRef .tc main_v87) = V (Proc.devRef .tc main_v87) := by unfold sorted; after_reads_simp
/-- Ordering leaves the masked scores as they are. -/
theorem sorted_v103 : sorted V (Proc.devRef .tc main_v103) = V (Proc.devRef .tc main_v103) := by unfold sorted; after_reads_simp

/-- Boxes and scores taken in that order. -/
def taken : Valuation τ sig (Elt Ideal) := after hostOps0_16 (after hostOps0_15 (after hostOps0_14 V))

/-- The boxes in that order. -/
theorem taken_boxes (ι : Fin 2 → Fin 2000 → Fin 2000) (hI : ∀ b p, (V (Proc.devRef .tc main_v105) : IVec S2x2000 32) (ix2 b p) = BitVec.ofNat 32 (ι b p).val) (b : Fin 2) (p : Fin 2000) (f : Fin 4) :
    (taken V (Proc.devRef .tc main_v107) : S2x2000x4.Idx → EReal) (ix3 b p f) = (V (Proc.devRef .tc main_v87) : S2x2000x4.Idx → EReal) (ix3 b (ι b p) f) := by
  have h1 : taken V (Proc.devRef .tc main_v107) = after hostOps0_15 (after hostOps0_14 V) (Proc.devRef .tc main_v107) := by
    unfold taken
    generalize after hostOps0_15 (after hostOps0_14 V) = W
    after_reads_simp
  have h2 : after hostOps0_14 V (Proc.devRef .tc main_v87) = V (Proc.devRef .tc main_v87) := by after_reads_simp
  have h3 : after hostOps0_14 V (Proc.devRef .tc main_v106) = broadcastInDim S2x2000x1 ![0, 1] bcast_S2x2000_S2x2000x1_0_1 (V (Proc.devRef .tc main_v105) : IVec S2x2000 32) := by after_reads_simp
  rw [h1, seg15 (after hostOps0_14 V) ι (fun b p => ?_), h2]
  rw [h3, ← hI b p]
  generalize V (Proc.devRef .tc main_v105) = X
  pointwise

/-- The masked scores in that order. -/
theorem taken_scores (ι : Fin 2 → Fin 2000 → Fin 2000) (hI : ∀ b p, (V (Proc.devRef .tc main_v105) : IVec S2x2000 32) (ix2 b p) = BitVec.ofNat 32 (ι b p).val) (b : Fin 2) (p : Fin 2000) :
    (taken V (Proc.devRef .tc main_v108) : S2x2000.Idx → EReal) (ix2 b p) = (V (Proc.devRef .tc main_v103) : S2x2000.Idx → EReal) (ix2 b (ι b p)) := by
  have h2 : after hostOps0_15 (after hostOps0_14 V) (Proc.devRef .tc main_v105) = V (Proc.devRef .tc main_v105) := by after_reads_simp
  have h3 : after hostOps0_15 (after hostOps0_14 V) (Proc.devRef .tc main_v103) = V (Proc.devRef .tc main_v103) := by after_reads_simp
  unfold taken
  rw [seg16 _ ι (fun b p => ?_), h3]
  rw [h2]; exact hI b p

/-- The overlap of two boxes. -/
theorem overlap_entry (b : Fin 2) (i j : Fin 2000) :
    (after hostOps0_17 V (Proc.devRef .tc main_v157_0) : S2x2000x2000.Idx → EReal) (ix3 b i j)
      = Ideal.div (inter (fun f => (V (Proc.devRef .tc main_v107) : S2x2000x4.Idx → EReal) (ix3 b i f)) (fun f => (V (Proc.devRef .tc main_v107) : S2x2000x4.Idx → EReal) (ix3 b j f)))
        (max (area (fun f => (V (Proc.devRef .tc main_v107) : S2x2000x4.Idx → EReal) (ix3 b i f)) + area (fun f => (V (Proc.devRef .tc main_v107) : S2x2000x4.Idx → EReal) (ix3 b j f)) - inter (fun f => (V (Proc.devRef .tc main_v107) : S2x2000x4.Idx → EReal) (ix3 b i f)) (fun f => (V (Proc.devRef .tc main_v107) : S2x2000x4.Idx → EReal) (ix3 b j f))) eps) := by
  after_reads_simp
  generalize V (Proc.devRef .tc main_v107) = X
  simp only [id]
  pointwise
  rfl

/-- The place numbers at the loop's entry. -/
theorem loop_index : after hostOps0_17 V (Proc.devRef .tc main_v157_1) = iotaInDim S2000 32 0 := by after_reads_simp; rfl
/-- The first of the two zero words the loop carries. -/
theorem loop_counter : after hostOps0_17 V (Proc.devRef .tc main_v157_2) = constantI S_ 32 0#32 := by after_reads_simp; rfl
/-- The second: the place under examination. -/
theorem loop_step : after hostOps0_17 V (Proc.devRef .tc main_v157_3) = constantI S_ 32 0#32 := by after_reads_simp; rfl
/-- Everything is kept at the loop's entry. -/
theorem loop_keep : after hostOps0_17 V (Proc.devRef .tc main_v157_4) = broadcastInDim S2x2000 ![] bcast_S_S2x2000 (constantI S_ 1 1#1) := by after_reads_simp; rfl
/-- The overlaps leave the boxes as they are. -/
theorem seg17_v107 : after hostOps0_17 V (Proc.devRef .tc main_v107) = V (Proc.devRef .tc main_v107) := by after_reads_simp
/-- The overlaps leave the scores as they are. -/
theorem seg17_v108 : after hostOps0_17 V (Proc.devRef .tc main_v108) = V (Proc.devRef .tc main_v108) := by after_reads_simp

end Cert.ReferenceIdeal.Value
-- ==== Proof.RVLoop.lean ====
module

public import proofs.«01_k».proof.Proof.RVTake
public import proofs.«01_k».proof.Proof.VTop
public import proofs.«01_k».proof.Proof.RVSeg
public import Idealize.ShloMosaic.Lib.WordCmp
public import Idealize.ShloMosaic.Lib.Pointwise
public import Idealize.ShloMosaic.Lib.StableHlo.RunRead

@[expose] public section

set_option maxRecDepth 16384

noncomputable section

/-! # The reference's suppression loop -/

namespace Cert.ReferenceIdeal.Value

open Cert.ReferenceIdeal Cert.ReferenceIdeal.Gen
open Idealize.ShloMosaic Idealize.ShloMosaic.Tactic Idealize.ShloMosaic.StableHlo Rpn

/-- The index a trip reads at. -/
theorem step_index (k : ℕ) (hk : k < 2000) (N : IVec S_ 32) (hN : N = fun _ => BitVec.ofNat 32 k) (x : S_.Idx) :
    (select (cmpi .slt N (constantI S_ 32 0#32)) (addi (id N) (constantI S_ 32 2000#32)) N) x = BitVec.ofNat 32 k := by
  subst hN
  show Scalar.select (IntOp.cmpi .slt (BitVec.ofNat 32 k) 0#32) _ _ = _
  rw [word_not_neg (⟨k, hk⟩ : Fin 2000) (by norm_num)]
  rfl

/-- The row of overlaps read at trip `k`. -/
theorem step_row (k : ℕ) (hk : k < 2000) (N : IVec S_ 32) (hN : N = fun _ => BitVec.ofNat 32 k) (O : S2x2000x2000.Idx → EReal) (b : Fin 2) (j : Fin 2000) :
    (Host.dynamicSlice S2x1x2000 O (fun k => (((![constantI S_ 32 0#32, select (cmpi .slt N (constantI S_ 32 0#32)) (addi (id N) (constantI S_ 32 2000#32)) N, constantI S_ 32 0#32] : Fin 3 → (⟨S_, .i32⟩ : BufTy).Contents (Elt Ideal))) k (Shape.Idx.first h_S_)).toInt) sliceFits_S2x2000x2000_S2x1x2000) (ix3 b 0 j) = O (ix3 b ⟨k, hk⟩ j) := by
  have hs : S2x2000x2000.Slices ![0, k, 0] S2x1x2000 := ⟨rfl, fun a => by fin_cases a <;> simp [Shape.size] <;> omega⟩
  rw [WordCmp.dynamicSlice_eq_extract S2x1x2000 O _ _ ![0, k, 0] hs (fun a => ?_)]
  · show O _ = O _
    congr 1
    funext a
    refine Fin.ext ?_
    fin_cases a
    · show 0 + b.val = b.val; omega
    · show k + 0 = k; omega
    · show 0 + j.val = j.val; omega
  · fin_cases a
    · rfl
    · show ((select (cmpi .slt N (constantI S_ 32 0#32)) (addi (id N) (constantI S_ 32 2000#32)) N) (Shape.Idx.first h_S_)).toInt = ((k : ℕ) : ℤ)
      rw [step_index k hk N hN, toInt_small k (by omega)]
    · rfl

/-- The keep word read at trip `k`. -/
theorem step_word (k : ℕ) (hk : k < 2000) (N : IVec S_ 32) (hN : N = fun _ => BitVec.ofNat 32 k) (Kp : IVec S2x2000 1) (b : Fin 2) :
    (Host.dynamicSlice S2x1 Kp (fun k => (((![constantI S_ 32 0#32, select (cmpi .slt N (constantI S_ 32 0#32)) (addi (id N) (constantI S_ 32 2000#32)) N] : Fin 2 → (⟨S_, .i32⟩ : BufTy).Contents (Elt Ideal))) k (Shape.Idx.first h_S_)).toInt) sliceFits_S2x2000_S2x1) (ix2 b 0) = Kp (ix2 b ⟨k, hk⟩) := by
  have hs : S2x2000.Slices ![0, k] S2x1 := ⟨rfl, fun a => by fin_cases a <;> simp [Shape.size] <;> omega⟩
  rw [WordCmp.dynamicSlice_eq_extract S2x1 Kp _ _ ![0, k] hs (fun a => ?_)]
  · show Kp _ = Kp _
    congr 1
    funext a
    refine Fin.ext ?_
    fin_cases a
    · show 0 + b.val = b.val; omega
    · show k + 0 = k; omega
  · fin_cases a
    · rfl
    · show ((select (cmpi .slt N (constantI S_ 32 0#32)) (addi (id N) (constantI S_ 32 2000#32)) N) (Shape.Idx.first h_S_)).toInt = ((k : ℕ) : ℤ)
      rw [step_index k hk N hN, toInt_small k (by omega)]

/-- The keep words after a trip, over the row and the word it read. -/
theorem step_expr (R : FVec Ideal S2x1x2000 .f32) (C : IVec S2x1 1) (N : IVec S_ 32) (J : IVec S2000 32) (Kp : IVec S2x2000 1) (b : Fin 2) (j : Fin 2000) :
    (andi Kp (noti (andi (andi (cmpf .ogt (shapeCast S2x2000 R shapeCasts_S2x1x2000_S2x2000) (broadcastInDim S2x2000 ![] bcast_S_S2x2000 (constant S_ .f32 0x3F333333#32))) (broadcastInDim S2x2000 ![0, 1] bcast_S1x2000_S2x2000_0_1 (broadcastInDim S1x2000 ![1] bcast_S2000_S1x2000_1 (cmpi .sgt J (broadcastInDim S2000 ![] bcast_S_S2000 (id N)))))) (broadcastInDim S2x2000 ![0, 1] bcast_S2x1_S2x2000_0_1 C)))) (ix2 b j)
      = IntOp.andi (Kp (ix2 b j)) ((~~~ (IntOp.andi (IntOp.andi (BitVec.ofBool (decide (thr < R (ix3 b 0 j)))) (IntOp.cmpi .sgt (J (ix1 j)) (N ix0))) (C (ix2 b 0))))) := by
  pointwise
  rfl

/-- The keep words after trip `k`. -/
theorem keep_step (k : ℕ) (hk : k < 2000) (N : IVec S_ 32) (hN : N = fun _ => BitVec.ofNat 32 k) (O : FVec Ideal S2x2000x2000 .f32) (J : IVec S2000 32) (Kp : IVec S2x2000 1) (b : Fin 2) (j : Fin 2000) :
    (andi Kp (noti (andi (andi (cmpf .ogt (shapeCast S2x2000 (Host.dynamicSlice S2x1x2000 O (fun k => (((![constantI S_ 32 0#32, select (cmpi .slt N (constantI S_ 32 0#32)) (addi (id N) (constantI S_ 32 2000#32)) N, constantI S_ 32 0#32] : Fin 3 → (⟨S_, .i32⟩ : BufTy).Contents (Elt Ideal))) k (Shape.Idx.first h_S_)).toInt) sliceFits_S2x2000x2000_S2x1x2000) shapeCasts_S2x1x2000_S2x2000) (broadcastInDim S2x2000 ![] bcast_S_S2x2000 (constant S_ .f32 0x3F333333#32))) (broadcastInDim S2x2000 ![0, 1] bcast_S1x2000_S2x2000_0_1 (broadcastInDim S1x2000 ![1] bcast_S2000_S1x2000_1 (cmpi .sgt J (broadcastInDim S2000 ![] bcast_S_S2000 (id N)))))) (broadcastInDim S2x2000 ![0, 1] bcast_S2x1_S2x2000_0_1 (Host.dynamicSlice S2x1 Kp (fun k => (((![constantI S_ 32 0#32, select (cmpi .slt N (constantI S_ 32 0#32)) (addi (id N) (constantI S_ 32 2000#32)) N] : Fin 2 → (⟨S_, .i32⟩ : BufTy).Contents (Elt Ideal))) k (Shape.Idx.first h_S_)).toInt) sliceFits_S2x2000_S2x1))))) (ix2 b j)
      = IntOp.andi (Kp (ix2 b j)) (~~~ (IntOp.andi (IntOp.andi (BitVec.ofBool (decide (thr < O (ix3 b ⟨k, hk⟩ j)))) (IntOp.cmpi .sgt (J (ix1 j)) (BitVec.ofNat 32 k))) (Kp (ix2 b ⟨k, hk⟩)))) := by
  refine (step_expr _ _ N J Kp b j).trans ?_
  rw [step_row k hk N hN O b j, step_word k hk N hN Kp b]
  subst hN
  rfl

/-- The word of one trip's new mark. -/
theorem step_bits (x r s c : BitVec 1) : IntOp.andi x (~~~ (IntOp.andi (IntOp.andi r s) c)) = 1#1 ↔ x = 1#1 ∧ ¬ (r = 1#1 ∧ s = 1#1 ∧ c = 1#1) := by
  rcases BitVec.eq_zero_or_eq_one x with h | h <;> rcases BitVec.eq_zero_or_eq_one r with h' | h' <;>
    rcases BitVec.eq_zero_or_eq_one s with h'' | h'' <;> rcases BitVec.eq_zero_or_eq_one c with h3 | h3 <;> subst h h' h'' h3 <;> decide

/-- The bit of a decided proposition. -/
theorem bit_of (p : Prop) [Decidable p] : BitVec.ofBool (decide p) = 1#1 ↔ p := by
  by_cases h : p
  · rw [decide_eq_true h]; exact ⟨fun _ => h, fun _ => rfl⟩
  · rw [decide_eq_false h]; exact ⟨fun q => absurd q (by decide), fun q => absurd q h⟩

/-- The keep words after a trip. -/
theorem step_keep (k : ℕ) (hk : k < 2000) (W : Valuation τ sig (Elt Ideal)) (O : S2x2000x2000.Idx → EReal) (h0 : W (Proc.devRef .tc main_v157_0) = O)
    (h1 : W (Proc.devRef .tc main_v157_1) = iotaInDim S2000 32 0) (h3 : W (Proc.devRef .tc main_v157_3) = fun _ => BitVec.ofNat 32 k)
    (b : Fin 2) (j : Fin 2000) :
    (step_main_v157_4 W : IVec S2x2000 1) (ix2 b j) = 1#1 ↔
      (W (Proc.devRef .tc main_v157_4) : IVec S2x2000 1) (ix2 b j) = 1#1 ∧ ¬ (thr < O (ix3 b ⟨k, hk⟩ j) ∧ k < j.val ∧ (W (Proc.devRef .tc main_v157_4) : IVec S2x2000 1) (ix2 b ⟨k, hk⟩) = 1#1) := by
  have e := keep_step k hk (W (Proc.devRef .tc main_v157_3)) h3 (W (Proc.devRef .tc main_v157_0)) (W (Proc.devRef .tc main_v157_1)) (W (Proc.devRef .tc main_v157_4)) b j
  refine (iff_of_eq (congrArg (· = 1#1) e)).trans ?_
  rw [h0, h1]
  rw [step_bits, bit_of]
  refine and_congr_right fun _ => not_congr (and_congr_right fun _ => and_congr_left fun _ => ?_)
  show IntOp.cmpi .sgt (BitVec.ofNat 32 j.val) (BitVec.ofNat 32 k) = 1#1 ↔ _
  exact WordCmp.cmpi_sgt_ofNat_eq_one_iff (by have := j.isLt; norm_num; omega) (by norm_num; omega)

/-- After `k` trips the keep words are the greedy suppression's first `k` steps. -/
theorem loop_state (V : Valuation τ sig (Elt Ideal)) (O : S2x2000x2000.Idx → EReal) (h0 : V (Proc.devRef .tc main_v157_0) = O)
    (h1 : V (Proc.devRef .tc main_v157_1) = iotaInDim S2000 32 0) (h3 : V (Proc.devRef .tc main_v157_3) = constantI S_ 32 0#32)
    (h4 : V (Proc.devRef .tc main_v157_4) = broadcastInDim S2x2000 ![] bcast_S_S2x2000 (constantI S_ 1 1#1)) :
    ∀ k, k ≤ 2000 → STEP^[k] V (Proc.devRef .tc main_v157_0) = O ∧ STEP^[k] V (Proc.devRef .tc main_v157_1) = iotaInDim S2000 32 0
      ∧ STEP^[k] V (Proc.devRef .tc main_v157_3) = (fun _ => BitVec.ofNat 32 k)
      ∧ ∀ (b : Fin 2) (j : Fin 2000), (STEP^[k] V (Proc.devRef .tc main_v157_4) : IVec S2x2000 1) (ix2 b j) = 1#1 ↔ loopKeep (fun i j => thr < O (ix3 b i j)) k j
  | 0, _ => ⟨h0, h1, h3, fun b j => by
      rw [loopKeep_zero]
      refine iff_true_intro ?_
      show (V (Proc.devRef .tc main_v157_4) : IVec S2x2000 1) (ix2 b j) = 1#1
      rw [h4]; rfl⟩
  | k + 1, hk => by
    obtain ⟨e0, e1, e3, e4⟩ := loop_state V O h0 h1 h3 h4 k (by omega)
    rw [Function.iterate_succ_apply']
    generalize STEP^[k] V = W at e0 e1 e3 e4 ⊢
    refine ⟨(STEP_main_v157_0 W).trans e0, (STEP_main_v157_1 W).trans e1, ?_, fun b j => ?_⟩
    · rw [STEP_main_v157_3]
      unfold step_main_v157_3
      rw [e3]
      funext x
      show BitVec.ofNat 32 k + 1#32 = BitVec.ofNat 32 (k + 1)
      rw [BitVec.ofNat_add]
    · rw [STEP_main_v157_4, step_keep k (by omega) W O e0 e1 e3, e4, e4, loopKeep_succ]
      refine and_congr_right fun _ => not_congr ⟨fun ⟨a, l, w⟩ => ⟨⟨k, by omega⟩, rfl, a, l, w⟩, ?_⟩
      rintro ⟨i, hi, a, l, w⟩
      subst hi
      exact ⟨a, l, w⟩

end Cert.ReferenceIdeal.Value
-- ==== Proof.RVPost.lean ====
module

public import proofs.«01_k».proof.Proof.RVTake
public import proofs.«01_k».proof.Proof.VTop
public import proofs.«01_k».proof.Proof.RVSeg
public import Idealize.ShloMosaic.Lib.Pointwise
public import Idealize.ShloMosaic.Lib.StableHlo.RunRead

@[expose] public section

set_option maxRecDepth 16384

noncomputable section

/-! # The reference's last stretches: choosing the survivors and writing them out -/

namespace Cert.ReferenceIdeal.Value

open Cert.ReferenceIdeal Cert.ReferenceIdeal.Gen
open Idealize.ShloMosaic Idealize.ShloMosaic.Tactic Idealize.ShloMosaic.StableHlo Rpn

variable (V : Valuation τ sig (Elt Ideal))

/-- A number is finite. -/
abbrev Finite (x : EReal) : Prop := max x (-x) < (⊤ : EReal)

/-- The scores of everything that is not kept replaced by `⊥`. -/
def masked : Valuation τ sig (Elt Ideal) := after hostOps0_19 (after hostOps0_18 V)

/-- The two bits differ. -/
theorem zero_ne_one_bit : ¬ (0#1 : BitVec 1) = 1#1 := by decide

open Classical in
/-- The kept finite scores, and `⊥` elsewhere. -/
theorem masked_entry (b : Fin 2) (p : Fin 2000) : (masked V (Proc.devRef .tc main_v162) : S2x2000.Idx → EReal) (ix2 b p)
    = if (V (Proc.devRef .tc main_v157_4) : IVec S2x2000 1) (ix2 b p) = 1#1 ∧ Finite ((V (Proc.devRef .tc main_v108) : S2x2000.Idx → EReal) (ix2 b p))
      then (V (Proc.devRef .tc main_v108) : S2x2000.Idx → EReal) (ix2 b p) else (⊥ : EReal) := by
  have h : (masked V (Proc.devRef .tc main_v162) : S2x2000.Idx → EReal) (ix2 b p)
      = Scalar.select (IntOp.andi ((V (Proc.devRef .tc main_v157_4) : IVec S2x2000 1) (ix2 b p)) (BitVec.ofBool (decide (Finite ((V (Proc.devRef .tc main_v108) : S2x2000.Idx → EReal) (ix2 b p))))))
          ((V (Proc.devRef .tc main_v108) : S2x2000.Idx → EReal) (ix2 b p)) (⊥ : EReal) := by
    unfold masked Finite
    rw [← c_bot, ← c_top]
    after_reads_simp
    simp only [TRef.toBuf, TRef.ofBuf, cast_eq, id]
    generalize V (Proc.devRef .tc main_v157_4) = K
    generalize V (Proc.devRef .tc main_v108) = S
    pointwise
    rfl
  rw [h]
  rcases BitVec.eq_zero_or_eq_one ((V (Proc.devRef .tc main_v157_4) : IVec S2x2000 1) (ix2 b p)) with e | e
  · rw [e, if_neg (fun q => absurd q.1 zero_ne_one_bit)]
    by_cases hf : Finite ((V (Proc.devRef .tc main_v108) : S2x2000.Idx → EReal) (ix2 b p))
    · rw [decide_eq_true hf]; rfl
    · rw [decide_eq_false hf]; rfl
  · rw [e]
    by_cases hf : Finite ((V (Proc.devRef .tc main_v108) : S2x2000.Idx → EReal) (ix2 b p))
    · rw [decide_eq_true hf, if_pos ⟨rfl, hf⟩]; rfl
    · rw [decide_eq_false hf, if_neg (fun q => hf q.2)]; rfl

/-- Masking leaves the boxes as they are. -/
theorem masked_v107 : masked V (Proc.devRef .tc main_v107) = V (Proc.devRef .tc main_v107) := by unfold masked; after_reads_simp

/-- The best 1000 of them. -/
theorem picked_values (b : Fin 2) (r : Fin 1000) : (after hostOps0_20 V (Proc.devRef .tc main_values_26) : S2x1000.Idx → EReal) (ix2 b r)
    = (V (Proc.devRef .tc main_v162) : S2x2000.Idx → EReal) (ix2 b (ordr (fun i => (V (Proc.devRef .tc main_v162) : S2x2000.Idx → EReal) (ix2 b i)) (r.castLE (by norm_num)))) := by
  after_reads_simp
  exact topK_fst (by norm_num) _ _ b r

/-- The places of the best 1000. -/
theorem picked_indices (b : Fin 2) (r : Fin 1000) : (after hostOps0_20 V (Proc.devRef .tc main_v163) : IVec S2x1000x1 32) (ix3 b r 0)
    = BitVec.ofNat 32 (ordr (fun i => (V (Proc.devRef .tc main_v162) : S2x2000.Idx → EReal) (ix2 b i)) (r.castLE (by norm_num : 1000 ≤ 2000))).val := by
  refine Eq.trans ?_ (topK_snd (A := 2) (N := 2000) (k := 1000) (by norm_num) (V (Proc.devRef .tc main_v162) : S2x2000.Idx → EReal) sliceFits_S2x2000_S2x1000 b r)
  after_reads_simp
  generalize (Host.topK (⟨2, ![2, 1000]⟩ : Shape) 1 (FloatOps.cmpfTotal (F := Ideal) (φ := .f32) .gt) (V (Proc.devRef .tc main_v162) : S2x2000.Idx → EReal) sliceFits_S2x2000_S2x1000).2 = X
  pointwise

/-- Picking leaves the boxes as they are. -/
theorem picked_v107 : after hostOps0_20 V (Proc.devRef .tc main_v107) = V (Proc.devRef .tc main_v107) := by after_reads_simp
/-- Gathering the boxes leaves the picked scores as they are. -/
theorem seg21_values : after hostOps0_21 V (Proc.devRef .tc main_values_26) = V (Proc.devRef .tc main_values_26) := by after_reads_simp

/-- What is written out. -/
def written : Valuation τ sig (Elt Ideal) := after hostOps0_26 (after hostOps0_25 (after hostOps0_24 (after hostOps0_23 (after hostOps0_22 V))))

open Classical in
/-- The picked scores, zero where not finite. -/
theorem written_scores (b : Fin 2) (r : Fin 1000) : (written V (Proc.devRef .tc main_v171) : S2x1x1000.Idx → EReal) (ix3 b 0 r)
    = if Finite ((V (Proc.devRef .tc main_values_26) : S2x1000.Idx → EReal) (ix2 b r)) then (V (Proc.devRef .tc main_values_26) : S2x1000.Idx → EReal) (ix2 b r) else (0 : EReal) := by
  have h : (written V (Proc.devRef .tc main_v171) : S2x1x1000.Idx → EReal) (ix3 b 0 r)
      = Scalar.select (BitVec.ofBool (decide (Finite ((V (Proc.devRef .tc main_values_26) : S2x1000.Idx → EReal) (ix2 b r)))))
          ((V (Proc.devRef .tc main_values_26) : S2x1000.Idx → EReal) (ix2 b r)) (0 : EReal) := by
    unfold written Finite
    rw [← Ideal.ofBits_zero_f32, ← c_top]
    after_reads_simp
    simp only [TRef.toBuf, TRef.ofBuf, cast_eq, id]
    generalize V (Proc.devRef .tc main_values_26) = S
    pointwise
    rfl
  rw [h, select_ofBool]

open Classical in
/-- The picked boxes, zero where the score is not finite. -/
theorem written_boxes (b : Fin 2) (r : Fin 1000) (f : Fin 4) : (written V (Proc.devRef .tc main_v169) : S2x1000x4.Idx → EReal) (ix3 b r f)
    = if Finite ((V (Proc.devRef .tc main_values_26) : S2x1000.Idx → EReal) (ix2 b r)) then (V (Proc.devRef .tc main_v164) : S2x1000x4.Idx → EReal) (ix3 b r f) else (0 : EReal) := by
  have h : (written V (Proc.devRef .tc main_v169) : S2x1000x4.Idx → EReal) (ix3 b r f)
      = Scalar.select (BitVec.ofBool (decide (Finite ((V (Proc.devRef .tc main_values_26) : S2x1000.Idx → EReal) (ix2 b r)))))
          ((V (Proc.devRef .tc main_v164) : S2x1000x4.Idx → EReal) (ix3 b r f)) (0 : EReal) := by
    unfold written Finite
    rw [← Ideal.ofBits_zero_f32, ← c_top]
    after_reads_simp
    simp only [TRef.toBuf, TRef.ofBuf, cast_eq, id]
    generalize V (Proc.devRef .tc main_values_26) = S
    generalize V (Proc.devRef .tc main_v164) = B
    pointwise
    rfl
  rw [h, select_ofBool]

/-- The place of the kept score of rank `r`. -/
abbrev placeOf (b : Fin 2) (r : Fin 1000) : Fin 2000 :=
  ordr (fun i => (masked V (Proc.devRef .tc main_v162) : S2x2000.Idx → EReal) (ix2 b i)) (r.castLE (by norm_num))

open Classical in
/-- The scores written, from the contents after the loop. -/
theorem post_scores (b : Fin 2) (r : Fin 1000) : (afterL postI V (Proc.devRef .tc main_v171) : S2x1x1000.Idx → EReal) (ix3 b 0 r)
    = if Finite ((masked V (Proc.devRef .tc main_v162) : S2x2000.Idx → EReal) (ix2 b (placeOf V b r))) then (masked V (Proc.devRef .tc main_v162) : S2x2000.Idx → EReal) (ix2 b (placeOf V b r)) else (0 : EReal) := by
  show (written (after hostOps0_21 (after hostOps0_20 (masked V))) (Proc.devRef .tc main_v171) : S2x1x1000.Idx → EReal) (ix3 b 0 r) = _
  rw [written_scores, seg21_values, picked_values]

open Classical in
/-- The boxes written, from the contents after the loop. -/
theorem post_boxes (b : Fin 2) (r : Fin 1000) (f : Fin 4) : (afterL postI V (Proc.devRef .tc main_v169) : S2x1000x4.Idx → EReal) (ix3 b r f)
    = if Finite ((masked V (Proc.devRef .tc main_v162) : S2x2000.Idx → EReal) (ix2 b (placeOf V b r))) then (V (Proc.devRef .tc main_v107) : S2x2000x4.Idx → EReal) (ix3 b (placeOf V b r) f) else (0 : EReal) := by
  show (written (after hostOps0_21 (after hostOps0_20 (masked V))) (Proc.devRef .tc main_v169) : S2x1000x4.Idx → EReal) (ix3 b r f) = _
  rw [written_boxes, seg21_values, picked_values, seg21 (after hostOps0_20 (masked V)) (placeOf V) (fun b r => picked_indices (masked V) b r), picked_v107, masked_v107]

end Cert.ReferenceIdeal.Value
-- ==== Proof.RVRows.lean ====
module

public import proofs.«01_k».proof.Proof.RVFirst
public import proofs.«01_k».proof.Proof.RVLate
public import proofs.«01_k».proof.Proof.RVLoop
public import proofs.«01_k».proof.Proof.RVPost

@[expose] public section

set_option maxRecDepth 100000

noncomputable section

/-! # What the reference computes for one image -/

namespace Cert.ReferenceIdeal.Value

open Cert.ReferenceIdeal Cert.ReferenceIdeal.Gen
open Idealize.ShloMosaic Idealize.ShloMosaic.Tactic Idealize.ShloMosaic.StableHlo Rpn

section

variable (V : Valuation τ sig (Elt Ideal))

/-- The scores of an image, its deltas, and the anchors, read from the arguments. -/
def argS (b : Fin 2) (i : Fin 20000) : EReal := (V (Proc.devRef .tc main_arg0) : S2x20000.Idx → EReal) (ix2 b i)
/-- The deltas of an image. -/
def argD (b : Fin 2) (i : Fin 20000) (d : Fin 4) : EReal := (V (Proc.devRef .tc main_arg1) : S2x20000x4.Idx → EReal) (ix3 b i d)
/-- The anchors. -/
def argW (i : Fin 20000) (d : Fin 4) : EReal := (V (Proc.devRef .tc main_arg2) : S20000x4.Idx → EReal) (ix2 i d)

/-- The box of the anchor in place `p` of the order of falling score. -/
abbrev boxAt (b : Fin 2) (p : Fin 2000) : Fin 4 → EReal := selBox (argS V b) (argD V b) (argW V) p

open Classical in
/-- The scores in that order, those of small boxes replaced by `⊥`. -/
def snAt (b : Fin 2) (p : Fin 2000) : EReal := if Big (boxAt V b p) then argS V b (sel (argS V b) p) else ⊥

/-- The contents up to the decoded boxes. -/
def stageA : Valuation τ sig (Elt Ideal) := after hostOps0_10 (clips (after hostOps0_1 (after hostOps0 V)))

/-- The decoded and clipped boxes of the 2000 best anchors. -/
theorem stageA_boxes (b : Fin 2) (p : Fin 2000) (f : Fin 4) : (stageA V (Proc.devRef .tc main_v87) : S2x2000x4.Idx → EReal) (ix3 b p f) = boxAt V b p f := by
  have h : ∀ f, (after hostOps0_1 (after hostOps0 V) (Proc.devRef .tc main_v70) : S2x2000x4.Idx → EReal) (ix3 b p f)
      = (after hostOps0 V (Proc.devRef .tc main_v68) : S2x20000x4.Idx → EReal) (ix3 b (sel (argS V b) p) f) := fun f =>
    seg1 (after hostOps0 V) (fun b p => sel (argS V b) p) (fun b p => first_indices V b p) b p f
  unfold stageA
  rw [boxes_entry, clip0, clip1, clip2, clip3, h, h, h, h, box_clipped, box_clipped, box_clipped, box_clipped]
  match f with
  | ⟨0, _⟩ => rfl
  | ⟨1, _⟩ => rfl
  | ⟨2, _⟩ => rfl
  | ⟨3, _⟩ => rfl

/-- Which of them are big enough. -/
theorem stageA_big (b : Fin 2) (p : Fin 2000) : (stageA V (Proc.devRef .tc main_v102) : IVec S2x2000 1) (ix2 b p) = 1#1 ↔ Big (boxAt V b p) := by
  refine (big_entry _ b p).trans ?_
  rw [show (fun f => (after hostOps0_10 (clips (after hostOps0_1 (after hostOps0 V))) (Proc.devRef .tc main_v87) : S2x2000x4.Idx → EReal) (ix3 b p f)) = boxAt V b p from funext fun f => stageA_boxes V b p f]

/-- Their scores. -/
theorem stageA_values (b : Fin 2) (p : Fin 2000) : (stageA V (Proc.devRef .tc main_values) : S2x2000.Idx → EReal) (ix2 b p) = argS V b (sel (argS V b) p) := by
  unfold stageA
  rw [seg10_values, clips_values, seg1_values]
  exact first_values V b p

/-- The contents up to the masked scores. -/
def stageB : Valuation τ sig (Elt Ideal) := after hostOps0_11 (stageA V)

open Classical in
/-- The masked scores. -/
theorem stageB_scores (b : Fin 2) (p : Fin 2000) : (stageB V (Proc.devRef .tc main_v103) : S2x2000.Idx → EReal) (ix2 b p) = snAt V b p := by
  unfold stageB
  rw [mask_entry (stageA V) (seg10_cst _), stageA_values]
  unfold snAt
  by_cases h : Big (boxAt V b p)
  · rw [if_pos ((stageA_big V b p).mpr h), if_pos h]
  · rw [if_neg (fun q => h ((stageA_big V b p).mp q)), if_neg h]

/-- The boxes beside them. -/
theorem stageB_boxes (b : Fin 2) (p : Fin 2000) (f : Fin 4) : (stageB V (Proc.devRef .tc main_v87) : S2x2000x4.Idx → EReal) (ix3 b p f) = boxAt V b p f := by
  unfold stageB
  rw [seg11_v87]
  exact stageA_boxes V b p f

/-- The contents up to the boxes and scores in the order of the masked scores. -/
def stageC : Valuation τ sig (Elt Ideal) := taken (sorted (stageB V))

/-- The order of the masked scores. -/
theorem order_words (b : Fin 2) (p : Fin 2000) : (sorted (stageB V) (Proc.devRef .tc main_v105) : IVec S2x2000 32) (ix2 b p) = BitVec.ofNat 32 (ordr (snAt V b) p).val := by
  rw [sorted_order]
  rw [show (fun i => (stageB V (Proc.devRef .tc main_v103) : S2x2000.Idx → EReal) (ix2 b i)) = snAt V b from funext fun i => stageB_scores V b i]

/-- The boxes in that order. -/
theorem stageC_boxes (b : Fin 2) (p : Fin 2000) (f : Fin 4) : (stageC V (Proc.devRef .tc main_v107) : S2x2000x4.Idx → EReal) (ix3 b p f) = boxAt V b (ordr (snAt V b) p) f := by
  unfold stageC
  rw [taken_boxes _ (fun b p => ordr (snAt V b) p) (order_words V), sorted_v87]
  exact stageB_boxes V b _ f

/-- The scores in that order. -/
theorem stageC_scores (b : Fin 2) (p : Fin 2000) : (stageC V (Proc.devRef .tc main_v108) : S2x2000.Idx → EReal) (ix2 b p) = snAt V b (ordr (snAt V b) p) := by
  unfold stageC
  rw [taken_scores _ (fun b p => ordr (snAt V b) p) (order_words V), sorted_v103]
  exact stageB_scores V b _

/-- The contents at the loop's entry. -/
theorem entry_stages : afterL preI V = after hostOps0_17 (stageC V) := by
  simp only [stageC, stageB, stageA, clips, taken, sorted, preI, afterL]

/-- The overlap read by the loop exceeds the threshold where the boxes overlap. -/
theorem entry_overlap (b : Fin 2) (i j : Fin 2000) : thr < (afterL preI V (Proc.devRef .tc main_v157_0) : S2x2000x2000.Idx → EReal) (ix3 b i j)
    ↔ Overlap (boxAt V b (ordr (snAt V b) i)) (boxAt V b (ordr (snAt V b) j)) := by
  rw [entry_stages, overlap_entry,
    show (fun f => (stageC V (Proc.devRef .tc main_v107) : S2x2000x4.Idx → EReal) (ix3 b i f)) = boxAt V b (ordr (snAt V b) i) from funext fun f => stageC_boxes V b i f,
    show (fun f => (stageC V (Proc.devRef .tc main_v107) : S2x2000x4.Idx → EReal) (ix3 b j f)) = boxAt V b (ordr (snAt V b) j) from funext fun f => stageC_boxes V b j f]
  exact Iff.rfl

/-- The boxes at the loop's entry. -/
theorem entry_boxes (b : Fin 2) (p : Fin 2000) (f : Fin 4) : (afterL preI V (Proc.devRef .tc main_v107) : S2x2000x4.Idx → EReal) (ix3 b p f) = boxAt V b (ordr (snAt V b) p) f := by
  rw [entry_stages, seg17_v107]
  exact stageC_boxes V b p f

/-- The scores at the loop's entry. -/
theorem entry_scores (b : Fin 2) (p : Fin 2000) : (afterL preI V (Proc.devRef .tc main_v108) : S2x2000.Idx → EReal) (ix2 b p) = snAt V b (ordr (snAt V b) p) := by
  rw [entry_stages, seg17_v108]
  exact stageC_scores V b p

end

section Loop

variable (m : (ℓ : Loc nD τ sig) → Buf (Elt Ideal) ℓ) (c : Dev nD)

/-- What the loop does not write stays. -/
theorem loop_keeps (r : Ref sig .tc) (h : r ∉ (condOps_W ++ while0Ops0_W ++ while0Ops0_1_W ++ while0Ops0_2_W ++ while0Ops0_3_W : List (Ref sig .tc))) :
    ∀ k, atK m k c (Proc.devRef .tc r) = entryContents preI m c (Proc.devRef .tc r)
  | 0 => rfl
  | k + 1 => by
    simp only [List.mem_append, not_or] at h
    obtain ⟨⟨⟨⟨h0, h1⟩, h2⟩, h3⟩, h4⟩ := h
    refine Eq.trans ?_ (loop_keeps r (by simp only [List.mem_append, not_or]; exact ⟨⟨⟨⟨h0, h1⟩, h2⟩, h3⟩, h4⟩) k)
    show after while0Ops0_3 (after while0Ops0_2 (after while0Ops0_1 (after while0Ops0 (after condOps (atK m k c))))) (Proc.devRef .tc r) = _
    rw [after_of_writes_sub while0Ops0_3 _ while0Ops0_3_writes h4, after_of_writes_sub while0Ops0_2 _ while0Ops0_2_writes h3,
      after_of_writes_sub while0Ops0_1 _ while0Ops0_1_writes h2, after_of_writes_sub while0Ops0 _ while0Ops0_writes h1,
      after_of_writes_sub condOps _ condOps_writes h0]

/-- The contents after the loop. -/
def looped : Valuation τ sig (Elt Ideal) := after condOps (atK m 2000 c)

/-- The loop leaves the boxes as they are. -/
theorem looped_v107 : looped m c (Proc.devRef .tc main_v107) = entryContents preI m c (Proc.devRef .tc main_v107) :=
  (after_of_writes_sub condOps _ condOps_writes (by decide +kernel)).trans (loop_keeps m c main_v107 (by decide +kernel) 2000)

/-- The loop leaves the scores as they are. -/
theorem looped_v108 : looped m c (Proc.devRef .tc main_v108) = entryContents preI m c (Proc.devRef .tc main_v108) :=
  (after_of_writes_sub condOps _ condOps_writes (by decide +kernel)).trans (loop_keeps m c main_v108 (by decide +kernel) 2000)

/-- The kept places, in the order of the masked scores. -/
abbrev KR (b : Fin 2) : Fin 2000 → Prop :=
  loopKeep (fun i j => thr < (entryContents preI m c (Proc.devRef .tc main_v157_0) : S2x2000x2000.Idx → EReal) (ix3 b i j)) 2000

/-- What the loop keeps. -/
theorem looped_keep (b : Fin 2) (j : Fin 2000) : (looped m c (Proc.devRef .tc main_v157_4) : IVec S2x2000 1) (ix2 b j) = 1#1 ↔ KR m c b j := by
  have e : looped m c (Proc.devRef .tc main_v157_4) = STEP^[2000] (entryContents preI m c) (Proc.devRef .tc main_v157_4) :=
    (cond_keeps (atK m 2000 c) main_v157_4 (by decide)).trans (atK_agree m c 2000 main_v157_4 (by decide))
  rw [e]
  exact (loop_state (entryContents preI m c) _ rfl (loop_index _) (loop_step _) (loop_keep _) 2000 le_rfl).2.2.2 b j

end Loop

end Cert.ReferenceIdeal.Value
-- ==== Proof.RVTop.lean ====
module

public import proofs.«01_k».proof.Proof.RVRows

@[expose] public section

set_option maxRecDepth 100000

noncomputable section

/-! # The reference's two results, and its run -/

namespace Cert.ReferenceIdeal.Value

open Cert.ReferenceIdeal Cert.ReferenceIdeal.Gen
open Idealize.ShloMosaic Idealize.ShloMosaic.Tactic Idealize.ShloMosaic.StableHlo Rpn

variable (m : (ℓ : Loc nD τ sig) → Buf (Elt Ideal) ℓ) (c : Dev nD)

/-- A real number is finite, and `⊥` is not. -/
theorem finite_real (x : ℝ) : Finite (x : EReal) := by
  unfold Finite
  rw [← EReal.coe_neg, max_lt_iff]
  exact ⟨EReal.coe_lt_top _, EReal.coe_lt_top _⟩

/-- `⊥` is not finite. -/
theorem not_finite_bot : ¬ Finite (⊥ : EReal) := by
  unfold Finite
  rw [EReal.neg_bot, max_eq_right bot_le]
  exact lt_irrefl _

/-- The results are those of the last stretches after the loop. -/
theorem results (b : Fin 2) (r : Fin 1000) (f : Fin 4) :
    (finalContents condOps preI bodyI postI 2000 m c (Proc.devRef .tc main_v169) : S2x1000x4.Idx → EReal) (ix3 b r f)
      = (afterL postI (looped m c) (Proc.devRef .tc main_v169) : S2x1000x4.Idx → EReal) (ix3 b r f)
    ∧ (finalContents condOps preI bodyI postI 2000 m c (Proc.devRef .tc main_v171) : S2x1x1000.Idx → EReal) (ix3 b 0 r)
      = (afterL postI (looped m c) (Proc.devRef .tc main_v171) : S2x1x1000.Idx → EReal) (ix3 b 0 r) := ⟨rfl, rfl⟩

open Classical in
/-- With real scores the two results hold the survivors of each image in order. -/
theorem reference_rows (b : Fin 2) (hreal : ∀ i, ∃ x : ℝ, argS (launchContents m c) b i = x) :
    RowsOf (argS (launchContents m c) b) (argD (launchContents m c) b) (argW (launchContents m c))
      (fun r f => (finalContents condOps preI bodyI postI 2000 m c (Proc.devRef .tc main_v169) : S2x1000x4.Idx → EReal) (ix3 b r f))
      (fun r => (finalContents condOps preI bodyI postI 2000 m c (Proc.devRef .tc main_v171) : S2x1x1000.Idx → EReal) (ix3 b 0 r)) := by
  set V := launchContents m c with hV
  set st : Fin 2000 → EReal := fun p => argS V b (sel (argS V b) p) with hst'
  set sn := snAt V b with hsn
  let valid : Fin 2000 → Prop := fun p => Big (boxAt V b p)
  have hst : ∀ p q : Fin 2000, p ≤ q → st q ≤ st p := fun p q h => ordr_antitone (argS V b) (by simpa using h)
  have hbot : ∀ p, valid p → st p ≠ ⊥ := fun p _ e => by
    obtain ⟨x, hx⟩ := hreal (sel (argS V b) p)
    exact EReal.coe_ne_bot x (hx.symm.trans e)
  have hv : ∀ p, valid p → sn p = st p := fun p h => if_pos h
  have hn : ∀ p, ¬ valid p → sn p = ⊥ := fun p h => if_neg h
  have hfin : ∀ p, Finite (sn p) ↔ valid p := fun p => by
    by_cases h : valid p
    · obtain ⟨x, hx⟩ := hreal (sel (argS V b) p)
      rw [hv p h, show st p = (x : EReal) from hx]
      exact iff_of_true (finite_real x) h
    · rw [hn p h]
      exact iff_of_false not_finite_bot h
  let K : Fin 2000 → Prop := fun q => ∃ a, ordr sn a = q ∧ KR m c b a ∧ valid q
  have hK : ∀ a, K (ordr sn a) ↔ KR m c b a ∧ valid (ordr sn a) := fun a =>
    ⟨fun ⟨a', e, h⟩ => by rw [ordr_injective sn e] at h; exact h, fun h => ⟨a, rfl, h⟩⟩
  have hov : (fun i j => thr < (entryContents preI m c (Proc.devRef .tc main_v157_0) : S2x2000x2000.Idx → EReal) (ix3 b i j))
      = fun i j => Overlap (boxAt V b (ordr sn i)) (boxAt V b (ordr sn j)) :=
    funext fun i => funext fun j => propext (entry_overlap V b i j)
  have hKR : Greedy (fun _ => True) (fun i j => Overlap (boxAt V b (ordr sn i)) (boxAt V b (ordr sn j))) (KR m c b) := by
    unfold KR
    rw [hov]
    exact loopKeep_greedy _
  have hb : ∀ a f, (looped m c (Proc.devRef .tc main_v107) : S2x2000x4.Idx → EReal) (ix3 b a f) = boxAt V b (ordr sn a) f := fun a f => by
    rw [looped_v107]; exact entry_boxes V b a f
  have hs : ∀ a, (looped m c (Proc.devRef .tc main_v108) : S2x2000.Idx → EReal) (ix2 b a) = sn (ordr sn a) := fun a => by
    rw [looped_v108]; exact entry_scores V b a
  let sk : Fin 2000 → EReal := fun a => (masked (looped m c) (Proc.devRef .tc main_v162) : S2x2000.Idx → EReal) (ix2 b a)
  have hske : ∀ a, sk a = if K (ordr sn a) then sn (ordr sn a) else ⊥ := fun a => by
    refine (masked_entry (looped m c) b a).trans ?_
    rw [hs a]
    refine if_congr ?_ rfl rfl
    rw [hK a, looped_keep, hfin]
  have hsk : ∀ a, K (ordr sn a) → sk a = sn (ordr sn a) := fun a h => (hske a).trans (if_pos h)
  have hsk' : ∀ a, ¬ K (ordr sn a) → sk a = ⊥ := fun a h => (hske a).trans (if_neg h)
  have hKv : ∀ p, K p → valid p := fun p ⟨_, _, h⟩ => h.2
  have hfk : ∀ a, Finite (sk a) ↔ K (ordr sn a) := fun a => by
    by_cases h : K (ordr sn a)
    · rw [hsk a h, hfin]
      exact iff_of_true (hKv _ h) h
    · rw [hsk' a h]
      exact iff_of_false not_finite_bot h
  refine ⟨K, greedy_masked st sn valid hst hbot hv hn (fun p q => Overlap (boxAt V b p) (boxAt V b q)) (KR m c b) K hKR hK, fun r => ?_, fun r f => ?_⟩
  · refine row_selected st sn valid hst hbot hv hn K hKv sk hsk hsk' st (r.castLE (by norm_num)) _ (fun h => ?_) (fun h => ?_)
    · refine (results m c b r 0).2.trans ((post_scores (looped m c) b r).trans ?_)
      refine (if_pos ((hfk _).mpr h)).trans ?_
      exact (hsk _ h).trans (hv _ (hKv _ h))
    · refine (results m c b r 0).2.trans ((post_scores (looped m c) b r).trans ?_)
      exact if_neg (fun q => h ((hfk _).mp q))
  · refine row_selected st sn valid hst hbot hv hn K hKv sk hsk hsk' (fun p => boxAt V b p f) (r.castLE (by norm_num)) _ (fun h => ?_) (fun h => ?_)
    · refine (results m c b r f).1.trans ((post_boxes (looped m c) b r f).trans ?_)
      refine (if_pos ((hfk _).mpr h)).trans ?_
      exact hb _ f
    · refine (results m c b r f).1.trans ((post_boxes (looped m c) b r f).trans ?_)
      exact if_neg (fun q => h ((hfk _).mp q))

end Cert.ReferenceIdeal.Value
-- ==== Proof.RFrame.lean ====
module

public import proofs.«01_k».proof.Proof.RVRows
public import Idealize.ShloMosaic.Lib.Quiescent

@[expose] public section

set_option maxRecDepth 100000

noncomputable section

/-! # The reference keeps its arguments and leaves no semaphore raised -/

namespace Cert.ReferenceIdeal.Gen

open Cert.ReferenceIdeal Cert.ReferenceIdeal.Value
open Idealize.ShloMosaic Idealize.ShloMosaic.Tactic Idealize.ShloMosaic.StableHlo

variable (m : (ℓ : Loc nD τ sig) → Buf (Elt Ideal) ℓ) (c : Dev nD)

/-- The reference declares no semaphore. -/
theorem no_sems (s : MemSt nD τ sig (Elt Ideal)) : s.sem = fun _ => 0 := sem_eq_zero_of_no_sems rfl s

/-- The stretches before the loop write no argument. -/
theorem pre_kept (V : Valuation τ sig (Elt Ideal)) (r : Ref sig .tc) (hr : r = main_arg0 ∨ r = main_arg1 ∨ r = main_arg2) :
    afterL preI V (Proc.devRef .tc r) = V (Proc.devRef .tc r) := by
  have h0 : r ∉ hostOps0_W := by rcases hr with rfl | rfl | rfl <;> decide +kernel
  have h1 : r ∉ hostOps0_1_W := by rcases hr with rfl | rfl | rfl <;> decide +kernel
  have h2 : r ∉ hostOps0_2_W := by rcases hr with rfl | rfl | rfl <;> decide +kernel
  have h3 : r ∉ hostOps0_3_W := by rcases hr with rfl | rfl | rfl <;> decide +kernel
  have h4 : r ∉ hostOps0_4_W := by rcases hr with rfl | rfl | rfl <;> decide +kernel
  have h5 : r ∉ hostOps0_5_W := by rcases hr with rfl | rfl | rfl <;> decide +kernel
  have h6 : r ∉ hostOps0_6_W := by rcases hr with rfl | rfl | rfl <;> decide +kernel
  have h7 : r ∉ hostOps0_7_W := by rcases hr with rfl | rfl | rfl <;> decide +kernel
  have h8 : r ∉ hostOps0_8_W := by rcases hr with rfl | rfl | rfl <;> decide +kernel
  have h9 : r ∉ hostOps0_9_W := by rcases hr with rfl | rfl | rfl <;> decide +kernel
  have h10 : r ∉ hostOps0_10_W := by rcases hr with rfl | rfl | rfl <;> decide +kernel
  have h11 : r ∉ hostOps0_11_W := by rcases hr with rfl | rfl | rfl <;> decide +kernel
  have h12 : r ∉ hostOps0_12_W := by rcases hr with rfl | rfl | rfl <;> decide +kernel
  have h13 : r ∉ hostOps0_13_W := by rcases hr with rfl | rfl | rfl <;> decide +kernel
  have h14 : r ∉ hostOps0_14_W := by rcases hr with rfl | rfl | rfl <;> decide +kernel
  have h15 : r ∉ hostOps0_15_W := by rcases hr with rfl | rfl | rfl <;> decide +kernel
  have h16 : r ∉ hostOps0_16_W := by rcases hr with rfl | rfl | rfl <;> decide +kernel
  have h17 : r ∉ hostOps0_17_W := by rcases hr with rfl | rfl | rfl <;> decide +kernel
  simp only [preI, afterL]
  rw [after_of_writes_sub hostOps0_17 _ hostOps0_17_writes h17,
    after_of_writes_sub hostOps0_16 _ hostOps0_16_writes h16,
    after_of_writes_sub hostOps0_15 _ hostOps0_15_writes h15,
    after_of_writes_sub hostOps0_14 _ hostOps0_14_writes h14,
    after_of_writes_sub hostOps0_13 _ hostOps0_13_writes h13,
    after_of_writes_sub hostOps0_12 _ hostOps0_12_writes h12,
    after_of_writes_sub hostOps0_11 _ hostOps0_11_writes h11,
    after_of_writes_sub hostOps0_10 _ hostOps0_10_writes h10,
    after_of_writes_sub hostOps0_9 _ hostOps0_9_writes h9,
    after_of_writes_sub hostOps0_8 _ hostOps0_8_writes h8,
    after_of_writes_sub hostOps0_7 _ hostOps0_7_writes h7,
    after_of_writes_sub hostOps0_6 _ hostOps0_6_writes h6,
    after_of_writes_sub hostOps0_5 _ hostOps0_5_writes h5,
    after_of_writes_sub hostOps0_4 _ hostOps0_4_writes h4,
    after_of_writes_sub hostOps0_3 _ hostOps0_3_writes h3,
    after_of_writes_sub hostOps0_2 _ hostOps0_2_writes h2,
    after_of_writes_sub hostOps0_1 _ hostOps0_1_writes h1,
    after_of_writes_sub hostOps0 _ hostOps0_writes h0]

/-- This stretch writes no argument. -/
theorem keep18 (V : Valuation τ sig (Elt Ideal)) (r : Ref sig .tc) (hr : r = main_arg0 ∨ r = main_arg1 ∨ r = main_arg2) :
    after hostOps0_18 V (Proc.devRef .tc r) = V (Proc.devRef .tc r) := by
  rcases hr with rfl | rfl | rfl <;> after_reads_simp
/-- Nor does this stretch. -/
theorem keep19 (V : Valuation τ sig (Elt Ideal)) (r : Ref sig .tc) (hr : r = main_arg0 ∨ r = main_arg1 ∨ r = main_arg2) :
    after hostOps0_19 V (Proc.devRef .tc r) = V (Proc.devRef .tc r) := by
  rcases hr with rfl | rfl | rfl <;> after_reads_simp
/-- Nor does this stretch. -/
theorem keep20 (V : Valuation τ sig (Elt Ideal)) (r : Ref sig .tc) (hr : r = main_arg0 ∨ r = main_arg1 ∨ r = main_arg2) :
    after hostOps0_20 V (Proc.devRef .tc r) = V (Proc.devRef .tc r) := by
  rcases hr with rfl | rfl | rfl <;> after_reads_simp
/-- Nor does this stretch. -/
theorem keep21 (V : Valuation τ sig (Elt Ideal)) (r : Ref sig .tc) (hr : r = main_arg0 ∨ r = main_arg1 ∨ r = main_arg2) :
    after hostOps0_21 V (Proc.devRef .tc r) = V (Proc.devRef .tc r) := by
  rcases hr with rfl | rfl | rfl <;> after_reads_simp
/-- Nor does this stretch. -/
theorem keep22 (V : Valuation τ sig (Elt Ideal)) (r : Ref sig .tc) (hr : r = main_arg0 ∨ r = main_arg1 ∨ r = main_arg2) :
    after hostOps0_22 V (Proc.devRef .tc r) = V (Proc.devRef .tc r) := by
  rcases hr with rfl | rfl | rfl <;> after_reads_simp
/-- Nor does this stretch. -/
theorem keep23 (V : Valuation τ sig (Elt Ideal)) (r : Ref sig .tc) (hr : r = main_arg0 ∨ r = main_arg1 ∨ r = main_arg2) :
    after hostOps0_23 V (Proc.devRef .tc r) = V (Proc.devRef .tc r) := by
  rcases hr with rfl | rfl | rfl <;> after_reads_simp
/-- Nor does this stretch. -/
theorem keep24 (V : Valuation τ sig (Elt Ideal)) (r : Ref sig .tc) (hr : r = main_arg0 ∨ r = main_arg1 ∨ r = main_arg2) :
    after hostOps0_24 V (Proc.devRef .tc r) = V (Proc.devRef .tc r) := by
  rcases hr with rfl | rfl | rfl <;> after_reads_simp
/-- Nor does this stretch. -/
theorem keep25 (V : Valuation τ sig (Elt Ideal)) (r : Ref sig .tc) (hr : r = main_arg0 ∨ r = main_arg1 ∨ r = main_arg2) :
    after hostOps0_25 V (Proc.devRef .tc r) = V (Proc.devRef .tc r) := by
  rcases hr with rfl | rfl | rfl <;> after_reads_simp
/-- Nor does this stretch. -/
theorem keep26 (V : Valuation τ sig (Elt Ideal)) (r : Ref sig .tc) (hr : r = main_arg0 ∨ r = main_arg1 ∨ r = main_arg2) :
    after hostOps0_26 V (Proc.devRef .tc r) = V (Proc.devRef .tc r) := by
  rcases hr with rfl | rfl | rfl <;> after_reads_simp
/-- The stretches after the loop write no argument. -/
theorem post_kept (V : Valuation τ sig (Elt Ideal)) (r : Ref sig .tc) (hr : r = main_arg0 ∨ r = main_arg1 ∨ r = main_arg2) :
    afterL postI V (Proc.devRef .tc r) = V (Proc.devRef .tc r) := by
  simp only [postI, afterL]
  rw [keep26 _ _ hr, keep25 _ _ hr, keep24 _ _ hr, keep23 _ _ hr, keep22 _ _ hr, keep21 _ _ hr, keep20 _ _ hr, keep19 _ _ hr, keep18 _ _ hr]

/-- No operation writes an argument. -/
theorem arg_kept (r : Ref sig .tc) (hr : r = main_arg0 ∨ r = main_arg1 ∨ r = main_arg2) :
    finalContents condOps preI bodyI postI 2000 m c (Proc.devRef .tc r) = m (c, Proc.devRef .tc r) := by
  have h1 : finalContents condOps preI bodyI postI 2000 m c (Proc.devRef .tc r) = looped m c (Proc.devRef .tc r) := post_kept _ r hr
  have h2 : looped m c (Proc.devRef .tc r) = entryContents preI m c (Proc.devRef .tc r) := by
    refine Eq.trans (after_of_writes_sub condOps _ condOps_writes ?_) (loop_keeps m c r ?_ 2000)
    · rcases hr with rfl | rfl | rfl <;> decide +kernel
    · rcases hr with rfl | rfl | rfl <;> decide +kernel
  exact h1.trans (h2.trans (pre_kept _ r hr))

/-- The reference runs, leaves its arguments as they were, and no semaphore raised. -/
theorem frame (g : Dev nD → PrngReg) : θ_run (defs (F := Ideal)) (onTc (τ := τ) (main (F := Ideal))) ⟨m, fun _ => 0, g⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
    ∧ r.2.sem = fun _ => 0) :=
  (θ_run defs _ _).mono (fun r h => ⟨fun c => ⟨(h c main_arg0 rfl).trans (arg_kept m c _ (Or.inl rfl)),
    (h c main_arg1 rfl).trans (arg_kept m c _ (Or.inr (Or.inl rfl))), (h c main_arg2 rfl).trans (arg_kept m c _ (Or.inr (Or.inr rfl)))⟩, no_sems _⟩) (run_fold m g)

end Cert.ReferenceIdeal.Gen
-- ==== Proof.PreReal.lean ====
module

public import proofs.«01_k».proof.Pre_scores_separated
public import proofs.«01_k».proof.Proof.KVBracket
public import proofs.«01_k».proof.Proof.RTake
public import Idealize.ShloMosaic.Lib.Pointwise

@[expose] public section

set_option maxRecDepth 100000

noncomputable section

/-! # What the precondition says

The first result says that every score is a real number, the second that the scores in places 2000 and 2049 of the
order of falling score differ by at least one cell of the second histogram. -/

namespace Cert.Pre_scores_separated

open Idealize.ShloMosaic Idealize.ShloMosaic.Tactic Idealize.ShloMosaic.StableHlo Rpn Cert.KernelIdeal.Value

/-- The shape relations hold. -/
theorem facts : Facts where
  sliceFits_S2x20000_S2x2049 := by decide
  reducesTo_S2x20000_S2_d1 := by decide
  h_S_ := by decide
  bcast_S_S2 := by decide
  bcast_S_S2x20000 := by decide
  slices_S2x2049_S2x1_0_1999 := by decide
  shapeCasts_S2x1_S2 := by decide
  slices_S2x2049_S2x1_0_2048 := by decide

variable [Facts] (x0 : S2x20000.Idx → EReal) (x1 : S2x20000x4.Idx → EReal) (x2 : S20000x4.Idx → EReal)

/-- An entry of the first result compares a score's absolute value with infinity. -/
theorem fst_entry (b : Fin 2) (i : Fin 20000) : (fn (F := Ideal) x0 x1 x2).1 (ix2 b i) = BitVec.ofBool (decide (max (x0 (ix2 b i)) (-x0 (ix2 b i)) < (⊤ : EReal))) := by
  rw [← c_top]
  show cmpf .olt (Host.absf (F := Ideal) (φ := .f32) x0) (broadcastInDim S2x20000 ![] Facts.bcast_S_S2x20000 (constant S_ .f32 0x7F800000#32)) (ix2 b i) = _
  pointwise
  rfl

/-- Under the precondition every score is real. -/
theorem real_of_pre (h : (fn (F := Ideal) x0 x1 x2).1 = fun _ => 1#1) (b : Fin 2) (i : Fin 20000) : ∃ x : ℝ, x0 (ix2 b i) = x := by
  have e := congrFun h (ix2 b i)
  rw [fst_entry] at e
  have hlt : max (x0 (ix2 b i)) (-x0 (ix2 b i)) < (⊤ : EReal) := by
    by_contra hc
    rw [decide_eq_false hc] at e
    exact absurd e (by decide)
  rw [max_lt_iff] at hlt
  refine ⟨(x0 (ix2 b i)).toReal, (EReal.coe_toReal hlt.1.ne fun hb => ?_).symm⟩
  rw [hb, EReal.neg_bot] at hlt
  exact lt_irrefl _ hlt.2

/-- An entry of the second result compares the gap with the cell width. -/
theorem snd_entry (b : Fin 2) : ∃ M mn : EReal, IsMax (fun i : Fin 20000 => x0 (ix2 b i)) M ∧ IsMin (fun i : Fin 20000 => x0 (ix2 b i)) mn ∧
    (fn (F := Ideal) x0 x1 x2).2 (ix1 b) = BitVec.ofBool (decide (Ideal.div (width mn M) ((65536 : ℝ) : EReal)
      ≤ x0 (ix2 b (ordr (fun i => x0 (ix2 b i)) ⟨1999, by norm_num⟩)) - x0 (ix2 b (ordr (fun i => x0 (ix2 b i)) ⟨2048, by norm_num⟩)))) := by
  refine ⟨_, _, isMax_fold _, isMin_fold _, ?_⟩
  have t1 := topK_fst (A := 2) (N := 20000) (k := 2049) (by norm_num) x0 Facts.sliceFits_S2x20000_S2x2049 b ⟨1999, by norm_num⟩
  have t2 := topK_fst (A := 2) (N := 20000) (k := 2049) (by norm_num) x0 Facts.sliceFits_S2x20000_S2x2049 b ⟨2048, by norm_num⟩
  have e1 : x0 (ix2 b (ordr (fun i => x0 (ix2 b i)) ⟨1999, by norm_num⟩)) = _ := t1.symm
  have e2 : x0 (ix2 b (ordr (fun i => x0 (ix2 b i)) ⟨2048, by norm_num⟩)) = _ := t2.symm
  rw [e1, e2]
  unfold fn fn_part1
  dsimp only
  generalize (Host.topK (⟨2, ![2, 2049]⟩ : Shape) 1 (FloatOps.cmpfTotal (F := Ideal) (φ := .f32) .gt) x0 Facts.sliceFits_S2x20000_S2x2049).1 = T
  unfold width
  rw [← c_65536, ← c_top, ← c_bot]
  pointwise

/-- The gap of one cell between the scores in places 2000 and 2049. -/
theorem sep_of_pre (h1 : (fn (F := Ideal) x0 x1 x2).1 = fun _ => 1#1) (h2 : (fn (F := Ideal) x0 x1 x2).2 = fun _ => 1#1) (b : Fin 2) (mn M w : ℝ)
    (hmn : IsMin (fun i : Fin 20000 => x0 (ix2 b i)) mn) (hM : IsMax (fun i : Fin 20000 => x0 (ix2 b i)) M) (hw : width mn M = w) :
    x0 (ix2 b (ordr (fun i => x0 (ix2 b i)) ⟨2048, by norm_num⟩)) + ((w / 65536 : ℝ) : EReal) ≤ x0 (ix2 b (ordr (fun i => x0 (ix2 b i)) ⟨1999, by norm_num⟩)) := by
  obtain ⟨M', mn', hM', hmn', e⟩ := snd_entry x0 x1 x2 b
  rw [congrFun h2 (ix1 b), hM'.unique hM, hmn'.unique hmn, hw, div_65536] at e
  obtain ⟨p, hp⟩ := real_of_pre x0 x1 x2 h1 b (ordr (fun i => x0 (ix2 b i)) ⟨1999, by norm_num⟩)
  obtain ⟨q, hq⟩ := real_of_pre x0 x1 x2 h1 b (ordr (fun i => x0 (ix2 b i)) ⟨2048, by norm_num⟩)
  rw [hp, hq] at e ⊢
  rw [← EReal.coe_sub] at e
  rw [← EReal.coe_add, EReal.coe_le_coe_iff]
  have hle : w / 65536 ≤ p - q := by
    by_contra hc
    rw [decide_eq_false (fun h => hc (EReal.coe_le_coe_iff.mp h))] at e
    exact absurd e (by decide)
  linarith

end Cert.Pre_scores_separated
-- ==== Proof.Final.lean ====
module

public import proofs.«01_k».proof.Defs
public import proofs.«01_k».proof.Proof.KIFrame
public import proofs.«01_k».proof.Proof.KIValue
public import proofs.«01_k».proof.Proof.KVPrefix
public import proofs.«01_k».proof.Proof.RVTop
public import proofs.«01_k».proof.Proof.RFrame
public import proofs.«01_k».proof.Proof.PreReal

@[expose] public section

set_option maxRecDepth 100000

noncomputable section

/-! # The kernel and the reference compute the same results -/

namespace Cert.Final

open Idealize.ShloMosaic Idealize.ShloMosaic.StableHlo Rpn
open Cert.ReferenceIdeal.Gen Cert.ReferenceIdeal.Value

local instance : Cert.KernelIdeal.Facts := Cert.KernelIdeal.Gen.facts
local instance : Cert.ReferenceIdeal.Facts := Cert.ReferenceIdeal.Gen.facts
local instance preFacts : Cert.Pre_scores_separated.Facts := Cert.Pre_scores_separated.facts

/-- An index of a rank 3 array by its coordinates. -/
theorem split3 {A B C : ℕ} (j : (⟨3, ![A, B, C]⟩ : Shape).Idx) : j = ix3 (j 0) (j 1) (j 2) := by
  funext a
  match a with
  | ⟨0, _⟩ => rfl
  | ⟨1, _⟩ => rfl
  | ⟨2, _⟩ => rfl

/-- The middle coordinate of an axis of extent one is zero. -/
theorem split_unit {A C : ℕ} (j : (⟨3, ![A, 1, C]⟩ : Shape).Idx) : ix3 (j 0) (j 1) (j 2) = ix3 (j 0) (0 : Fin 1) (j 2) :=
  congrArg (fun z : Fin 1 => ix3 (j 0) z (j 2)) (Subsingleton.elim (α := Fin 1) _ _)

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel's two result arrays. -/
abbrev kBoxes (c : Dev Cert.KernelIdeal.nD) := (Cert.KernelIdeal.Gen.dats m 0 c).arrAt 3 (Cert.KernelIdeal.cfg0 (F := Ideal)).N
/-- The kernel's array of scores. -/
abbrev kScores (c : Dev Cert.KernelIdeal.nD) := (Cert.KernelIdeal.Gen.dats m 0 c).arrAt 4 (Cert.KernelIdeal.cfg0 (F := Ideal)).N

/-- The reference's final contents. -/
abbrev rEnd (c : Dev Cert.ReferenceIdeal.nD) := finalContents condOps preI bodyI postI 2000 m' c

/-- From agreeing arguments the two programs' results agree, image by image. -/
theorem rows_agree (hpre : Pre_KernelIdeal_scores_separated m) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (b : Fin 2) :
    (∀ r : Fin 1000, (kScores m c : Cert.KernelIdeal.S2x1x1000.Idx → EReal) (ix3 b 0 r)
      = (rEnd m' c (Proc.devRef .tc Cert.ReferenceIdeal.main_v171) : Cert.ReferenceIdeal.S2x1x1000.Idx → EReal) (ix3 b 0 r))
    ∧ ∀ (r : Fin 1000) (f : Fin 4), (kBoxes m c : Cert.KernelIdeal.S2x1000x4.Idx → EReal) (ix3 b r f)
      = (rEnd m' c (Proc.devRef .tc Cert.ReferenceIdeal.main_v169) : Cert.ReferenceIdeal.S2x1000x4.Idx → EReal) (ix3 b r f) := by
  have hS : Cert.ReferenceIdeal.Value.argS (launchContents m' c) b = Cert.KernelIdeal.Value.imgS m c b := by
    funext i; exact congrFun a0 (ix2 b i)
  have hD : Cert.ReferenceIdeal.Value.argD (launchContents m' c) b = Cert.KernelIdeal.Value.imgD m c b := by
    funext i d; exact congrFun a1 (ix3 b i d)
  have hW : Cert.ReferenceIdeal.Value.argW (launchContents m' c) = Cert.KernelIdeal.Value.imgW m c := by
    funext i d; exact congrFun a2 (ix2 i d)
  obtain ⟨p1, p2⟩ := hpre c
  have hreal : ∀ i, ∃ x : ℝ, Cert.KernelIdeal.Value.imgS m c b i = x := fun i => Cert.Pre_scores_separated.real_of_pre _ _ _ p1 b i
  have hk := Cert.KernelIdeal.Value.kernel_rows m c (⟨b.val, b.isLt⟩ : Fin (Cert.KernelIdeal.cfg0 (F := Ideal)).N) hreal
    (fun mn M w h1 h2 h3 => Cert.Pre_scores_separated.sep_of_pre _ _ _ p1 p2 b mn M w h1 h2 h3)
  have hr := Cert.ReferenceIdeal.Value.reference_rows m' c b (by rw [hS]; exact hreal)
  rw [hS, hD, hW] at hr
  exact hk.unique hr

end

/-- The value claim. -/
theorem value : algebraic_KernelIdeal_ReferenceIdeal_pre_scores_separated := by
  intro m g m' g' hpre hargs
  refine ⟨fun c => kBoxes m c, fun c => kScores m c, Cert.KernelIdeal.Value.run_blocks m g, ?_⟩
  refine (θ_run Cert.ReferenceIdeal.defs _ _).mono (fun r h c => ?_) (run_fold m' g')
  obtain ⟨a0, a1, a2⟩ := hargs c
  refine ⟨(h c Cert.ReferenceIdeal.main_v169 rfl).trans ?_, (h c Cert.ReferenceIdeal.main_v171 rfl).trans ?_,
    (h c Cert.ReferenceIdeal.main_arg0 rfl).trans (Cert.ReferenceIdeal.Gen.arg_kept m' c _ (Or.inl rfl)),
    (h c Cert.ReferenceIdeal.main_arg1 rfl).trans (Cert.ReferenceIdeal.Gen.arg_kept m' c _ (Or.inr (Or.inl rfl))),
    (h c Cert.ReferenceIdeal.main_arg2 rfl).trans (Cert.ReferenceIdeal.Gen.arg_kept m' c _ (Or.inr (Or.inr rfl)))⟩
  · funext (i : Cert.ReferenceIdeal.S2x1000x4.Idx)
    rw [split3 i]
    exact ((rows_agree m m' hpre c a0 a1 a2 _).2 _ _).symm
  · funext (i : Cert.ReferenceIdeal.S2x1x1000.Idx)
    rw [(split3 i).trans (split_unit i)]
    exact ((rows_agree m m' hpre c a0 a1 a2 _).1 _).symm

end Cert.Final
-- ==== Proof.lean ====
/- The proof of the claims of this directory's statement. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KFrame
public import proofs.«01_k».proof.Proof.KIFrame
public import proofs.«01_k».proof.Proof.Final
public import Idealize.ShloMosaic.Adequacy
public import Idealize.ShloMosaic.Init

@[expose] public section

noncomputable section

namespace Cert.Proof

open Idealize.ShloMosaic Idealize.SL.Sem Cert.Kernel

/-- The frames of both kernel programs and of the reference, and the equality of their results. -/
theorem claim : Cert.Claim := ⟨Cert.Kernel.Gen.facts, Cert.KernelIdeal.Gen.facts, Cert.ReferenceIdeal.Gen.facts, Cert.Pre_scores_separated.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, Cert.Final.value⟩

end Cert.Proof

end
